-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S2x1792x2x128 Cert.KernelIdeal.S2x1792x1x128
  ∧ IdealRules.bf16_pair.BufferStatement Cert.KernelIdeal.S2x1152x2x128 Cert.KernelIdeal.S2x1152x1x128
  ∧ IdealRules.bf16_pair.PackStatement Cert.KernelIdeal.S128x256
  ∧ IdealRules.bf16_pair.Statement Cert.KernelIdeal.S1x128x2x128 Cert.KernelIdeal.S1x128x1x128
  ∧ IdealRules.bf16_pair.PackStatement Cert.KernelIdeal.S96x256
  ∧ IdealRules.bf16_pair.Statement Cert.KernelIdeal.S1x96x2x128 Cert.KernelIdeal.S1x96x1x128
  ∧ IdealRules.bf16_pair.Statement Cert.KernelIdeal.S1x64x2x128 Cert.KernelIdeal.S1x64x1x128
  ∧ IdealRules.bf16_pair.Statement Cert.KernelIdeal.S128x128 Cert.KernelIdeal.S64x128
  ∧ IdealRules.bf16_pair.PackStatement Cert.KernelIdeal.S16x256
  ∧ IdealRules.bf16_pair.Statement Cert.KernelIdeal.S1x16x2x128 Cert.KernelIdeal.S1x16x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x7168 : Shape := ⟨3, ![24, 1, 7168]⟩
abbrev S4608x3584 : Shape := ⟨2, ![4608, 3584]⟩
abbrev S4608x224 : Shape := ⟨2, ![4608, 224]⟩
abbrev S7168x2304 : Shape := ⟨2, ![7168, 2304]⟩
abbrev S7168x144 : Shape := ⟨2, ![7168, 144]⟩
abbrev S24x7168 : Shape := ⟨2, ![24, 7168]⟩
abbrev S512x3584 : Shape := ⟨2, ![512, 3584]⟩
abbrev S512x224 : Shape := ⟨2, ![512, 224]⟩
abbrev S512x2304 : Shape := ⟨2, ![512, 2304]⟩
abbrev S512x144 : Shape := ⟨2, ![512, 144]⟩
abbrev S24x512 : Shape := ⟨2, ![24, 512]⟩
abbrev S48x14336 : Shape := ⟨2, ![48, 14336]⟩
abbrev S48x9216 : Shape := ⟨2, ![48, 9216]⟩
abbrev S2x1792x128 : Shape := ⟨3, ![2, 1792, 128]⟩
abbrev S2x1152x128 : Shape := ⟨3, ![2, 1152, 128]⟩
abbrev S128x256 : Shape := ⟨2, ![128, 256]⟩
abbrev S24x128 : Shape := ⟨2, ![24, 128]⟩
abbrev S24x256 : Shape := ⟨2, ![24, 256]⟩
abbrev S48x256 : Shape := ⟨2, ![48, 256]⟩
abbrev S512x128 : Shape := ⟨2, ![512, 128]⟩
abbrev S256x128 : Shape := ⟨2, ![256, 128]⟩
abbrev S128x128 : Shape := ⟨2, ![128, 128]⟩
abbrev S1x128x128 : Shape := ⟨3, ![1, 128, 128]⟩
abbrev S512x96 : Shape := ⟨2, ![512, 96]⟩
abbrev S256x96 : Shape := ⟨2, ![256, 96]⟩
abbrev S96x256 : Shape := ⟨2, ![96, 256]⟩
abbrev S96x128 : Shape := ⟨2, ![96, 128]⟩
abbrev S1x96x128 : Shape := ⟨3, ![1, 96, 128]⟩
abbrev S128x1x256 : Shape := ⟨3, ![128, 1, 256]⟩
abbrev S128x4x256 : Shape := ⟨3, ![128, 4, 256]⟩
abbrev S512x256 : Shape := ⟨2, ![512, 256]⟩
abbrev S1x64x128 : Shape := ⟨3, ![1, 64, 128]⟩
abbrev S64x128 : Shape := ⟨2, ![64, 128]⟩
abbrev S8x1x16x128 : Shape := ⟨4, ![8, 1, 16, 128]⟩
abbrev S8x4x16x128 : Shape := ⟨4, ![8, 4, 16, 128]⟩
abbrev S48x512 : Shape := ⟨2, ![48, 512]⟩
abbrev S128x512 : Shape := ⟨2, ![128, 512]⟩
abbrev S512x16 : Shape := ⟨2, ![512, 16]⟩
abbrev S256x16 : Shape := ⟨2, ![256, 16]⟩
abbrev S16x256 : Shape := ⟨2, ![16, 256]⟩
abbrev S16x128 : Shape := ⟨2, ![16, 128]⟩
abbrev S1x16x128 : Shape := ⟨3, ![1, 16, 128]⟩
abbrev S256x512 : Shape := ⟨2, ![256, 512]⟩

abbrev nBuf : Space → Nat
  | .hbm => 10
  | .vmem => 23
  | .smem => 0
  | _ => 0

abbrev bufTy : (tb : Table) → Fin (tcTables nBuf tb) → BufTy
  | .hbm, ⟨0, _⟩ => ⟨S24x1x7168, .bf16⟩
  | .hbm, ⟨1, _⟩ => ⟨S4608x3584, .i8⟩
  | .hbm, ⟨2, _⟩ => ⟨S4608x224, .i16⟩
  | .hbm, ⟨3, _⟩ => ⟨S4608x3584, .i8⟩
  | .hbm, ⟨4, _⟩ => ⟨S4608x224, .i16⟩
  | .hbm, ⟨5, _⟩ => ⟨S7168x2304, .i8⟩
  | .hbm, ⟨6, _⟩ => ⟨S7168x144, .i16⟩
  | .hbm, ⟨7, _⟩ => ⟨S24x7168, .bf16⟩
  | .hbm, ⟨8, _⟩ => ⟨S24x7168, .bf16⟩
  | .hbm, ⟨9, _⟩ => ⟨S24x1x7168, .bf16⟩
  | .local _ .vmem, ⟨0, _⟩ => ⟨S24x7168, .bf16⟩
  | .local _ .vmem, ⟨1, _⟩ => ⟨S512x3584, .i8⟩
  | .local _ .vmem, ⟨2, _⟩ => ⟨S512x3584, .i8⟩
  | .local _ .vmem, ⟨3, _⟩ => ⟨S512x224, .i16⟩
  | .local _ .vmem, ⟨4, _⟩ => ⟨S512x224, .i16⟩
  | .local _ .vmem, ⟨5, _⟩ => ⟨S512x3584, .i8⟩
  | .local _ .vmem, ⟨6, _⟩ => ⟨S512x3584, .i8⟩
  | .local _ .vmem, ⟨7, _⟩ => ⟨S512x224, .i16⟩
  | .local _ .vmem, ⟨8, _⟩ => ⟨S512x224, .i16⟩
  | .local _ .vmem, ⟨9, _⟩ => ⟨S512x2304, .i8⟩
  | .local _ .vmem, ⟨10, _⟩ => ⟨S512x2304, .i8⟩
  | .local _ .vmem, ⟨11, _⟩ => ⟨S512x144, .i16⟩
  | .local _ .vmem, ⟨12, _⟩ => ⟨S512x144, .i16⟩
  | .local _ .vmem, ⟨13, _⟩ => ⟨S24x512, .bf16⟩
  | .local _ .vmem, ⟨14, _⟩ => ⟨S24x512, .bf16⟩
  | .local _ .vmem, ⟨15, _⟩ => ⟨S48x14336, .bf16⟩
  | .local _ .vmem, ⟨16, _⟩ => ⟨S48x9216, .bf16⟩
  | .local _ .vmem, ⟨17, _⟩ => ⟨S2x1792x128, .i32⟩
  | .local _ .vmem, ⟨18, _⟩ => ⟨S2x1792x128, .i32⟩
  | .local _ .vmem, ⟨19, _⟩ => ⟨S2x1792x128, .i32⟩
  | .local _ .vmem, ⟨20, _⟩ => ⟨S2x1792x128, .i32⟩
  | .local _ .vmem, ⟨21, _⟩ => ⟨S2x1152x128, .i32⟩
  | .local _ .vmem, ⟨22, _⟩ => ⟨S2x1152x128, .i32⟩
  | _, _ => ⟨S24x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![23], ![false]⟩

def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_461 : BitVec 32 := 0#32
  let c28_i32 : BitVec 32 := 28#32
  let v774 : BitVec 32 := Scalar.addi c0_i32_461 c28_i32
  let c1_i32 : BitVec 32 := 1#32
  ⟨c0_i32_461, v774, c1_i32⟩
def k0_mult1 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c128_i32 : BitVec 32 := 128#32
  let v916 : BitVec 32 := Scalar.muli arg17 c128_i32
  v916
def k0_off1 (k0_t1 : Fin k0_t1_loop.trips) : Fin 2 → Nat :=
  let c0_502 : Index := 0#32
  let c0_i32_461 : BitVec 32 := 0#32
  let c1_i32 : BitVec 32 := 1#32
  let arg17 : BitVec 32 := Scf.iv c0_i32_461 c1_i32 k0_t1
  let c128_i32 : BitVec 32 := 128#32
  let v916 : BitVec 32 := Scalar.muli arg17 c128_i32
  let v917 : BitVec 32 := v916
  let v918 : Index := Scalar.indexCast v917
  ![0, v918.toNat]
def k0_mult2 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  v949
def k0_off2 (k0_t1 : Fin k0_t1_loop.trips) : Fin 3 → Nat :=
  let c0_509 : Index := 0#32
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  let v950 : BitVec 32 := v949
  let v951 : Index := Scalar.indexCast v950
  let c0_510 : Index := 0#32
  ![0, v951.toNat, 0]
def k0_off3 (k0_t1 : Fin k0_t1_loop.trips) : Fin 3 → Nat :=
  let c1_513 : Index := 1#32
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  let v950 : BitVec 32 := v949
  let v969 : Index := Scalar.indexCast v950
  let c0_514 : Index := 0#32
  ![1, v969.toNat, 0]
def k0_mult3 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c4_i32_517 : BitVec 32 := 4#32
  let v988 : BitVec 32 := Scalar.muli arg17 c4_i32_517
  let c128_i32_518 : BitVec 32 := 128#32
  let v989 : BitVec 32 := Scalar.muli v988 c128_i32_518
  v989
def k0_off4 (k0_t1 : Fin k0_t1_loop.trips) : Fin 2 → Nat :=
  let c0_519 : Index := 0#32
  let c0_i32_461 : BitVec 32 := 0#32
  let c1_i32 : BitVec 32 := 1#32
  let arg17 : BitVec 32 := Scf.iv c0_i32_461 c1_i32 k0_t1
  let c4_i32_517 : BitVec 32 := 4#32
  let v988 : BitVec 32 := Scalar.muli arg17 c4_i32_517
  let c128_i32_518 : BitVec 32 := 128#32
  let v989 : BitVec 32 := Scalar.muli v988 c128_i32_518
  let v990 : BitVec 32 := v989
  let v991 : Index := Scalar.indexCast v990
  ![0, v991.toNat]
@[reducible] def k0_t2_loop : Scf.Loop 32 :=
  let c0_i32_464 : BitVec 32 := 0#32
  let c28_i32_465 : BitVec 32 := 28#32
  let v777 : BitVec 32 := Scalar.addi c0_i32_464 c28_i32_465
  let c1_i32_466 : BitVec 32 := 1#32
  ⟨c0_i32_464, v777, c1_i32_466⟩
def k0_mult4 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c128_i32 : BitVec 32 := 128#32
  let v916 : BitVec 32 := Scalar.muli arg17 c128_i32
  v916
def k0_off5 (k0_t2 : Fin k0_t2_loop.trips) : Fin 2 → Nat :=
  let c0_502 : Index := 0#32
  let c0_i32_464 : BitVec 32 := 0#32
  let c1_i32_466 : BitVec 32 := 1#32
  let arg17 : BitVec 32 := Scf.iv c0_i32_464 c1_i32_466 k0_t2
  let c128_i32 : BitVec 32 := 128#32
  let v916 : BitVec 32 := Scalar.muli arg17 c128_i32
  let v917 : BitVec 32 := v916
  let v918 : Index := Scalar.indexCast v917
  ![0, v918.toNat]
def k0_mult5 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  v949
def k0_off6 (k0_t2 : Fin k0_t2_loop.trips) : Fin 3 → Nat :=
  let c0_509 : Index := 0#32
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  let v950 : BitVec 32 := v949
  let v951 : Index := Scalar.indexCast v950
  let c0_510 : Index := 0#32
  ![0, v951.toNat, 0]
def k0_off7 (k0_t2 : Fin k0_t2_loop.trips) : Fin 3 → Nat :=
  let c1_513 : Index := 1#32
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  let v950 : BitVec 32 := v949
  let v969 : Index := Scalar.indexCast v950
  let c0_514 : Index := 0#32
  ![1, v969.toNat, 0]
def k0_mult6 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c4_i32_517 : BitVec 32 := 4#32
  let v988 : BitVec 32 := Scalar.muli arg17 c4_i32_517
  let c128_i32_518 : BitVec 32 := 128#32
  let v989 : BitVec 32 := Scalar.muli v988 c128_i32_518
  v989
def k0_off8 (k0_t2 : Fin k0_t2_loop.trips) : Fin 2 → Nat :=
  let c0_519 : Index := 0#32
  let c0_i32_464 : BitVec 32 := 0#32
  let c1_i32_466 : BitVec 32 := 1#32
  let arg17 : BitVec 32 := Scf.iv c0_i32_464 c1_i32_466 k0_t2
  let c4_i32_517 : BitVec 32 := 4#32
  let v988 : BitVec 32 := Scalar.muli arg17 c4_i32_517
  let c128_i32_518 : BitVec 32 := 128#32
  let v989 : BitVec 32 := Scalar.muli v988 c128_i32_518
  let v990 : BitVec 32 := v989
  let v991 : Index := Scalar.indexCast v990
  ![0, v991.toNat]
def k0_mult7 (i : grid0.Coords) : BitVec 32 :=
  let arg0 : BitVec 32 := BitVec.ofNat 32 (i 0).val
  let c1024_i32 : BitVec 32 := 1024#32
  let v840 : BitVec 32 := Scalar.muli arg0 c1024_i32
  let c0_i32_482 : BitVec 32 := 0#32
  let v841 : BitVec 32 := Scalar.addi v840 c0_i32_482
  v841
def k0_off9 (i : grid0.Coords) (c0_i32_482 : BitVec 32) : Fin 2 → Nat :=
  let c0_483 : Index := 0#32
  let arg0 : BitVec 32 := BitVec.ofNat 32 (i 0).val
  let c1024_i32 : BitVec 32 := 1024#32
  let v840 : BitVec 32 := Scalar.muli arg0 c1024_i32
  let v841 : BitVec 32 := Scalar.addi v840 c0_i32_482
  let v842 : BitVec 32 := v841
  let v845 : Index := Scalar.indexCast v842
  ![0, v845.toNat]
def k0_mult8 (i : grid0.Coords) : BitVec 32 :=
  let arg0 : BitVec 32 := BitVec.ofNat 32 (i 0).val
  let c1024_i32_500 : BitVec 32 := 1024#32
  let v907 : BitVec 32 := Scalar.muli arg0 c1024_i32_500
  let c512_i32 : BitVec 32 := 512#32
  let v908 : BitVec 32 := Scalar.addi v907 c512_i32
  v908
def k0_cond3 (i : grid0.Coords) : BitVec 1 :=
  let arg0 : BitVec 32 := BitVec.ofNat 32 (i 0).val
  let c9_i32_2 : BitVec 32 := 9#32
  let v6 : BitVec 1 := Scalar.cmpi .sge arg0 c9_i32_2
  let v7 : BitVec 32 := Scalar.extui v6
  let c0_i32_3 : BitVec 32 := 0#32
  let v8 : BitVec 1 := Scalar.cmpi .ne v7 c0_i32_3
  v8

@[reducible] def k0_t3_loop : Scf.Loop 32 :=
  let c0_i32_221 : BitVec 32 := 0#32
  let c18_i32 : BitVec 32 := 18#32
  let v392 : BitVec 32 := Scalar.addi c0_i32_221 c18_i32
  let c1_i32 : BitVec 32 := 1#32
  ⟨c0_i32_221, v392, c1_i32⟩
def k0_mult9 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c128_i32 : BitVec 32 := 128#32
  let v423 : BitVec 32 := Scalar.muli arg17 c128_i32
  v423
def k0_off10 (k0_t3 : Fin k0_t3_loop.trips) : Fin 2 → Nat :=
  let c0_230 : Index := 0#32
  let c0_i32_221 : BitVec 32 := 0#32
  let c1_i32 : BitVec 32 := 1#32
  let arg17 : BitVec 32 := Scf.iv c0_i32_221 c1_i32 k0_t3
  let c128_i32 : BitVec 32 := 128#32
  let v423 : BitVec 32 := Scalar.muli arg17 c128_i32
  let v424 : BitVec 32 := v423
  let v425 : Index := Scalar.indexCast v424
  ![0, v425.toNat]
def k0_mult10 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  v456
def k0_off11 (k0_t3 : Fin k0_t3_loop.trips) : Fin 3 → Nat :=
  let c0_236 : Index := 0#32
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  let v457 : BitVec 32 := v456
  let v458 : Index := Scalar.indexCast v457
  let c0_237 : Index := 0#32
  ![0, v458.toNat, 0]
def k0_off12 (k0_t3 : Fin k0_t3_loop.trips) : Fin 3 → Nat :=
  let c1_240 : Index := 1#32
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  let v457 : BitVec 32 := v456
  let v476 : Index := Scalar.indexCast v457
  let c0_241 : Index := 0#32
  ![1, v476.toNat, 0]
def k0_mult11 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c4_i32 : BitVec 32 := 4#32
  let v495 : BitVec 32 := Scalar.muli arg17 c4_i32
  let c128_i32_244 : BitVec 32 := 128#32
  let v496 : BitVec 32 := Scalar.muli v495 c128_i32_244
  v496
def k0_off13 (k0_t3 : Fin k0_t3_loop.trips) : Fin 2 → Nat :=
  let c0_245 : Index := 0#32
  let c0_i32_221 : BitVec 32 := 0#32
  let c1_i32 : BitVec 32 := 1#32
  let arg17 : BitVec 32 := Scf.iv c0_i32_221 c1_i32 k0_t3
  let c4_i32 : BitVec 32 := 4#32
  let v495 : BitVec 32 := Scalar.muli arg17 c4_i32
  let c128_i32_244 : BitVec 32 := 128#32
  let v496 : BitVec 32 := Scalar.muli v495 c128_i32_244
  let v497 : BitVec 32 := v496
  let v498 : Index := Scalar.indexCast v497
  ![0, v498.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S24x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x144 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S24x1x7168 : Shape := ⟨3, ![24, 1, 7168]⟩
abbrev S4608x3584 : Shape := ⟨2, ![4608, 3584]⟩
abbrev S4608x224 : Shape := ⟨2, ![4608, 224]⟩
abbrev S7168x2304 : Shape := ⟨2, ![7168, 2304]⟩
abbrev S7168x144 : Shape := ⟨2, ![7168, 144]⟩
abbrev S24x7168 : Shape := ⟨2, ![24, 7168]⟩
abbrev S512x3584 : Shape := ⟨2, ![512, 3584]⟩
abbrev S512x224 : Shape := ⟨2, ![512, 224]⟩
abbrev S512x2304 : Shape := ⟨2, ![512, 2304]⟩
abbrev S512x144 : Shape := ⟨2, ![512, 144]⟩
abbrev S24x512 : Shape := ⟨2, ![24, 512]⟩
abbrev S48x14336 : Shape := ⟨2, ![48, 14336]⟩
abbrev S48x9216 : Shape := ⟨2, ![48, 9216]⟩
abbrev S2x1792x128 : Shape := ⟨3, ![2, 1792, 128]⟩
abbrev S2x1792x2x128 : Shape := ⟨4, ![2, 1792, 2, 128]⟩
abbrev S2x1792x1x128 : Shape := ⟨4, ![2, 1792, 1, 128]⟩
abbrev S2x1152x128 : Shape := ⟨3, ![2, 1152, 128]⟩
abbrev S2x1152x2x128 : Shape := ⟨4, ![2, 1152, 2, 128]⟩
abbrev S2x1152x1x128 : Shape := ⟨4, ![2, 1152, 1, 128]⟩
abbrev S128x256 : Shape := ⟨2, ![128, 256]⟩
abbrev S24x128 : Shape := ⟨2, ![24, 128]⟩
abbrev S24x256 : Shape := ⟨2, ![24, 256]⟩
abbrev S48x256 : Shape := ⟨2, ![48, 256]⟩
abbrev S512x128 : Shape := ⟨2, ![512, 128]⟩
abbrev S256x128 : Shape := ⟨2, ![256, 128]⟩
abbrev S128x128 : Shape := ⟨2, ![128, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S512x96 : Shape := ⟨2, ![512, 96]⟩
abbrev S256x96 : Shape := ⟨2, ![256, 96]⟩
abbrev S96x256 : Shape := ⟨2, ![96, 256]⟩
abbrev S96x128 : Shape := ⟨2, ![96, 128]⟩
abbrev S1x96x128 : Shape := ⟨3, ![1, 96, 128]⟩
abbrev S1x96x2x128 : Shape := ⟨4, ![1, 96, 2, 128]⟩
abbrev S1x96x1x128 : Shape := ⟨4, ![1, 96, 1, 128]⟩
abbrev S128x1x256 : Shape := ⟨3, ![128, 1, 256]⟩
abbrev S128x4x256 : Shape := ⟨3, ![128, 4, 256]⟩
abbrev S512x256 : Shape := ⟨2, ![512, 256]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x128 : Shape := ⟨2, ![64, 128]⟩
abbrev S8x1x16x128 : Shape := ⟨4, ![8, 1, 16, 128]⟩
abbrev S8x4x16x128 : Shape := ⟨4, ![8, 4, 16, 128]⟩
abbrev S48x512 : Shape := ⟨2, ![48, 512]⟩
abbrev S128x512 : Shape := ⟨2, ![128, 512]⟩
abbrev S512x16 : Shape := ⟨2, ![512, 16]⟩
abbrev S256x16 : Shape := ⟨2, ![256, 16]⟩
abbrev S16x256 : Shape := ⟨2, ![16, 256]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S256x512 : Shape := ⟨2, ![256, 512]⟩

abbrev nBuf : Space → Nat
  | .hbm => 10
  | .vmem => 23
  | .smem => 0
  | _ => 0

abbrev bufTy : (tb : Table) → Fin (tcTables nBuf tb) → BufTy
  | .hbm, ⟨0, _⟩ => ⟨S24x1x7168, .bf16⟩
  | .hbm, ⟨1, _⟩ => ⟨S4608x3584, .i8⟩
  | .hbm, ⟨2, _⟩ => ⟨S4608x224, .i16⟩
  | .hbm, ⟨3, _⟩ => ⟨S4608x3584, .i8⟩
  | .hbm, ⟨4, _⟩ => ⟨S4608x224, .i16⟩
  | .hbm, ⟨5, _⟩ => ⟨S7168x2304, .i8⟩
  | .hbm, ⟨6, _⟩ => ⟨S7168x144, .i16⟩
  | .hbm, ⟨7, _⟩ => ⟨S24x7168, .bf16⟩
  | .hbm, ⟨8, _⟩ => ⟨S24x7168, .bf16⟩
  | .hbm, ⟨9, _⟩ => ⟨S24x1x7168, .bf16⟩
  | .local _ .vmem, ⟨0, _⟩ => ⟨S24x7168, .bf16⟩
  | .local _ .vmem, ⟨1, _⟩ => ⟨S512x3584, .i8⟩
  | .local _ .vmem, ⟨2, _⟩ => ⟨S512x3584, .i8⟩
  | .local _ .vmem, ⟨3, _⟩ => ⟨S512x224, .i16⟩
  | .local _ .vmem, ⟨4, _⟩ => ⟨S512x224, .i16⟩
  | .local _ .vmem, ⟨5, _⟩ => ⟨S512x3584, .i8⟩
  | .local _ .vmem, ⟨6, _⟩ => ⟨S512x3584, .i8⟩
  | .local _ .vmem, ⟨7, _⟩ => ⟨S512x224, .i16⟩
  | .local _ .vmem, ⟨8, _⟩ => ⟨S512x224, .i16⟩
  | .local _ .vmem, ⟨9, _⟩ => ⟨S512x2304, .i8⟩
  | .local _ .vmem, ⟨10, _⟩ => ⟨S512x2304, .i8⟩
  | .local _ .vmem, ⟨11, _⟩ => ⟨S512x144, .i16⟩
  | .local _ .vmem, ⟨12, _⟩ => ⟨S512x144, .i16⟩
  | .local _ .vmem, ⟨13, _⟩ => ⟨S24x512, .bf16⟩
  | .local _ .vmem, ⟨14, _⟩ => ⟨S24x512, .bf16⟩
  | .local _ .vmem, ⟨15, _⟩ => ⟨S48x14336, .bf16⟩
  | .local _ .vmem, ⟨16, _⟩ => ⟨S48x9216, .bf16⟩
  | .local _ .vmem, ⟨17, _⟩ => ⟨S2x1792x2x128, .bf16⟩
  | .local _ .vmem, ⟨18, _⟩ => ⟨S2x1792x2x128, .bf16⟩
  | .local _ .vmem, ⟨19, _⟩ => ⟨S2x1792x2x128, .bf16⟩
  | .local _ .vmem, ⟨20, _⟩ => ⟨S2x1792x2x128, .bf16⟩
  | .local _ .vmem, ⟨21, _⟩ => ⟨S2x1152x2x128, .bf16⟩
  | .local _ .vmem, ⟨22, _⟩ => ⟨S2x1152x2x128, .bf16⟩
  | _, _ => ⟨S24x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![23], ![false]⟩

def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_461 : BitVec 32 := 0#32
  let c28_i32 : BitVec 32 := 28#32
  let v774 : BitVec 32 := Scalar.addi c0_i32_461 c28_i32
  let c1_i32 : BitVec 32 := 1#32
  ⟨c0_i32_461, v774, c1_i32⟩
def k0_mult1 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c128_i32 : BitVec 32 := 128#32
  let v916 : BitVec 32 := Scalar.muli arg17 c128_i32
  v916
def k0_off1 (k0_t1 : Fin k0_t1_loop.trips) : Fin 2 → Nat :=
  let c0_502 : Index := 0#32
  let c0_i32_461 : BitVec 32 := 0#32
  let c1_i32 : BitVec 32 := 1#32
  let arg17 : BitVec 32 := Scf.iv c0_i32_461 c1_i32 k0_t1
  let c128_i32 : BitVec 32 := 128#32
  let v916 : BitVec 32 := Scalar.muli arg17 c128_i32
  let v917 : BitVec 32 := v916
  let v918 : Index := Scalar.indexCast v917
  ![0, v918.toNat]
def k0_mult2 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  v949
def k0_off2 (k0_t1 : Fin k0_t1_loop.trips) : Fin 4 → Nat :=
  let c0_509 : Index := 0#32
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  let v950 : BitVec 32 := v949
  let v951 : Index := Scalar.indexCast v950
  let c0_510 : Index := 0#32
  ![0, v951.toNat, 0, 0]
def k0_off3 (k0_t1 : Fin k0_t1_loop.trips) : Fin 4 → Nat :=
  let c1_513 : Index := 1#32
  let c0_i32_461 : BitVec 32 := 0#32
  let c1_i32 : BitVec 32 := 1#32
  let arg17 : BitVec 32 := Scf.iv c0_i32_461 c1_i32 k0_t1
  let c64_i32 : BitVec 32 := 64#32
  let v949 : BitVec 32 := Scalar.muli arg17 c64_i32
  let v950 : BitVec 32 := v949
  let v969 : Index := Scalar.indexCast v950
  let c0_514 : Index := 0#32
  ![1, v969.toNat, 0, 0]
def k0_mult3 (k0_t1 : Fin k0_t1_loop.trips) : BitVec 32 :=
  let c0_i32_461 : BitVec 32 := 0#32
  let c1_i32 : BitVec 32 := 1#32
  let arg17 : BitVec 32 := Scf.iv c0_i32_461 c1_i32 k0_t1
  let c4_i32_517 : BitVec 32 := 4#32
  let v988 : BitVec 32 := Scalar.muli arg17 c4_i32_517
  let c128_i32_518 : BitVec 32 := 128#32
  let v989 : BitVec 32 := Scalar.muli v988 c128_i32_518
  v989
def k0_off4 (k0_t1 : Fin k0_t1_loop.trips) : Fin 2 → Nat :=
  let c0_519 : Index := 0#32
  let c0_i32_461 : BitVec 32 := 0#32
  let c1_i32 : BitVec 32 := 1#32
  let arg17 : BitVec 32 := Scf.iv c0_i32_461 c1_i32 k0_t1
  let c4_i32_517 : BitVec 32 := 4#32
  let v988 : BitVec 32 := Scalar.muli arg17 c4_i32_517
  let c128_i32_518 : BitVec 32 := 128#32
  let v989 : BitVec 32 := Scalar.muli v988 c128_i32_518
  let v990 : BitVec 32 := v989
  let v991 : Index := Scalar.indexCast v990
  ![0, v991.toNat]
@[reducible] def k0_t2_loop : Scf.Loop 32 :=
  let c0_i32_464 : BitVec 32 := 0#32
  let c28_i32_465 : BitVec 32 := 28#32
  let v777 : BitVec 32 := Scalar.addi c0_i32_464 c28_i32_465
  let c1_i32_466 : BitVec 32 := 1#32
  ⟨c0_i32_464, v777, c1_i32_466⟩
def k0_mult4 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c128_i32 : BitVec 32 := 128#32
  let v916 : BitVec 32 := Scalar.muli arg17 c128_i32
  v916
def k0_off5 (k0_t2 : Fin k0_t2_loop.trips) : Fin 2 → Nat :=
  let c0_502 : Index := 0#32
  let c0_i32_464 : BitVec 32 := 0#32
  let c1_i32_466 : BitVec 32 := 1#32
  let arg17 : BitVec 32 := Scf.iv c0_i32_464 c1_i32_466 k0_t2
  let c128_i32 : BitVec 32 := 128#32
  let v916 : BitVec 32 := Scalar.muli arg17 c128_i32
  let v917 : BitVec 32 := v916
  let v918 : Index := Scalar.indexCast v917
  ![0, v918.toNat]
def k0_mult5 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  v949
def k0_off6 (k0_t2 : Fin k0_t2_loop.trips) : Fin 4 → Nat :=
  let c0_509 : Index := 0#32
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  let v950 : BitVec 32 := v949
  let v951 : Index := Scalar.indexCast v950
  let c0_510 : Index := 0#32
  ![0, v951.toNat, 0, 0]
def k0_off7 (k0_t2 : Fin k0_t2_loop.trips) : Fin 4 → Nat :=
  let c1_513 : Index := 1#32
  let c0_i32_464 : BitVec 32 := 0#32
  let c1_i32_466 : BitVec 32 := 1#32
  let arg17 : BitVec 32 := Scf.iv c0_i32_464 c1_i32_466 k0_t2
  let c64_i32 : BitVec 32 := 64#32
  let v949 : BitVec 32 := Scalar.muli arg17 c64_i32
  let v950 : BitVec 32 := v949
  let v969 : Index := Scalar.indexCast v950
  let c0_514 : Index := 0#32
  ![1, v969.toNat, 0, 0]
def k0_mult6 (k0_t2 : Fin k0_t2_loop.trips) : BitVec 32 :=
  let c0_i32_464 : BitVec 32 := 0#32
  let c1_i32_466 : BitVec 32 := 1#32
  let arg17 : BitVec 32 := Scf.iv c0_i32_464 c1_i32_466 k0_t2
  let c4_i32_517 : BitVec 32 := 4#32
  let v988 : BitVec 32 := Scalar.muli arg17 c4_i32_517
  let c128_i32_518 : BitVec 32 := 128#32
  let v989 : BitVec 32 := Scalar.muli v988 c128_i32_518
  v989
def k0_off8 (k0_t2 : Fin k0_t2_loop.trips) : Fin 2 → Nat :=
  let c0_519 : Index := 0#32
  let c0_i32_464 : BitVec 32 := 0#32
  let c1_i32_466 : BitVec 32 := 1#32
  let arg17 : BitVec 32 := Scf.iv c0_i32_464 c1_i32_466 k0_t2
  let c4_i32_517 : BitVec 32 := 4#32
  let v988 : BitVec 32 := Scalar.muli arg17 c4_i32_517
  let c128_i32_518 : BitVec 32 := 128#32
  let v989 : BitVec 32 := Scalar.muli v988 c128_i32_518
  let v990 : BitVec 32 := v989
  let v991 : Index := Scalar.indexCast v990
  ![0, v991.toNat]
def k0_mult7 (i : grid0.Coords) : BitVec 32 :=
  let arg0 : BitVec 32 := BitVec.ofNat 32 (i 0).val
  let c1024_i32 : BitVec 32 := 1024#32
  let v840 : BitVec 32 := Scalar.muli arg0 c1024_i32
  let c0_i32_482 : BitVec 32 := 0#32
  let v841 : BitVec 32 := Scalar.addi v840 c0_i32_482
  v841
def k0_off9 (i : grid0.Coords) (c0_i32_482 : BitVec 32) : Fin 2 → Nat :=
  let c0_483 : Index := 0#32
  let arg0 : BitVec 32 := BitVec.ofNat 32 (i 0).val
  let c1024_i32 : BitVec 32 := 1024#32
  let v840 : BitVec 32 := Scalar.muli arg0 c1024_i32
  let v841 : BitVec 32 := Scalar.addi v840 c0_i32_482
  let v842 : BitVec 32 := v841
  let v845 : Index := Scalar.indexCast v842
  ![0, v845.toNat]
def k0_mult8 (i : grid0.Coords) : BitVec 32 :=
  let arg0 : BitVec 32 := BitVec.ofNat 32 (i 0).val
  let c1024_i32_500 : BitVec 32 := 1024#32
  let v907 : BitVec 32 := Scalar.muli arg0 c1024_i32_500
  let c512_i32 : BitVec 32 := 512#32
  let v908 : BitVec 32 := Scalar.addi v907 c512_i32
  v908
def k0_cond3 (i : grid0.Coords) : BitVec 1 :=
  let arg0 : BitVec 32 := BitVec.ofNat 32 (i 0).val
  let c9_i32_2 : BitVec 32 := 9#32
  let v6 : BitVec 1 := Scalar.cmpi .sge arg0 c9_i32_2
  let v7 : BitVec 32 := Scalar.extui v6
  let c0_i32_3 : BitVec 32 := 0#32
  let v8 : BitVec 1 := Scalar.cmpi .ne v7 c0_i32_3
  v8

@[reducible] def k0_t3_loop : Scf.Loop 32 :=
  let c0_i32_221 : BitVec 32 := 0#32
  let c18_i32 : BitVec 32 := 18#32
  let v392 : BitVec 32 := Scalar.addi c0_i32_221 c18_i32
  let c1_i32 : BitVec 32 := 1#32
  ⟨c0_i32_221, v392, c1_i32⟩
def k0_mult9 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c128_i32 : BitVec 32 := 128#32
  let v423 : BitVec 32 := Scalar.muli arg17 c128_i32
  v423
def k0_off10 (k0_t3 : Fin k0_t3_loop.trips) : Fin 2 → Nat :=
  let c0_230 : Index := 0#32
  let c0_i32_221 : BitVec 32 := 0#32
  let c1_i32 : BitVec 32 := 1#32
  let arg17 : BitVec 32 := Scf.iv c0_i32_221 c1_i32 k0_t3
  let c128_i32 : BitVec 32 := 128#32
  let v423 : BitVec 32 := Scalar.muli arg17 c128_i32
  let v424 : BitVec 32 := v423
  let v425 : Index := Scalar.indexCast v424
  ![0, v425.toNat]
def k0_mult10 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  v456
def k0_off11 (k0_t3 : Fin k0_t3_loop.trips) : Fin 4 → Nat :=
  let c0_236 : Index := 0#32
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  let v457 : BitVec 32 := v456
  let v458 : Index := Scalar.indexCast v457
  let c0_237 : Index := 0#32
  ![0, v458.toNat, 0, 0]
def k0_off12 (k0_t3 : Fin k0_t3_loop.trips) : Fin 4 → Nat :=
  let c1_240 : Index := 1#32
  let c0_i32_221 : BitVec 32 := 0#32
  let c1_i32 : BitVec 32 := 1#32
  let arg17 : BitVec 32 := Scf.iv c0_i32_221 c1_i32 k0_t3
  let c64_i32 : BitVec 32 := 64#32
  let v456 : BitVec 32 := Scalar.muli arg17 c64_i32
  let v457 : BitVec 32 := v456
  let v476 : Index := Scalar.indexCast v457
  let c0_241 : Index := 0#32
  ![1, v476.toNat, 0, 0]
def k0_mult11 (k0_t3 : Fin k0_t3_loop.trips) : BitVec 32 :=
  let c0_i32_221 : BitVec 32 := 0#32
  let c1_i32 : BitVec 32 := 1#32
  let arg17 : BitVec 32 := Scf.iv c0_i32_221 c1_i32 k0_t3
  let c4_i32 : BitVec 32 := 4#32
  let v495 : BitVec 32 := Scalar.muli arg17 c4_i32
  let c128_i32_244 : BitVec 32 := 128#32
  let v496 : BitVec 32 := Scalar.muli v495 c128_i32_244
  v496
def k0_off13 (k0_t3 : Fin k0_t3_loop.trips) : Fin 2 → Nat :=
  let c0_245 : Index := 0#32
  let c0_i32_221 : BitVec 32 := 0#32
  let c1_i32 : BitVec 32 := 1#32
  let arg17 : BitVec 32 := Scf.iv c0_i32_221 c1_i32 k0_t3
  let c4_i32 : BitVec 32 := 4#32
  let v495 : BitVec 32 := Scalar.muli arg17 c4_i32
  let c128_i32_244 : BitVec 32 := 128#32
  let v496 : BitVec 32 := Scalar.muli v495 c128_i32_244
  let v497 : BitVec 32 := v496
  let v498 : Index := Scalar.indexCast v497
  ![0, v498.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S24x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x144 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S24x1x7168 : Shape := ⟨3, ![24, 1, 7168]⟩
abbrev S4608x3584 : Shape := ⟨2, ![4608, 3584]⟩
abbrev S4608x224 : Shape := ⟨2, ![4608, 224]⟩
abbrev S7168x2304 : Shape := ⟨2, ![7168, 2304]⟩
abbrev S7168x144 : Shape := ⟨2, ![7168, 144]⟩
abbrev S24x1x3584x2 : Shape := ⟨4, ![24, 1, 3584, 2]⟩
abbrev S24x1x3584x1 : Shape := ⟨4, ![24, 1, 3584, 1]⟩
abbrev S24x1x3584 : Shape := ⟨3, ![24, 1, 3584]⟩
abbrev S_ : Shape := ⟨0, ![]⟩
abbrev S4608x224x16 : Shape := ⟨3, ![4608, 224, 16]⟩
abbrev S4608x224x1 : Shape := ⟨3, ![4608, 224, 1]⟩
abbrev S24x1x4608 : Shape := ⟨3, ![24, 1, 4608]⟩
abbrev S24x1x2304x2 : Shape := ⟨4, ![24, 1, 2304, 2]⟩
abbrev S24x1x2304x1 : Shape := ⟨4, ![24, 1, 2304, 1]⟩
abbrev S24x1x2304 : Shape := ⟨3, ![24, 1, 2304]⟩
abbrev S7168x144x16 : Shape := ⟨3, ![7168, 144, 16]⟩
abbrev S7168x144x1 : Shape := ⟨3, ![7168, 144, 1]⟩

abbrev nBuf : Space → Nat
  | .hbm => 326
  | .vmem => 0
  | .smem => 0
  | _ => 0

abbrev hbmTy0_0 (i : Nat) : BufTy := match i % 128 with
  | 0 => ⟨S24x1x7168, .bf16⟩
  | 1 => ⟨S4608x3584, .i8⟩
  | 2 => ⟨S4608x224, .i16⟩
  | 3 => ⟨S4608x3584, .i8⟩
  | 4 => ⟨S4608x224, .i16⟩
  | 5 => ⟨S7168x2304, .i8⟩
  | 6 => ⟨S7168x144, .i16⟩
  | 7 => ⟨S24x1x3584x2, .bf16⟩
  | 8 => ⟨S24x1x3584x1, .bf16⟩
  | 9 => ⟨S24x1x3584, .bf16⟩
  | 10 => ⟨S24x1x3584x1, .bf16⟩
  | 11 => ⟨S24x1x3584, .bf16⟩
  | 12 => ⟨S4608x3584, .i32⟩
  | 13 => ⟨S_, .i32⟩
  | 14 => ⟨S4608x3584, .i32⟩
  | 15 => ⟨S4608x3584, .i32⟩
  | 16 => ⟨S4608x3584, .f32⟩
  | 17 => ⟨S4608x224x16, .f32⟩
  | 18 => ⟨S_, .f32⟩
  | 19 => ⟨S4608x224x16, .f32⟩
  | 20 => ⟨S4608x224x16, .f32⟩
  | 21 => ⟨S4608x224, .i32⟩
  | 22 => ⟨S_, .i32⟩
  | 23 => ⟨S4608x224, .i32⟩
  | 24 => ⟨S4608x224, .i32⟩
  | 25 => ⟨S_, .i32⟩
  | 26 => ⟨S4608x224, .i32⟩
  | 27 => ⟨S4608x224, .i32⟩
  | 28 => ⟨S_, .i32⟩
  | 29 => ⟨S4608x224, .i32⟩
  | 30 => ⟨S4608x224, .i32⟩
  | 31 => ⟨S_, .i32⟩
  | 32 => ⟨S4608x224, .i32⟩
  | 33 => ⟨S4608x224, .i1⟩
  | 34 => ⟨S_, .i32⟩
  | 35 => ⟨S4608x224, .i32⟩
  | 36 => ⟨S4608x224, .i32⟩
  | 37 => ⟨S4608x224, .i32⟩
  | 38 => ⟨S4608x224, .f32⟩
  | 39 => ⟨S_, .i32⟩
  | 40 => ⟨S4608x224, .i32⟩
  | 41 => ⟨S4608x224, .i32⟩
  | 42 => ⟨S_, .i32⟩
  | 43 => ⟨S4608x224, .i32⟩
  | 44 => ⟨S4608x224, .i32⟩
  | 45 => ⟨S_, .i32⟩
  | 46 => ⟨S4608x224, .i32⟩
  | 47 => ⟨S4608x224, .i32⟩
  | 48 => ⟨S4608x224, .f32⟩
  | 49 => ⟨S4608x224, .f32⟩
  | 50 => ⟨S_, .i32⟩
  | 51 => ⟨S4608x224, .i32⟩
  | 52 => ⟨S4608x224, .i1⟩
  | 53 => ⟨S4608x224, .f32⟩
  | 54 => ⟨S4608x224, .f32⟩
  | 55 => ⟨S4608x224x1, .f32⟩
  | 56 => ⟨S4608x224x16, .f32⟩
  | 57 => ⟨S4608x224x16, .f32⟩
  | 58 => ⟨S4608x3584, .f32⟩
  | 59 => ⟨S4608x3584, .bf16⟩
  | 60 => ⟨S4608x3584, .i32⟩
  | 61 => ⟨S_, .i32⟩
  | 62 => ⟨S4608x3584, .i32⟩
  | 63 => ⟨S4608x3584, .i32⟩
  | 64 => ⟨S4608x3584, .f32⟩
  | 65 => ⟨S4608x224x16, .f32⟩
  | 66 => ⟨S_, .f32⟩
  | 67 => ⟨S4608x224x16, .f32⟩
  | 68 => ⟨S4608x224x16, .f32⟩
  | 69 => ⟨S4608x224, .i32⟩
  | 70 => ⟨S_, .i32⟩
  | 71 => ⟨S4608x224, .i32⟩
  | 72 => ⟨S4608x224, .i32⟩
  | 73 => ⟨S_, .i32⟩
  | 74 => ⟨S4608x224, .i32⟩
  | 75 => ⟨S4608x224, .i32⟩
  | 76 => ⟨S_, .i32⟩
  | 77 => ⟨S4608x224, .i32⟩
  | 78 => ⟨S4608x224, .i32⟩
  | 79 => ⟨S_, .i32⟩
  | 80 => ⟨S4608x224, .i32⟩
  | 81 => ⟨S4608x224, .i1⟩
  | 82 => ⟨S_, .i32⟩
  | 83 => ⟨S4608x224, .i32⟩
  | 84 => ⟨S4608x224, .i32⟩
  | 85 => ⟨S4608x224, .i32⟩
  | 86 => ⟨S4608x224, .f32⟩
  | 87 => ⟨S_, .i32⟩
  | 88 => ⟨S4608x224, .i32⟩
  | 89 => ⟨S4608x224, .i32⟩
  | 90 => ⟨S_, .i32⟩
  | 91 => ⟨S4608x224, .i32⟩
  | 92 => ⟨S4608x224, .i32⟩
  | 93 => ⟨S_, .i32⟩
  | 94 => ⟨S4608x224, .i32⟩
  | 95 => ⟨S4608x224, .i32⟩
  | 96 => ⟨S4608x224, .f32⟩
  | 97 => ⟨S4608x224, .f32⟩
  | 98 => ⟨S_, .i32⟩
  | 99 => ⟨S4608x224, .i32⟩
  | 100 => ⟨S4608x224, .i1⟩
  | 101 => ⟨S4608x224, .f32⟩
  | 102 => ⟨S4608x224, .f32⟩
  | 103 => ⟨S4608x224x1, .f32⟩
  | 104 => ⟨S4608x224x16, .f32⟩
  | 105 => ⟨S4608x224x16, .f32⟩
  | 106 => ⟨S4608x3584, .f32⟩
  | 107 => ⟨S4608x3584, .bf16⟩
  | 108 => ⟨S24x1x4608, .f32⟩
  | 109 => ⟨S24x1x4608, .f32⟩
  | 110 => ⟨S24x1x4608, .f32⟩
  | 111 => ⟨S4608x3584, .i32⟩
  | 112 => ⟨S_, .i32⟩
  | 113 => ⟨S4608x3584, .i32⟩
  | 114 => ⟨S4608x3584, .i32⟩
  | 115 => ⟨S4608x3584, .f32⟩
  | 116 => ⟨S4608x224x16, .f32⟩
  | 117 => ⟨S_, .f32⟩
  | 118 => ⟨S4608x224x16, .f32⟩
  | 119 => ⟨S4608x224x16, .f32⟩
  | 120 => ⟨S4608x224, .i32⟩
  | 121 => ⟨S_, .i32⟩
  | 122 => ⟨S4608x224, .i32⟩
  | 123 => ⟨S4608x224, .i32⟩
  | 124 => ⟨S_, .i32⟩
  | 125 => ⟨S4608x224, .i32⟩
  | 126 => ⟨S4608x224, .i32⟩
  | 127 => ⟨S_, .i32⟩
  | _ => ⟨S24x1x7168, .bf16⟩

abbrev hbmTy0_1 (i : Nat) : BufTy := match i % 128 with
  | 0 => ⟨S4608x224, .i32⟩
  | 1 => ⟨S4608x224, .i32⟩
  | 2 => ⟨S_, .i32⟩
  | 3 => ⟨S4608x224, .i32⟩
  | 4 => ⟨S4608x224, .i1⟩
  | 5 => ⟨S_, .i32⟩
  | 6 => ⟨S4608x224, .i32⟩
  | 7 => ⟨S4608x224, .i32⟩
  | 8 => ⟨S4608x224, .i32⟩
  | 9 => ⟨S4608x224, .f32⟩
  | 10 => ⟨S_, .i32⟩
  | 11 => ⟨S4608x224, .i32⟩
  | 12 => ⟨S4608x224, .i32⟩
  | 13 => ⟨S_, .i32⟩
  | 14 => ⟨S4608x224, .i32⟩
  | 15 => ⟨S4608x224, .i32⟩
  | 16 => ⟨S_, .i32⟩
  | 17 => ⟨S4608x224, .i32⟩
  | 18 => ⟨S4608x224, .i32⟩
  | 19 => ⟨S4608x224, .f32⟩
  | 20 => ⟨S4608x224, .f32⟩
  | 21 => ⟨S_, .i32⟩
  | 22 => ⟨S4608x224, .i32⟩
  | 23 => ⟨S4608x224, .i1⟩
  | 24 => ⟨S4608x224, .f32⟩
  | 25 => ⟨S4608x224, .f32⟩
  | 26 => ⟨S4608x224x1, .f32⟩
  | 27 => ⟨S4608x224x16, .f32⟩
  | 28 => ⟨S4608x224x16, .f32⟩
  | 29 => ⟨S4608x3584, .f32⟩
  | 30 => ⟨S4608x3584, .bf16⟩
  | 31 => ⟨S4608x3584, .i32⟩
  | 32 => ⟨S_, .i32⟩
  | 33 => ⟨S4608x3584, .i32⟩
  | 34 => ⟨S4608x3584, .i32⟩
  | 35 => ⟨S4608x3584, .f32⟩
  | 36 => ⟨S4608x224x16, .f32⟩
  | 37 => ⟨S_, .f32⟩
  | 38 => ⟨S4608x224x16, .f32⟩
  | 39 => ⟨S4608x224x16, .f32⟩
  | 40 => ⟨S4608x224, .i32⟩
  | 41 => ⟨S_, .i32⟩
  | 42 => ⟨S4608x224, .i32⟩
  | 43 => ⟨S4608x224, .i32⟩
  | 44 => ⟨S_, .i32⟩
  | 45 => ⟨S4608x224, .i32⟩
  | 46 => ⟨S4608x224, .i32⟩
  | 47 => ⟨S_, .i32⟩
  | 48 => ⟨S4608x224, .i32⟩
  | 49 => ⟨S4608x224, .i32⟩
  | 50 => ⟨S_, .i32⟩
  | 51 => ⟨S4608x224, .i32⟩
  | 52 => ⟨S4608x224, .i1⟩
  | 53 => ⟨S_, .i32⟩
  | 54 => ⟨S4608x224, .i32⟩
  | 55 => ⟨S4608x224, .i32⟩
  | 56 => ⟨S4608x224, .i32⟩
  | 57 => ⟨S4608x224, .f32⟩
  | 58 => ⟨S_, .i32⟩
  | 59 => ⟨S4608x224, .i32⟩
  | 60 => ⟨S4608x224, .i32⟩
  | 61 => ⟨S_, .i32⟩
  | 62 => ⟨S4608x224, .i32⟩
  | 63 => ⟨S4608x224, .i32⟩
  | 64 => ⟨S_, .i32⟩
  | 65 => ⟨S4608x224, .i32⟩
  | 66 => ⟨S4608x224, .i32⟩
  | 67 => ⟨S4608x224, .f32⟩
  | 68 => ⟨S4608x224, .f32⟩
  | 69 => ⟨S_, .i32⟩
  | 70 => ⟨S4608x224, .i32⟩
  | 71 => ⟨S4608x224, .i1⟩
  | 72 => ⟨S4608x224, .f32⟩
  | 73 => ⟨S4608x224, .f32⟩
  | 74 => ⟨S4608x224x1, .f32⟩
  | 75 => ⟨S4608x224x16, .f32⟩
  | 76 => ⟨S4608x224x16, .f32⟩
  | 77 => ⟨S4608x3584, .f32⟩
  | 78 => ⟨S4608x3584, .bf16⟩
  | 79 => ⟨S24x1x4608, .f32⟩
  | 80 => ⟨S24x1x4608, .f32⟩
  | 81 => ⟨S24x1x4608, .f32⟩
  | 82 => ⟨S24x1x4608, .f32⟩
  | 83 => ⟨S24x1x4608, .f32⟩
  | 84 => ⟨S_, .f32⟩
  | 85 => ⟨S24x1x4608, .f32⟩
  | 86 => ⟨S24x1x4608, .f32⟩
  | 87 => ⟨S_, .f32⟩
  | 88 => ⟨S24x1x4608, .f32⟩
  | 89 => ⟨S24x1x4608, .f32⟩
  | 90 => ⟨S24x1x4608, .f32⟩
  | 91 => ⟨S24x1x4608, .f32⟩
  | 92 => ⟨S24x1x4608, .bf16⟩
  | 93 => ⟨S24x1x2304x2, .bf16⟩
  | 94 => ⟨S24x1x2304x1, .bf16⟩
  | 95 => ⟨S24x1x2304, .bf16⟩
  | 96 => ⟨S24x1x2304x1, .bf16⟩
  | 97 => ⟨S24x1x2304, .bf16⟩
  | 98 => ⟨S7168x2304, .i32⟩
  | 99 => ⟨S_, .i32⟩
  | 100 => ⟨S7168x2304, .i32⟩
  | 101 => ⟨S7168x2304, .i32⟩
  | 102 => ⟨S7168x2304, .f32⟩
  | 103 => ⟨S7168x144x16, .f32⟩
  | 104 => ⟨S_, .f32⟩
  | 105 => ⟨S7168x144x16, .f32⟩
  | 106 => ⟨S7168x144x16, .f32⟩
  | 107 => ⟨S7168x144, .i32⟩
  | 108 => ⟨S_, .i32⟩
  | 109 => ⟨S7168x144, .i32⟩
  | 110 => ⟨S7168x144, .i32⟩
  | 111 => ⟨S_, .i32⟩
  | 112 => ⟨S7168x144, .i32⟩
  | 113 => ⟨S7168x144, .i32⟩
  | 114 => ⟨S_, .i32⟩
  | 115 => ⟨S7168x144, .i32⟩
  | 116 => ⟨S7168x144, .i32⟩
  | 117 => ⟨S_, .i32⟩
  | 118 => ⟨S7168x144, .i32⟩
  | 119 => ⟨S7168x144, .i1⟩
  | 120 => ⟨S_, .i32⟩
  | 121 => ⟨S7168x144, .i32⟩
  | 122 => ⟨S7168x144, .i32⟩
  | 123 => ⟨S7168x144, .i32⟩
  | 124 => ⟨S7168x144, .f32⟩
  | 125 => ⟨S_, .i32⟩
  | 126 => ⟨S7168x144, .i32⟩
  | 127 => ⟨S7168x144, .i32⟩
  | _ => ⟨S24x1x7168, .bf16⟩

abbrev hbmTy0_2 (i : Nat) : BufTy := match i % 128 with
  | 0 => ⟨S_, .i32⟩
  | 1 => ⟨S7168x144, .i32⟩
  | 2 => ⟨S7168x144, .i32⟩
  | 3 => ⟨S_, .i32⟩
  | 4 => ⟨S7168x144, .i32⟩
  | 5 => ⟨S7168x144, .i32⟩
  | 6 => ⟨S7168x144, .f32⟩
  | 7 => ⟨S7168x144, .f32⟩
  | 8 => ⟨S_, .i32⟩
  | 9 => ⟨S7168x144, .i32⟩
  | 10 => ⟨S7168x144, .i1⟩
  | 11 => ⟨S7168x144, .f32⟩
  | 12 => ⟨S7168x144, .f32⟩
  | 13 => ⟨S7168x144x1, .f32⟩
  | 14 => ⟨S7168x144x16, .f32⟩
  | 15 => ⟨S7168x144x16, .f32⟩
  | 16 => ⟨S7168x2304, .f32⟩
  | 17 => ⟨S7168x2304, .bf16⟩
  | 18 => ⟨S7168x2304, .i32⟩
  | 19 => ⟨S_, .i32⟩
  | 20 => ⟨S7168x2304, .i32⟩
  | 21 => ⟨S7168x2304, .i32⟩
  | 22 => ⟨S7168x2304, .f32⟩
  | 23 => ⟨S7168x144x16, .f32⟩
  | 24 => ⟨S_, .f32⟩
  | 25 => ⟨S7168x144x16, .f32⟩
  | 26 => ⟨S7168x144x16, .f32⟩
  | 27 => ⟨S7168x144, .i32⟩
  | 28 => ⟨S_, .i32⟩
  | 29 => ⟨S7168x144, .i32⟩
  | 30 => ⟨S7168x144, .i32⟩
  | 31 => ⟨S_, .i32⟩
  | 32 => ⟨S7168x144, .i32⟩
  | 33 => ⟨S7168x144, .i32⟩
  | 34 => ⟨S_, .i32⟩
  | 35 => ⟨S7168x144, .i32⟩
  | 36 => ⟨S7168x144, .i32⟩
  | 37 => ⟨S_, .i32⟩
  | 38 => ⟨S7168x144, .i32⟩
  | 39 => ⟨S7168x144, .i1⟩
  | 40 => ⟨S_, .i32⟩
  | 41 => ⟨S7168x144, .i32⟩
  | 42 => ⟨S7168x144, .i32⟩
  | 43 => ⟨S7168x144, .i32⟩
  | 44 => ⟨S7168x144, .f32⟩
  | 45 => ⟨S_, .i32⟩
  | 46 => ⟨S7168x144, .i32⟩
  | 47 => ⟨S7168x144, .i32⟩
  | 48 => ⟨S_, .i32⟩
  | 49 => ⟨S7168x144, .i32⟩
  | 50 => ⟨S7168x144, .i32⟩
  | 51 => ⟨S_, .i32⟩
  | 52 => ⟨S7168x144, .i32⟩
  | 53 => ⟨S7168x144, .i32⟩
  | 54 => ⟨S7168x144, .f32⟩
  | 55 => ⟨S7168x144, .f32⟩
  | 56 => ⟨S_, .i32⟩
  | 57 => ⟨S7168x144, .i32⟩
  | 58 => ⟨S7168x144, .i1⟩
  | 59 => ⟨S7168x144, .f32⟩
  | 60 => ⟨S7168x144, .f32⟩
  | 61 => ⟨S7168x144x1, .f32⟩
  | 62 => ⟨S7168x144x16, .f32⟩
  | 63 => ⟨S7168x144x16, .f32⟩
  | 64 => ⟨S7168x2304, .f32⟩
  | 65 => ⟨S7168x2304, .bf16⟩
  | 66 => ⟨S24x1x7168, .f32⟩
  | 67 => ⟨S24x1x7168, .f32⟩
  | 68 => ⟨S24x1x7168, .f32⟩
  | 69 => ⟨S24x1x7168, .bf16⟩
  | _ => ⟨S24x1x7168, .bf16⟩

abbrev hbmTy (i : Nat) : BufTy := match i / 128 with
  | 0 => hbmTy0_0 i
  | 1 => hbmTy0_1 i
  | 2 => hbmTy0_2 i
  | _ => ⟨S24x1x7168, .bf16⟩

abbrev bufTy : (tb : Table) → Fin (tcTables nBuf tb) → BufTy
  | .hbm, ⟨i, _⟩ => hbmTy i
  | _, _ => ⟨S24x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_c_17 : Ref sig .tc := ⟨.hbm, 90, rfl⟩
abbrev main_v64 : Ref sig .tc := ⟨.hbm, 91, rfl⟩
abbrev main_v65 : Ref sig .tc := ⟨.hbm, 92, rfl⟩
abbrev main_c_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_21 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_22 : Ref sig .tc := ⟨.hbm, 121, rfl⟩
abbrev main_v90 : Ref sig .tc := ⟨.hbm, 122, rfl⟩
abbrev main_v91 : Ref sig .tc := ⟨.hbm, 123, rfl⟩
abbrev main_c_23 : Ref sig .tc := ⟨.hbm, 124, rfl⟩
abbrev main_v92 : Ref sig .tc := ⟨.hbm, 125, rfl⟩
abbrev main_v93 : Ref sig .tc := ⟨.hbm, 126, rfl⟩
abbrev main_c_24 : Ref sig .tc := ⟨.hbm, 127, rfl⟩
abbrev main_v94 : Ref sig .tc := ⟨.hbm, 128, rfl⟩
abbrev main_v95 : Ref sig .tc := ⟨.hbm, 129, rfl⟩
abbrev main_c_25 : Ref sig .tc := ⟨.hbm, 130, rfl⟩
abbrev main_v96 : Ref sig .tc := ⟨.hbm, 131, rfl⟩
abbrev main_v97 : Ref sig .tc := ⟨.hbm, 132, rfl⟩
abbrev main_c_26 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_27 : Ref sig .tc := ⟨.hbm, 138, rfl⟩
abbrev main_v102 : Ref sig .tc := ⟨.hbm, 139, rfl⟩
abbrev main_v103 : Ref sig .tc := ⟨.hbm, 140, rfl⟩
abbrev main_c_28 : Ref sig .tc := ⟨.hbm, 141, rfl⟩
abbrev main_v104 : Ref sig .tc := ⟨.hbm, 142, rfl⟩
abbrev main_v105 : Ref sig .tc := ⟨.hbm, 143, rfl⟩
abbrev main_c_29 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_30 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_31 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_32 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_33 : Ref sig .tc := ⟨.hbm, 169, rfl⟩
abbrev main_v127 : Ref sig .tc := ⟨.hbm, 170, rfl⟩
abbrev main_v128 : Ref sig .tc := ⟨.hbm, 171, rfl⟩
abbrev main_c_34 : Ref sig .tc := ⟨.hbm, 172, rfl⟩
abbrev main_v129 : Ref sig .tc := ⟨.hbm, 173, rfl⟩
abbrev main_v130 : Ref sig .tc := ⟨.hbm, 174, rfl⟩
abbrev main_c_35 : Ref sig .tc := ⟨.hbm, 175, rfl⟩
abbrev main_v131 : Ref sig .tc := ⟨.hbm, 176, rfl⟩
abbrev main_v132 : Ref sig .tc := ⟨.hbm, 177, rfl⟩
abbrev main_c_36 : Ref sig .tc := ⟨.hbm, 178, rfl⟩
abbrev main_v133 : Ref sig .tc := ⟨.hbm, 179, rfl⟩
abbrev main_v134 : Ref sig .tc := ⟨.hbm, 180, rfl⟩
abbrev main_c_37 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_38 : Ref sig .tc := ⟨.hbm, 186, rfl⟩
abbrev main_v139 : Ref sig .tc := ⟨.hbm, 187, rfl⟩
abbrev main_v140 : Ref sig .tc := ⟨.hbm, 188, rfl⟩
abbrev main_c_39 : Ref sig .tc := ⟨.hbm, 189, rfl⟩
abbrev main_v141 : Ref sig .tc := ⟨.hbm, 190, rfl⟩
abbrev main_v142 : Ref sig .tc := ⟨.hbm, 191, rfl⟩
abbrev main_c_40 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_c_41 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_call8_v0 : Ref sig .tc := ⟨.hbm, 210, rfl⟩
abbrev main_call8_v1 : Ref sig .tc := ⟨.hbm, 211, rfl⟩
abbrev main_call8_cst : Ref sig .tc := ⟨.hbm, 212, rfl⟩
abbrev main_call8_v2 : Ref sig .tc := ⟨.hbm, 213, rfl⟩
abbrev main_call8_v3 : Ref sig .tc := ⟨.hbm, 214, rfl⟩
abbrev main_call8_cst_0 : Ref sig .tc := ⟨.hbm, 215, rfl⟩
abbrev main_call8_v4 : Ref sig .tc := ⟨.hbm, 216, rfl⟩
abbrev main_call8_v5 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_c_42 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_43 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_c_44 : Ref sig .tc := ⟨.hbm, 236, rfl⟩
abbrev main_v175 : Ref sig .tc := ⟨.hbm, 237, rfl⟩
abbrev main_v176 : Ref sig .tc := ⟨.hbm, 238, rfl⟩
abbrev main_c_45 : Ref sig .tc := ⟨.hbm, 239, rfl⟩
abbrev main_v177 : Ref sig .tc := ⟨.hbm, 240, rfl⟩
abbrev main_v178 : Ref sig .tc := ⟨.hbm, 241, rfl⟩
abbrev main_c_46 : Ref sig .tc := ⟨.hbm, 242, rfl⟩
abbrev main_v179 : Ref sig .tc := ⟨.hbm, 243, rfl⟩
abbrev main_v180 : Ref sig .tc := ⟨.hbm, 244, rfl⟩
abbrev main_c_47 : Ref sig .tc := ⟨.hbm, 245, rfl⟩
abbrev main_v181 : Ref sig .tc := ⟨.hbm, 246, rfl⟩
abbrev main_v182 : Ref sig .tc := ⟨.hbm, 247, rfl⟩
abbrev main_c_48 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_c_49 : Ref sig .tc := ⟨.hbm, 253, rfl⟩
abbrev main_v187 : Ref sig .tc := ⟨.hbm, 254, rfl⟩
abbrev main_v188 : Ref sig .tc := ⟨.hbm, 255, rfl⟩
abbrev main_c_50 : Ref sig .tc := ⟨.hbm, 256, rfl⟩
abbrev main_v189 : Ref sig .tc := ⟨.hbm, 257, rfl⟩
abbrev main_v190 : Ref sig .tc := ⟨.hbm, 258, rfl⟩
abbrev main_c_51 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_c_52 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_c_53 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_cst_54 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_c_55 : Ref sig .tc := ⟨.hbm, 284, rfl⟩
abbrev main_v212 : Ref sig .tc := ⟨.hbm, 285, rfl⟩
abbrev main_v213 : Ref sig .tc := ⟨.hbm, 286, rfl⟩
abbrev main_c_56 : Ref sig .tc := ⟨.hbm, 287, rfl⟩
abbrev main_v214 : Ref sig .tc := ⟨.hbm, 288, rfl⟩
abbrev main_v215 : Ref sig .tc := ⟨.hbm, 289, rfl⟩
abbrev main_c_57 : Ref sig .tc := ⟨.hbm, 290, rfl⟩
abbrev main_v216 : Ref sig .tc := ⟨.hbm, 291, rfl⟩
abbrev main_v217 : Ref sig .tc := ⟨.hbm, 292, rfl⟩
abbrev main_c_58 : Ref sig .tc := ⟨.hbm, 293, rfl⟩
abbrev main_v218 : Ref sig .tc := ⟨.hbm, 294, rfl⟩
abbrev main_v219 : Ref sig .tc := ⟨.hbm, 295, rfl⟩
abbrev main_c_59 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_c_60 : Ref sig .tc := ⟨.hbm, 301, rfl⟩
abbrev main_v224 : Ref sig .tc := ⟨.hbm, 302, rfl⟩
abbrev main_v225 : Ref sig .tc := ⟨.hbm, 303, rfl⟩
abbrev main_c_61 : Ref sig .tc := ⟨.hbm, 304, rfl⟩
abbrev main_v226 : Ref sig .tc := ⟨.hbm, 305, rfl⟩
abbrev main_v227 : Ref sig .tc := ⟨.hbm, 306, rfl⟩
abbrev main_c_62 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_c_63 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩

abbrev nD : Nat := 1
abbrev τ : Topo := Topo.v7x

variable {F : FTy → Type} [FloatOps F]
-- ==== Proof.BodyKernel.lean ====
module

public import proofs.«01_k».proof.Proof.Gen.Kernel.Frame
public import proofs.«01_k».proof.Proof.Gen.Kernel.Loops
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev scM0 : Memref sig .tc .vmem S48x14336 .bf16 := Memref.whole cc0_scratch0
abbrev scM1 : Memref sig .tc .vmem S48x9216 .bf16 := Memref.whole cc0_scratch1
abbrev scM2 : Memref sig .tc .vmem S2x1792x128 .i32 := Memref.whole cc0_scratch2
abbrev scM3 : Memref sig .tc .vmem S2x1792x128 .i32 := Memref.whole cc0_scratch3
abbrev scM4 : Memref sig .tc .vmem S2x1792x128 .i32 := Memref.whole cc0_scratch4
abbrev scM5 : Memref sig .tc .vmem S2x1792x128 .i32 := Memref.whole cc0_scratch5
abbrev scM6 : Memref sig .tc .vmem S2x1152x128 .i32 := Memref.whole cc0_scratch6
abbrev scM7 : Memref sig .tc .vmem S2x1152x128 .i32 := Memref.whole cc0_scratch7

abbrev k0_cond1 (i : grid0.Coords) : BitVec 1 :=
  Scalar.cmpi .ne (Scalar.extui (Scalar.cmpi .eq (BitVec.ofNat 32 (i 0).val) 0#32)) (0#32 : BitVec 32)

set_option maxHeartbeats 40000000 in
theorem kernelRunA (c : Dev nD) (i : grid0.Coords) (h1 : k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

set_option maxHeartbeats 40000000 in
theorem kernelRunB (c : Dev nD) (i : grid0.Coords) (h1 : ¬ k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

set_option maxHeartbeats 40000000 in
theorem kernelRunC (c : Dev nD) (i : grid0.Coords) (h1 : ¬ k0_cond1 i = 1#1) (h2 : ¬ k0_cond2 i = 1#1) (h3 : k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

theorem conds (t : Fin cfg0.N) :
    (k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) :=
  (by decide : ∀ t : Fin grid0.N,
    (k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1)) t

theorem kernelRun (c : Dev nD) (t : Fin cfg0.N)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu (grid0.coords t) arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  rcases conds t with ⟨h1, h2, h3⟩ | ⟨h1, h2, h3⟩ | ⟨h1, h2, h3⟩
  · exact kernelRunA c _ h1 h2 h3 arg1 harg1 arg2 harg2 arg3 harg3 arg4 harg4 arg5 harg5 arg6 harg6 arg7 harg7 arg8 harg8 X1 X2 X3 X4 X5 X6 X7 W K
  · exact kernelRunB c _ h1 h2 h3 arg1 harg1 arg2 harg2 arg3 harg3 arg4 harg4 arg5 harg5 arg6 harg6 arg7 harg7 arg8 harg8 X1 X2 X3 X4 X5 X6 X7 W K
  · exact kernelRunC c _ h1 h2 h3 arg1 harg1 arg2 harg2 arg3 harg3 arg4 harg4 arg5 harg5 arg6 harg6 arg7 harg7 arg8 harg8 X1 X2 X3 X4 X5 X6 X7 W K

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA
  rw [scopedRest0_eq]
  simp only [scM0, scM1, scM2, scM3, scM4, scM5, scM6, scM7, owns_whole]; try rfl

/-- The output window is forgotten, every input keeps its block. -/
abbrev fgt0 : Fin 8 → Bool := fun | 0 => false | 1 => false | 2 => false | 3 => false | 4 => false | 5 => false | 6 => false | 7 => true | ⟨_ + 8, h⟩ => absurd h (Nat.not_lt.2 (Nat.le_add_left _ _))

/-- The proof data of the one pipeline on core `c`: the arrays as the region finds them, every input's buffer left at its
    block, the output's buffer not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6]
  rw [show (dats m 0 c).Φ t.castSucc = Pipeline.ΦA spec0 c from rfl, PhiA0_eq]
  simp only [before0_0, before0_1, before0_2, before0_3, before0_4, before0_5, before0_6]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, H7⟩
  iapply (kernelRun c t _ _ _ _ _ _ _ _ _ _ _ _ _ _ _ _ (iblk m c 0 t) (iblk m c 1 t) (iblk m c 2 t) (iblk m c 3 t) (iblk m c 4 t) (iblk m c 5 t) (iblk m c 6 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HW]; · iexact HW
  iintro ⟨H0, H1, H2, H3, H4, H5, H6, H7, HS0, HS1, HS2, HS3, HS4, HS5, HS6, HS7, ⟨%W', HW'⟩⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePostR cfg0 (fun c => (dats m 0 c).toRForget fgt0) {main_v2} (V m) r ∧ r.2.sem = fun _ => 0) :=
  Pipeline.θ_run_frame_around_T_forget (Q' := _) cfgs (dats m) (0 : Fin 1) launch0 defs₀ Variants.none fgt0 {main_v2} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      exact Finset.mem_singleton.mpr (Proc.devRef_injective _ hb))
    (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      (congrFun ((((dats m 0 c).toRForget fgt0).ArrAt_in 1 rfl _)) _ ▸ ((h.1 c).1 1) : _ = _).trans ((A_eq m c 1).trans (V_main_arg1 m c)),
      (congrFun ((((dats m 0 c).toRForget fgt0).ArrAt_in 2 rfl _)) _ ▸ ((h.1 c).1 2) : _ = _).trans ((A_eq m c 2).trans (V_main_arg2 m c)),
      (congrFun ((((dats m 0 c).toRForget fgt0).ArrAt_in 3 rfl _)) _ ▸ ((h.1 c).1 3) : _ = _).trans ((A_eq m c 3).trans (V_main_arg3 m c)),
      (congrFun ((((dats m 0 c).toRForget fgt0).ArrAt_in 4 rfl _)) _ ▸ ((h.1 c).1 4) : _ = _).trans ((A_eq m c 4).trans (V_main_arg4 m c)),
      (congrFun ((((dats m 0 c).toRForget fgt0).ArrAt_in 5 rfl _)) _ ▸ ((h.1 c).1 5) : _ = _).trans ((A_eq m c 5).trans (V_main_arg5 m c)),
      (congrFun ((((dats m 0 c).toRForget fgt0).ArrAt_in 6 rfl _)) _ ▸ ((h.1 c).1 6) : _ = _).trans ((A_eq m c 6).trans (V_main_arg6 m c))⟩, h.2⟩) (run_main m ρ)

end Cert.Kernel.Hand

end
-- ==== Proof.BodyKernelIdeal.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0 : Memref sig .tc .vmem S48x14336 .bf16 := Memref.whole cc0_scratch0
abbrev scM1 : Memref sig .tc .vmem S48x9216 .bf16 := Memref.whole cc0_scratch1
abbrev scM2 : Memref sig .tc .vmem S2x1792x2x128 .bf16 := Memref.whole cc0_scratch2
abbrev scM3 : Memref sig .tc .vmem S2x1792x2x128 .bf16 := Memref.whole cc0_scratch3
abbrev scM4 : Memref sig .tc .vmem S2x1792x2x128 .bf16 := Memref.whole cc0_scratch4
abbrev scM5 : Memref sig .tc .vmem S2x1792x2x128 .bf16 := Memref.whole cc0_scratch5
abbrev scM6 : Memref sig .tc .vmem S2x1152x2x128 .bf16 := Memref.whole cc0_scratch6
abbrev scM7 : Memref sig .tc .vmem S2x1152x2x128 .bf16 := Memref.whole cc0_scratch7

abbrev k0_cond1 (i : grid0.Coords) : BitVec 1 :=
  Scalar.cmpi .ne (Scalar.extui (Scalar.cmpi .eq (BitVec.ofNat 32 (i 0).val) 0#32)) (0#32 : BitVec 32)

set_option maxHeartbeats 40000000 in
theorem kernelRunA (c : Dev nD) (i : grid0.Coords) (h1 : k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

set_option maxHeartbeats 40000000 in
theorem kernelRunB (c : Dev nD) (i : grid0.Coords) (h1 : ¬ k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

set_option maxHeartbeats 40000000 in
theorem kernelRunC (c : Dev nD) (i : grid0.Coords) (h1 : ¬ k0_cond1 i = 1#1) (h2 : ¬ k0_cond2 i = 1#1) (h3 : k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  simp only [cc0_q4_swiglu_eq_skeleton]; unfold cc0_q4_swiglu_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  sl_exec (disch := first | sl_exact h1 | sl_exact h2 | sl_exact h3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; iexact HW

theorem conds (t : Fin cfg0.N) :
    (k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) :=
  (by decide : ∀ t : Fin grid0.N,
    (k0_cond1 (grid0.coords t) = 1#1 ∧ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1)) t

theorem kernelRun (c : Dev nD) (t : Fin cfg0.N)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (X1 : Vec F S24x7168 .bf16) (X2 : Vec F S512x3584 .i8) (X3 : Vec F S512x224 .i16) (X4 : Vec F S512x3584 .i8) (X5 : Vec F S512x224 .i16) (X6 : Vec F S512x2304 .i8) (X7 : Vec F S512x144 .i16)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ d, owns (c : Thread nD τ) arg8 fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
        ∗ owes (c : Thread nD τ) 0 W
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ d, owns (c : Thread nD τ) arg8 fullShare d)
            ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)
            ∗ (∃ W', owes (c : Thread nD τ) 0 W')) -∗ K ⟨⟩))
      ⊢ wp frame (wpE (defs₀ (F := F)) Variants.none c none) Set.univ
          (cc0_q4_swiglu (grid0.coords t) arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K := by
  rcases conds t with ⟨h1, h2, h3⟩ | ⟨h1, h2, h3⟩ | ⟨h1, h2, h3⟩
  · exact kernelRunA c _ h1 h2 h3 arg1 harg1 arg2 harg2 arg3 harg3 arg4 harg4 arg5 harg5 arg6 harg6 arg7 harg7 arg8 harg8 X1 X2 X3 X4 X5 X6 X7 W K
  · exact kernelRunB c _ h1 h2 h3 arg1 harg1 arg2 harg2 arg3 harg3 arg4 harg4 arg5 harg5 arg6 harg6 arg7 harg7 arg8 harg8 X1 X2 X3 X4 X5 X6 X7 W K
  · exact kernelRunC c _ h1 h2 h3 arg1 harg1 arg2 harg2 arg3 harg3 arg4 harg4 arg5 harg5 arg6 harg6 arg7 harg7 arg8 harg8 X1 X2 X3 X4 X5 X6 X7 W K

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA
  rw [scopedRest0_eq]
  simp only [scM0, scM1, scM2, scM3, scM4, scM5, scM6, scM7, owns_whole]; try rfl

/-- The output window is forgotten, every input keeps its block. -/
abbrev fgt0 : Fin 8 → Bool := fun | 0 => false | 1 => false | 2 => false | 3 => false | 4 => false | 5 => false | 6 => false | 7 => true | ⟨_ + 8, h⟩ => absurd h (Nat.not_lt.2 (Nat.le_add_left _ _))

/-- The proof data of the one pipeline on core `c`: the arrays as the region finds them, every input's buffer left at its
    block, the output's buffer not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6]
  rw [show (dats m 0 c).Φ t.castSucc = Pipeline.ΦA spec0 c from rfl, PhiA0_eq]
  simp only [before0_0, before0_1, before0_2, before0_3, before0_4, before0_5, before0_6]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, H7⟩
  iapply (kernelRun c t _ _ _ _ _ _ _ _ _ _ _ _ _ _ _ _ (iblk m c 0 t) (iblk m c 1 t) (iblk m c 2 t) (iblk m c 3 t) (iblk m c 4 t) (iblk m c 5 t) (iblk m c 6 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HW]; · iexact HW
  iintro ⟨H0, H1, H2, H3, H4, H5, H6, H7, HS0, HS1, HS2, HS3, HS4, HS5, HS6, HS7, ⟨%W', HW'⟩⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePostR cfg0 (fun c => (dats m 0 c).toRForget fgt0) {main_v2} (V m) r ∧ r.2.sem = fun _ => 0) :=
  Pipeline.θ_run_frame_around_T_forget (Q' := _) cfgs (dats m) (0 : Fin 1) launch0 defs₀ Variants.none fgt0 {main_v2} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      exact Finset.mem_singleton.mpr (Proc.devRef_injective _ hb))
    (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      (congrFun ((((dats m 0 c).toRForget fgt0).ArrAt_in 1 rfl _)) _ ▸ ((h.1 c).1 1) : _ = _).trans ((A_eq m c 1).trans (V_main_arg1 m c)),
      (congrFun ((((dats m 0 c).toRForget fgt0).ArrAt_in 2 rfl _)) _ ▸ ((h.1 c).1 2) : _ = _).trans ((A_eq m c 2).trans (V_main_arg2 m c)),
      (congrFun ((((dats m 0 c).toRForget fgt0).ArrAt_in 3 rfl _)) _ ▸ ((h.1 c).1 3) : _ = _).trans ((A_eq m c 3).trans (V_main_arg3 m c)),
      (congrFun ((((dats m 0 c).toRForget fgt0).ArrAt_in 4 rfl _)) _ ▸ ((h.1 c).1 4) : _ = _).trans ((A_eq m c 4).trans (V_main_arg4 m c)),
      (congrFun ((((dats m 0 c).toRForget fgt0).ArrAt_in 5 rfl _)) _ ▸ ((h.1 c).1 5) : _ = _).trans ((A_eq m c 5).trans (V_main_arg5 m c)),
      (congrFun ((((dats m 0 c).toRForget fgt0).ArrAt_in 6 rfl _)) _ ▸ ((h.1 c).1 6) : _ = _).trans ((A_eq m c 6).trans (V_main_arg6 m c))⟩, h.2⟩) (run_main m ρ)

end Cert.KernelIdeal.Hand

end
-- ==== Proof.Claims.lean ====
module

public import proofs.«01_k».proof.Defs
public import proofs.«01_k».proof.Proof.BodyKernel
public import proofs.«01_k».proof.Proof.BodyKernelIdeal
public import proofs.«01_k».proof.Proof.Gen.ReferenceIdeal.Run
public import Idealize.ShloMosaic.Lib.Bf16PairInverse
public import Idealize.ShloMosaic.Lib.Quiescent

@[expose] public section

noncomputable section

namespace Cert.Proof.Claims

open Idealize.ShloMosaic Idealize.SL.Sem

theorem frame_p : Cert.quiescent_Kernel := fun m ρ _ => Cert.Kernel.Hand.frame m ρ
theorem frame_pi : Cert.quiescent_KernelIdeal := fun m ρ _ => Cert.KernelIdeal.Hand.frame m ρ
/-- The reference launches no kernel: its run theorem gives the unchanged arguments, and with no semaphore in the
    program every counter stays at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The ten statements are the library's, at the two scratch shapes and the shapes of the packed pieces. -/
theorem preserves : Cert.preserves_Kernel_KernelIdeal :=
  open Cert.KernelIdeal IdealRules.bf16_pair in
  ⟨bufferStatement _ _, bufferStatement _ _, packStatement _, statement _ _, packStatement _, statement _ _, statement _ _,
    statement _ _, packStatement _, statement _ _⟩

end Cert.Proof.Claims

end
-- ==== Proof.Run.lean ====
module

public import proofs.«01_k».proof.Proof.BodyKernelIdeal
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole at given raw contents. -/
def pts (c : Dev nD) {sh : Shape} {e : EltTy} (m : Memref sig .tc .vmem sh e) (f : BufTy.Contents (Elt F) m.view.ty) : sProp 𝕄 :=
  iprop((m.view.loc (c : Thread nD τ) ↦[m.view.set]{fullShare} f))

set_option maxHeartbeats 40000000 in
def runA (c : Dev nD) (i : grid0.Coords) (h1 : k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    Σ' (g9 : BufTy.Contents (Elt F) scM0.view.ty), { g10 : BufTy.Contents (Elt F) scM1.view.ty // ∀ (W : Waits sig Unit) (K : PUnit → sProp 𝕄),
    iprop(pts c arg1 (f1) ∗ pts c arg2 (f2) ∗ pts c arg3 (f3) ∗ pts c arg4 (f4) ∗ pts c arg5 (f5) ∗ pts c arg6 (f6) ∗ pts c arg7 (f7) ∗ pts c arg8 (f8) ∗ pts c scM0 (f9) ∗ pts c scM1 (f10) ∗ pts c scM2 (f11) ∗ pts c scM3 (f12) ∗ pts c scM4 (f13) ∗ pts c scM5 (f14) ∗ pts c scM6 (f15) ∗ pts c scM7 (f16)
        ∗ owes (c : Thread nD τ) 0 W
        ∗ (iprop(pts c arg1 (f1) ∗ pts c arg2 (f2) ∗ pts c arg3 (f3) ∗ pts c arg4 (f4) ∗ pts c arg5 (f5) ∗ pts c arg6 (f6) ∗ pts c arg7 (f7) ∗ (∃ g, pts c arg8 (g)) ∗ pts c scM0 (g9) ∗ pts c scM1 (g10) ∗ (∃ g, pts c scM2 (g)) ∗ (∃ g, pts c scM3 (g)) ∗ (∃ g, pts c scM4 (g)) ∗ (∃ g, pts c scM5 (g)) ∗ (∃ g, pts c scM6 (g)) ∗ (∃ g, pts c scM7 (g))
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K } := by
  refine ⟨?_, ?_, fun W K => ?run⟩
  case run =>
    simp only [cc0_q4_swiglu_eq_skeleton]; unfold cc0_q4_swiglu_skel; unfold pts
    iintro ⟨H1, H2, H3, H4, H5, H6, H7, H8, H9, H10, H11, H12, H13, H14, H15, H16, HW, Hk⟩
    sl_exec (disch := first | sl_exact h1 | sl_exact h2 | sl_exact h3)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexact H9
    isplitl [H10]
    · iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact HW

set_option maxHeartbeats 40000000 in
def runB (c : Dev nD) (i : grid0.Coords) (h1 : ¬ k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    { g10 : BufTy.Contents (Elt F) scM1.view.ty // ∀ (W : Waits sig Unit) (K : PUnit → sProp 𝕄),
    iprop(pts c arg1 (f1) ∗ pts c arg2 (f2) ∗ pts c arg3 (f3) ∗ pts c arg4 (f4) ∗ pts c arg5 (f5) ∗ pts c arg6 (f6) ∗ pts c arg7 (f7) ∗ pts c arg8 (f8) ∗ pts c scM0 (f9) ∗ pts c scM1 (f10) ∗ pts c scM2 (f11) ∗ pts c scM3 (f12) ∗ pts c scM4 (f13) ∗ pts c scM5 (f14) ∗ pts c scM6 (f15) ∗ pts c scM7 (f16)
        ∗ owes (c : Thread nD τ) 0 W
        ∗ (iprop(pts c arg1 (f1) ∗ pts c arg2 (f2) ∗ pts c arg3 (f3) ∗ pts c arg4 (f4) ∗ pts c arg5 (f5) ∗ pts c arg6 (f6) ∗ pts c arg7 (f7) ∗ (∃ g, pts c arg8 (g)) ∗ pts c scM0 (f9) ∗ pts c scM1 (g10) ∗ (∃ g, pts c scM2 (g)) ∗ (∃ g, pts c scM3 (g)) ∗ (∃ g, pts c scM4 (g)) ∗ (∃ g, pts c scM5 (g)) ∗ (∃ g, pts c scM6 (g)) ∗ (∃ g, pts c scM7 (g))
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K } := by
  refine ⟨?_, fun W K => ?run⟩
  case run =>
    simp only [cc0_q4_swiglu_eq_skeleton]; unfold cc0_q4_swiglu_skel; unfold pts
    iintro ⟨H1, H2, H3, H4, H5, H6, H7, H8, H9, H10, H11, H12, H13, H14, H15, H16, HW, Hk⟩
    sl_exec (disch := first | sl_exact h1 | sl_exact h2 | sl_exact h3)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexact H9
    isplitl [H10]
    · iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact HW

set_option maxHeartbeats 40000000 in
def runC (c : Dev nD) (i : grid0.Coords) (h1 : ¬ k0_cond1 i = 1#1) (h2 : ¬ k0_cond2 i = 1#1) (h3 : k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    { g8 : BufTy.Contents (Elt F) arg8.view.ty // ∀ (W : Waits sig Unit) (K : PUnit → sProp 𝕄),
    iprop(pts c arg1 (f1) ∗ pts c arg2 (f2) ∗ pts c arg3 (f3) ∗ pts c arg4 (f4) ∗ pts c arg5 (f5) ∗ pts c arg6 (f6) ∗ pts c arg7 (f7) ∗ pts c arg8 (f8) ∗ pts c scM0 (f9) ∗ pts c scM1 (f10) ∗ pts c scM2 (f11) ∗ pts c scM3 (f12) ∗ pts c scM4 (f13) ∗ pts c scM5 (f14) ∗ pts c scM6 (f15) ∗ pts c scM7 (f16)
        ∗ owes (c : Thread nD τ) 0 W
        ∗ (iprop(pts c arg1 (f1) ∗ pts c arg2 (f2) ∗ pts c arg3 (f3) ∗ pts c arg4 (f4) ∗ pts c arg5 (f5) ∗ pts c arg6 (f6) ∗ pts c arg7 (f7) ∗ pts c arg8 (g8) ∗ pts c scM0 (f9) ∗ pts c scM1 (f10) ∗ (∃ g, pts c scM2 (g)) ∗ (∃ g, pts c scM3 (g)) ∗ (∃ g, pts c scM4 (g)) ∗ (∃ g, pts c scM5 (g)) ∗ (∃ g, pts c scM6 (g)) ∗ (∃ g, pts c scM7 (g))
            ∗ (∃ W', owes (c : Thread nD τ) 0 W')) -∗ K ⟨⟩))
      ⊢ wp frame (wpE (defs₀ (F := F)) Variants.none c none) Set.univ
          (cc0_q4_swiglu i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _)) K } := by
  refine ⟨?_, fun W K => ?run⟩
  case run =>
    simp only [cc0_q4_swiglu_eq_skeleton]; unfold cc0_q4_swiglu_skel; unfold pts
    iintro ⟨H1, H2, H3, H4, H5, H6, H7, H8, H9, H10, H11, H12, H13, H14, H15, H16, HW, Hk⟩
    sl_exec (disch := first | sl_exact h1 | sl_exact h2 | sl_exact h3)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact HW

end Cert.KernelIdeal.Val
-- ==== Proof.Canon.lean ====
module

public import proofs.«01_k».proof.Proof.Run
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scale of the low row of each word pair, as the upper half of a word. -/
def half0 (sh : Shape) (w : IVec sh 32) : IVec sh 32 := shli w (broadcast sh 16#32)
/-- The scale of the high row of each word pair, as the upper half of a word. -/
def half1 (sh : Shape) (w : IVec sh 32) : IVec sh 32 := andi w (broadcast sh 4294901760#32)

/-- The decoded half-precision number in the upper half of each word. -/
def decV (sh : Shape) (v : IVec sh 32) : FVec F sh .f32 :=
  mulf (select (cmpi .ne (andi v (broadcast sh 2147483648#32)) (broadcast sh 0#32))
      (broadcast sh (Scalar.ofBits .f32 0xBF800000#32)) (broadcast sh (Scalar.ofBits .f32 0x3F800000#32)))
    (minimumf (bitcastToFloat .f32 (addi (shrsi (andi v (broadcast sh 2147418112#32)) (broadcast sh 3#32)) (broadcast sh 939524096#32)))
      (subf (addf (bitcastToFloat .f32 (addi (shrsi (andi v (broadcast sh 2147418112#32)) (broadcast sh 3#32)) (broadcast sh 939524096#32)))
          (bitcastToFloat .f32 (addi (shrsi (andi v (broadcast sh 2147418112#32)) (broadcast sh 3#32)) (broadcast sh 939524096#32))))
        (broadcast sh (Scalar.ofBits .f32 0x38800000#32))))

/-- The high part of the split. -/
def hiV (sh : Shape) (s : FVec F sh .f32) : FVec F sh .f32 :=
  subf (mulf (mulf s (broadcast sh (Scalar.ofBits .f32 0x3F800400#32))) (broadcast sh (Scalar.ofBits .f32 0x49000010#32)))
    (subf (mulf (mulf s (broadcast sh (Scalar.ofBits .f32 0x3F800400#32))) (broadcast sh (Scalar.ofBits .f32 0x49000010#32)))
      (mulf s (broadcast sh (Scalar.ofBits .f32 0x3F800400#32))))

def hiT (sh : Shape) (v : IVec sh 32) : FVec F sh .bf16 := truncf .bf16 (hiV sh (decV sh v)) bitsLt_bf16_f32
def loT (sh : Shape) (v : IVec sh 32) : FVec F sh .bf16 := truncf .bf16 (subf (decV sh v) (hiV sh (decV sh v))) bitsLt_bf16_f32

/-- The row pairs of 128 groups' scales, transposed: one word per group and row pair. -/
def words128 (v : Vec F S512x128 .i16) : IVec S128x256 32 :=
  transpose S128x256 [1, 0] (bitcast S256x128 32 v bitcasts_S512x128_w16_S256x128_w32) transposes_S256x128_p1_0_S128x256
def col128_0 (src : FVec F S128x256 .bf16) : Vec F S1x128x2x128 .bf16 :=
  interleaveRows S1x128x2x128 (shapeCast S1x128x1x128 (shapeCast S1x128x128 (extractStridedSlice S128x128 ![0, 0] src slices_S128x256_o0_0_S128x128) shapeCasts_S128x128_S1x128x128) shapeCasts_S1x128x128_S1x128x1x128)
    (shapeCast S1x128x1x128 (shapeCast S1x128x128 (extractStridedSlice S128x128 ![0, 0] src slices_S128x256_o0_0_S128x128) shapeCasts_S128x128_S1x128x128) shapeCasts_S1x128x128_S1x128x1x128) bitcasts_S1x128x2x128_w16_S1x128x1x128_w32
def col128_1 (src : FVec F S128x256 .bf16) : Vec F S1x128x2x128 .bf16 :=
  interleaveRows S1x128x2x128 (shapeCast S1x128x1x128 (shapeCast S1x128x128 (extractStridedSlice S128x128 ![0, 128] src slices_S128x256_o0_128_S128x128) shapeCasts_S128x128_S1x128x128) shapeCasts_S1x128x128_S1x128x1x128)
    (shapeCast S1x128x1x128 (shapeCast S1x128x128 (extractStridedSlice S128x128 ![0, 128] src slices_S128x256_o0_128_S128x128) shapeCasts_S128x128_S1x128x128) shapeCasts_S1x128x128_S1x128x1x128) bitcasts_S1x128x2x128_w16_S1x128x1x128_w32

/-- The row pairs of 96 groups' scales, transposed: one word per group and row pair. -/
def words96 (v : Vec F S512x96 .i16) : IVec S96x256 32 :=
  transpose S96x256 [1, 0] (bitcast S256x96 32 v bitcasts_S512x96_w16_S256x96_w32) transposes_S256x96_p1_0_S96x256
def col96_0 (src : FVec F S96x256 .bf16) : Vec F S1x96x2x128 .bf16 :=
  interleaveRows S1x96x2x128 (shapeCast S1x96x1x128 (shapeCast S1x96x128 (extractStridedSlice S96x128 ![0, 0] src slices_S96x256_o0_0_S96x128) shapeCasts_S96x128_S1x96x128) shapeCasts_S1x96x128_S1x96x1x128)
    (shapeCast S1x96x1x128 (shapeCast S1x96x128 (extractStridedSlice S96x128 ![0, 0] src slices_S96x256_o0_0_S96x128) shapeCasts_S96x128_S1x96x128) shapeCasts_S1x96x128_S1x96x1x128) bitcasts_S1x96x2x128_w16_S1x96x1x128_w32
def col96_1 (src : FVec F S96x256 .bf16) : Vec F S1x96x2x128 .bf16 :=
  interleaveRows S1x96x2x128 (shapeCast S1x96x1x128 (shapeCast S1x96x128 (extractStridedSlice S96x128 ![0, 128] src slices_S96x256_o0_128_S96x128) shapeCasts_S96x128_S1x96x128) shapeCasts_S1x96x128_S1x96x1x128)
    (shapeCast S1x96x1x128 (shapeCast S1x96x128 (extractStridedSlice S96x128 ![0, 128] src slices_S96x256_o0_128_S96x128) shapeCasts_S96x128_S1x96x128) shapeCasts_S1x96x128_S1x96x1x128) bitcasts_S1x96x2x128_w16_S1x96x1x128_w32

/-- The row pairs of 16 groups' scales, transposed: one word per group and row pair. -/
def words16 (v : Vec F S512x16 .i16) : IVec S16x256 32 :=
  transpose S16x256 [1, 0] (bitcast S256x16 32 v bitcasts_S512x16_w16_S256x16_w32) transposes_S256x16_p1_0_S16x256
def col16_0 (src : FVec F S16x256 .bf16) : Vec F S1x16x2x128 .bf16 :=
  interleaveRows S1x16x2x128 (shapeCast S1x16x1x128 (shapeCast S1x16x128 (extractStridedSlice S16x128 ![0, 0] src slices_S16x256_o0_0_S16x128) shapeCasts_S16x128_S1x16x128) shapeCasts_S1x16x128_S1x16x1x128)
    (shapeCast S1x16x1x128 (shapeCast S1x16x128 (extractStridedSlice S16x128 ![0, 0] src slices_S16x256_o0_0_S16x128) shapeCasts_S16x128_S1x16x128) shapeCasts_S1x16x128_S1x16x1x128) bitcasts_S1x16x2x128_w16_S1x16x1x128_w32
def col16_1 (src : FVec F S16x256 .bf16) : Vec F S1x16x2x128 .bf16 :=
  interleaveRows S1x16x2x128 (shapeCast S1x16x1x128 (shapeCast S1x16x128 (extractStridedSlice S16x128 ![0, 128] src slices_S16x256_o0_128_S16x128) shapeCasts_S16x128_S1x16x128) shapeCasts_S1x16x128_S1x16x1x128)
    (shapeCast S1x16x1x128 (shapeCast S1x16x128 (extractStridedSlice S16x128 ![0, 128] src slices_S16x256_o0_128_S16x128) shapeCasts_S16x128_S1x16x128) shapeCasts_S1x16x128_S1x16x1x128) bitcasts_S1x16x2x128_w16_S1x16x1x128_w32

/-- The 32 stores of one prepared scale buffer, the last first. -/
def prep1792 (a0 a1 : FVec F S128x256 .bf16) (b0 b1 : FVec F S96x256 .bf16) : List (View.Piece (Elt F) S2x1792x2x128 .bf16) :=
  [⟨⟨⟨![1, 1031, 0, 0], S1x96x2x128.size, ![1, 8, 1, 1], inb_S2x1792x2x128_S1x96x2x128_1_1031_0_0_s_1_8_1_1⟩, spos_1_8_1_1⟩, col96_1 b1⟩,
   ⟨⟨⟨![0, 1031, 0, 0], S1x96x2x128.size, ![1, 8, 1, 1], inb_S2x1792x2x128_S1x96x2x128_0_1031_0_0_s_1_8_1_1⟩, spos_1_8_1_1⟩, col96_0 b1⟩,
   ⟨⟨⟨![1, 1029, 0, 0], S1x96x2x128.size, ![1, 8, 1, 1], inb_S2x1792x2x128_S1x96x2x128_1_1029_0_0_s_1_8_1_1⟩, spos_1_8_1_1⟩, col96_1 b1⟩,
   ⟨⟨⟨![0, 1029, 0, 0], S1x96x2x128.size, ![1, 8, 1, 1], inb_S2x1792x2x128_S1x96x2x128_0_1029_0_0_s_1_8_1_1⟩, spos_1_8_1_1⟩, col96_0 b1⟩,
   ⟨⟨⟨![1, 1027, 0, 0], S1x96x2x128.size, ![1, 8, 1, 1], inb_S2x1792x2x128_S1x96x2x128_1_1027_0_0_s_1_8_1_1⟩, spos_1_8_1_1⟩, col96_1 b1⟩,
   ⟨⟨⟨![0, 1027, 0, 0], S1x96x2x128.size, ![1, 8, 1, 1], inb_S2x1792x2x128_S1x96x2x128_0_1027_0_0_s_1_8_1_1⟩, spos_1_8_1_1⟩, col96_0 b1⟩,
   ⟨⟨⟨![1, 1025, 0, 0], S1x96x2x128.size, ![1, 8, 1, 1], inb_S2x1792x2x128_S1x96x2x128_1_1025_0_0_s_1_8_1_1⟩, spos_1_8_1_1⟩, col96_1 b1⟩,
   ⟨⟨⟨![0, 1025, 0, 0], S1x96x2x128.size, ![1, 8, 1, 1], inb_S2x1792x2x128_S1x96x2x128_0_1025_0_0_s_1_8_1_1⟩, spos_1_8_1_1⟩, col96_0 b1⟩,
   ⟨⟨⟨![1, 1030, 0, 0], S1x96x2x128.size, ![1, 8, 1, 1], inb_S2x1792x2x128_S1x96x2x128_1_1030_0_0_s_1_8_1_1⟩, spos_1_8_1_1⟩, col96_1 b0⟩,
   ⟨⟨⟨![0, 1030, 0, 0], S1x96x2x128.size, ![1, 8, 1, 1], inb_S2x1792x2x128_S1x96x2x128_0_1030_0_0_s_1_8_1_1⟩, spos_1_8_1_1⟩, col96_0 b0⟩,
   ⟨⟨⟨![1, 1028, 0, 0], S1x96x2x128.size, ![1, 8, 1, 1], inb_S2x1792x2x128_S1x96x2x128_1_1028_0_0_s_1_8_1_1⟩, spos_1_8_1_1⟩, col96_1 b0⟩,
   ⟨⟨⟨![0, 1028, 0, 0], S1x96x2x128.size, ![1, 8, 1, 1], inb_S2x1792x2x128_S1x96x2x128_0_1028_0_0_s_1_8_1_1⟩, spos_1_8_1_1⟩, col96_0 b0⟩,
   ⟨⟨⟨![1, 1026, 0, 0], S1x96x2x128.size, ![1, 8, 1, 1], inb_S2x1792x2x128_S1x96x2x128_1_1026_0_0_s_1_8_1_1⟩, spos_1_8_1_1⟩, col96_1 b0⟩,
   ⟨⟨⟨![0, 1026, 0, 0], S1x96x2x128.size, ![1, 8, 1, 1], inb_S2x1792x2x128_S1x96x2x128_0_1026_0_0_s_1_8_1_1⟩, spos_1_8_1_1⟩, col96_0 b0⟩,
   ⟨⟨⟨![1, 1024, 0, 0], S1x96x2x128.size, ![1, 8, 1, 1], inb_S2x1792x2x128_S1x96x2x128_1_1024_0_0_s_1_8_1_1⟩, spos_1_8_1_1⟩, col96_1 b0⟩,
   ⟨⟨⟨![0, 1024, 0, 0], S1x96x2x128.size, ![1, 8, 1, 1], inb_S2x1792x2x128_S1x96x2x128_0_1024_0_0_s_1_8_1_1⟩, spos_1_8_1_1⟩, col96_0 b0⟩,
   ⟨⟨⟨![1, 7, 0, 0], S1x128x2x128.size, ![1, 8, 1, 1], inb_S2x1792x2x128_S1x128x2x128_1_7_0_0_s_1_8_1_1⟩, spos_1_8_1_1⟩, col128_1 a1⟩,
   ⟨⟨⟨![0, 7, 0, 0], S1x128x2x128.size, ![1, 8, 1, 1], inb_S2x1792x2x128_S1x128x2x128_0_7_0_0_s_1_8_1_1⟩, spos_1_8_1_1⟩, col128_0 a1⟩,
   ⟨⟨⟨![1, 5, 0, 0], S1x128x2x128.size, ![1, 8, 1, 1], inb_S2x1792x2x128_S1x128x2x128_1_5_0_0_s_1_8_1_1⟩, spos_1_8_1_1⟩, col128_1 a1⟩,
   ⟨⟨⟨![0, 5, 0, 0], S1x128x2x128.size, ![1, 8, 1, 1], inb_S2x1792x2x128_S1x128x2x128_0_5_0_0_s_1_8_1_1⟩, spos_1_8_1_1⟩, col128_0 a1⟩,
   ⟨⟨⟨![1, 3, 0, 0], S1x128x2x128.size, ![1, 8, 1, 1], inb_S2x1792x2x128_S1x128x2x128_1_3_0_0_s_1_8_1_1⟩, spos_1_8_1_1⟩, col128_1 a1⟩,
   ⟨⟨⟨![0, 3, 0, 0], S1x128x2x128.size, ![1, 8, 1, 1], inb_S2x1792x2x128_S1x128x2x128_0_3_0_0_s_1_8_1_1⟩, spos_1_8_1_1⟩, col128_0 a1⟩,
   ⟨⟨⟨![1, 1, 0, 0], S1x128x2x128.size, ![1, 8, 1, 1], inb_S2x1792x2x128_S1x128x2x128_1_1_0_0_s_1_8_1_1⟩, spos_1_8_1_1⟩, col128_1 a1⟩,
   ⟨⟨⟨![0, 1, 0, 0], S1x128x2x128.size, ![1, 8, 1, 1], inb_S2x1792x2x128_S1x128x2x128_0_1_0_0_s_1_8_1_1⟩, spos_1_8_1_1⟩, col128_0 a1⟩,
   ⟨⟨⟨![1, 6, 0, 0], S1x128x2x128.size, ![1, 8, 1, 1], inb_S2x1792x2x128_S1x128x2x128_1_6_0_0_s_1_8_1_1⟩, spos_1_8_1_1⟩, col128_1 a0⟩,
   ⟨⟨⟨![0, 6, 0, 0], S1x128x2x128.size, ![1, 8, 1, 1], inb_S2x1792x2x128_S1x128x2x128_0_6_0_0_s_1_8_1_1⟩, spos_1_8_1_1⟩, col128_0 a0⟩,
   ⟨⟨⟨![1, 4, 0, 0], S1x128x2x128.size, ![1, 8, 1, 1], inb_S2x1792x2x128_S1x128x2x128_1_4_0_0_s_1_8_1_1⟩, spos_1_8_1_1⟩, col128_1 a0⟩,
   ⟨⟨⟨![0, 4, 0, 0], S1x128x2x128.size, ![1, 8, 1, 1], inb_S2x1792x2x128_S1x128x2x128_0_4_0_0_s_1_8_1_1⟩, spos_1_8_1_1⟩, col128_0 a0⟩,
   ⟨⟨⟨![1, 2, 0, 0], S1x128x2x128.size, ![1, 8, 1, 1], inb_S2x1792x2x128_S1x128x2x128_1_2_0_0_s_1_8_1_1⟩, spos_1_8_1_1⟩, col128_1 a0⟩,
   ⟨⟨⟨![0, 2, 0, 0], S1x128x2x128.size, ![1, 8, 1, 1], inb_S2x1792x2x128_S1x128x2x128_0_2_0_0_s_1_8_1_1⟩, spos_1_8_1_1⟩, col128_0 a0⟩,
   ⟨⟨⟨![1, 0, 0, 0], S1x128x2x128.size, ![1, 8, 1, 1], inb_S2x1792x2x128_S1x128x2x128_1_0_0_0_s_1_8_1_1⟩, spos_1_8_1_1⟩, col128_1 a0⟩,
   ⟨⟨⟨![0, 0, 0, 0], S1x128x2x128.size, ![1, 8, 1, 1], inb_S2x1792x2x128_S1x128x2x128_0_0_0_0_s_1_8_1_1⟩, spos_1_8_1_1⟩, col128_0 a0⟩]

/-- The stores of the high parts of one scale block. -/
def prepHi1792 (x : Vec F S512x128 .i16) (y : Vec F S512x96 .i16) : List (View.Piece (Elt F) S2x1792x2x128 .bf16) :=
  prep1792 (hiT _ (half0 _ (words128 x))) (hiT _ (half1 _ (words128 x))) (hiT _ (half0 _ (words96 y))) (hiT _ (half1 _ (words96 y)))
/-- The stores of the low parts of one scale block. -/
def prepLo1792 (x : Vec F S512x128 .i16) (y : Vec F S512x96 .i16) : List (View.Piece (Elt F) S2x1792x2x128 .bf16) :=
  prep1792 (loT _ (half0 _ (words128 x))) (loT _ (half1 _ (words128 x))) (loT _ (half0 _ (words96 y))) (loT _ (half1 _ (words96 y)))

/-- The 32 stores of one prepared scale buffer, the last first. -/
def prep1152 (a0 a1 : FVec F S128x256 .bf16) (b0 b1 : FVec F S16x256 .bf16) : List (View.Piece (Elt F) S2x1152x2x128 .bf16) :=
  [⟨⟨⟨![1, 1031, 0, 0], S1x16x2x128.size, ![1, 8, 1, 1], inb_S2x1152x2x128_S1x16x2x128_1_1031_0_0_s_1_8_1_1⟩, spos_1_8_1_1⟩, col16_1 b1⟩,
   ⟨⟨⟨![0, 1031, 0, 0], S1x16x2x128.size, ![1, 8, 1, 1], inb_S2x1152x2x128_S1x16x2x128_0_1031_0_0_s_1_8_1_1⟩, spos_1_8_1_1⟩, col16_0 b1⟩,
   ⟨⟨⟨![1, 1029, 0, 0], S1x16x2x128.size, ![1, 8, 1, 1], inb_S2x1152x2x128_S1x16x2x128_1_1029_0_0_s_1_8_1_1⟩, spos_1_8_1_1⟩, col16_1 b1⟩,
   ⟨⟨⟨![0, 1029, 0, 0], S1x16x2x128.size, ![1, 8, 1, 1], inb_S2x1152x2x128_S1x16x2x128_0_1029_0_0_s_1_8_1_1⟩, spos_1_8_1_1⟩, col16_0 b1⟩,
   ⟨⟨⟨![1, 1027, 0, 0], S1x16x2x128.size, ![1, 8, 1, 1], inb_S2x1152x2x128_S1x16x2x128_1_1027_0_0_s_1_8_1_1⟩, spos_1_8_1_1⟩, col16_1 b1⟩,
   ⟨⟨⟨![0, 1027, 0, 0], S1x16x2x128.size, ![1, 8, 1, 1], inb_S2x1152x2x128_S1x16x2x128_0_1027_0_0_s_1_8_1_1⟩, spos_1_8_1_1⟩, col16_0 b1⟩,
   ⟨⟨⟨![1, 1025, 0, 0], S1x16x2x128.size, ![1, 8, 1, 1], inb_S2x1152x2x128_S1x16x2x128_1_1025_0_0_s_1_8_1_1⟩, spos_1_8_1_1⟩, col16_1 b1⟩,
   ⟨⟨⟨![0, 1025, 0, 0], S1x16x2x128.size, ![1, 8, 1, 1], inb_S2x1152x2x128_S1x16x2x128_0_1025_0_0_s_1_8_1_1⟩, spos_1_8_1_1⟩, col16_0 b1⟩,
   ⟨⟨⟨![1, 1030, 0, 0], S1x16x2x128.size, ![1, 8, 1, 1], inb_S2x1152x2x128_S1x16x2x128_1_1030_0_0_s_1_8_1_1⟩, spos_1_8_1_1⟩, col16_1 b0⟩,
   ⟨⟨⟨![0, 1030, 0, 0], S1x16x2x128.size, ![1, 8, 1, 1], inb_S2x1152x2x128_S1x16x2x128_0_1030_0_0_s_1_8_1_1⟩, spos_1_8_1_1⟩, col16_0 b0⟩,
   ⟨⟨⟨![1, 1028, 0, 0], S1x16x2x128.size, ![1, 8, 1, 1], inb_S2x1152x2x128_S1x16x2x128_1_1028_0_0_s_1_8_1_1⟩, spos_1_8_1_1⟩, col16_1 b0⟩,
   ⟨⟨⟨![0, 1028, 0, 0], S1x16x2x128.size, ![1, 8, 1, 1], inb_S2x1152x2x128_S1x16x2x128_0_1028_0_0_s_1_8_1_1⟩, spos_1_8_1_1⟩, col16_0 b0⟩,
   ⟨⟨⟨![1, 1026, 0, 0], S1x16x2x128.size, ![1, 8, 1, 1], inb_S2x1152x2x128_S1x16x2x128_1_1026_0_0_s_1_8_1_1⟩, spos_1_8_1_1⟩, col16_1 b0⟩,
   ⟨⟨⟨![0, 1026, 0, 0], S1x16x2x128.size, ![1, 8, 1, 1], inb_S2x1152x2x128_S1x16x2x128_0_1026_0_0_s_1_8_1_1⟩, spos_1_8_1_1⟩, col16_0 b0⟩,
   ⟨⟨⟨![1, 1024, 0, 0], S1x16x2x128.size, ![1, 8, 1, 1], inb_S2x1152x2x128_S1x16x2x128_1_1024_0_0_s_1_8_1_1⟩, spos_1_8_1_1⟩, col16_1 b0⟩,
   ⟨⟨⟨![0, 1024, 0, 0], S1x16x2x128.size, ![1, 8, 1, 1], inb_S2x1152x2x128_S1x16x2x128_0_1024_0_0_s_1_8_1_1⟩, spos_1_8_1_1⟩, col16_0 b0⟩,
   ⟨⟨⟨![1, 7, 0, 0], S1x128x2x128.size, ![1, 8, 1, 1], inb_S2x1152x2x128_S1x128x2x128_1_7_0_0_s_1_8_1_1⟩, spos_1_8_1_1⟩, col128_1 a1⟩,
   ⟨⟨⟨![0, 7, 0, 0], S1x128x2x128.size, ![1, 8, 1, 1], inb_S2x1152x2x128_S1x128x2x128_0_7_0_0_s_1_8_1_1⟩, spos_1_8_1_1⟩, col128_0 a1⟩,
   ⟨⟨⟨![1, 5, 0, 0], S1x128x2x128.size, ![1, 8, 1, 1], inb_S2x1152x2x128_S1x128x2x128_1_5_0_0_s_1_8_1_1⟩, spos_1_8_1_1⟩, col128_1 a1⟩,
   ⟨⟨⟨![0, 5, 0, 0], S1x128x2x128.size, ![1, 8, 1, 1], inb_S2x1152x2x128_S1x128x2x128_0_5_0_0_s_1_8_1_1⟩, spos_1_8_1_1⟩, col128_0 a1⟩,
   ⟨⟨⟨![1, 3, 0, 0], S1x128x2x128.size, ![1, 8, 1, 1], inb_S2x1152x2x128_S1x128x2x128_1_3_0_0_s_1_8_1_1⟩, spos_1_8_1_1⟩, col128_1 a1⟩,
   ⟨⟨⟨![0, 3, 0, 0], S1x128x2x128.size, ![1, 8, 1, 1], inb_S2x1152x2x128_S1x128x2x128_0_3_0_0_s_1_8_1_1⟩, spos_1_8_1_1⟩, col128_0 a1⟩,
   ⟨⟨⟨![1, 1, 0, 0], S1x128x2x128.size, ![1, 8, 1, 1], inb_S2x1152x2x128_S1x128x2x128_1_1_0_0_s_1_8_1_1⟩, spos_1_8_1_1⟩, col128_1 a1⟩,
   ⟨⟨⟨![0, 1, 0, 0], S1x128x2x128.size, ![1, 8, 1, 1], inb_S2x1152x2x128_S1x128x2x128_0_1_0_0_s_1_8_1_1⟩, spos_1_8_1_1⟩, col128_0 a1⟩,
   ⟨⟨⟨![1, 6, 0, 0], S1x128x2x128.size, ![1, 8, 1, 1], inb_S2x1152x2x128_S1x128x2x128_1_6_0_0_s_1_8_1_1⟩, spos_1_8_1_1⟩, col128_1 a0⟩,
   ⟨⟨⟨![0, 6, 0, 0], S1x128x2x128.size, ![1, 8, 1, 1], inb_S2x1152x2x128_S1x128x2x128_0_6_0_0_s_1_8_1_1⟩, spos_1_8_1_1⟩, col128_0 a0⟩,
   ⟨⟨⟨![1, 4, 0, 0], S1x128x2x128.size, ![1, 8, 1, 1], inb_S2x1152x2x128_S1x128x2x128_1_4_0_0_s_1_8_1_1⟩, spos_1_8_1_1⟩, col128_1 a0⟩,
   ⟨⟨⟨![0, 4, 0, 0], S1x128x2x128.size, ![1, 8, 1, 1], inb_S2x1152x2x128_S1x128x2x128_0_4_0_0_s_1_8_1_1⟩, spos_1_8_1_1⟩, col128_0 a0⟩,
   ⟨⟨⟨![1, 2, 0, 0], S1x128x2x128.size, ![1, 8, 1, 1], inb_S2x1152x2x128_S1x128x2x128_1_2_0_0_s_1_8_1_1⟩, spos_1_8_1_1⟩, col128_1 a0⟩,
   ⟨⟨⟨![0, 2, 0, 0], S1x128x2x128.size, ![1, 8, 1, 1], inb_S2x1152x2x128_S1x128x2x128_0_2_0_0_s_1_8_1_1⟩, spos_1_8_1_1⟩, col128_0 a0⟩,
   ⟨⟨⟨![1, 0, 0, 0], S1x128x2x128.size, ![1, 8, 1, 1], inb_S2x1152x2x128_S1x128x2x128_1_0_0_0_s_1_8_1_1⟩, spos_1_8_1_1⟩, col128_1 a0⟩,
   ⟨⟨⟨![0, 0, 0, 0], S1x128x2x128.size, ![1, 8, 1, 1], inb_S2x1152x2x128_S1x128x2x128_0_0_0_0_s_1_8_1_1⟩, spos_1_8_1_1⟩, col128_0 a0⟩]

/-- The stores of the high parts of one scale block. -/
def prepHi1152 (x : Vec F S512x128 .i16) (y : Vec F S512x16 .i16) : List (View.Piece (Elt F) S2x1152x2x128 .bf16) :=
  prep1152 (hiT _ (half0 _ (words128 x))) (hiT _ (half1 _ (words128 x))) (hiT _ (half0 _ (words16 y))) (hiT _ (half1 _ (words16 y)))
/-- The stores of the low parts of one scale block. -/
def prepLo1152 (x : Vec F S512x128 .i16) (y : Vec F S512x16 .i16) : List (View.Piece (Elt F) S2x1152x2x128 .bf16) :=
  prep1152 (loT _ (half0 _ (words128 x))) (loT _ (half1 _ (words128 x))) (loT _ (half0 _ (words16 y))) (loT _ (half1 _ (words16 y)))

/-- The selection matrices of the token interleave. -/
def oneHot0 : FVec F S128x256 .bf16 := k0_pay7 (iota .tc S128x256 32 [1] iota_S128x256_d1_w32) k0_pay3 k0_pay4 k0_pay5 k0_pay6
def oneHot1 : FVec F S128x256 .bf16 := k0_pay12 (iota .tc S128x256 32 [1] iota_S128x256_d1_w32) k0_pay8 2#32 k0_pay9 k0_pay10 k0_pay11 0#1
/-- One block of the interleaved tokens. -/
def xeP (x : Vec F S24x128 .bf16) : FVec F S48x256 .bf16 := k0_pay1 (k0_pay85 oneHot0 x) (k0_pay86 oneHot1 x)

def xeL (X : ℕ → Vec F S24x128 .bf16) : List (View.Piece (Elt F) S48x14336 .bf16) :=
  [⟨Rect.unit ![0, 14080] S48x256.size inb_S48x14336_S48x256_0_14080, xeP (X 55)⟩,
   ⟨Rect.unit ![0, 13824] S48x256.size inb_S48x14336_S48x256_0_13824, xeP (X 54)⟩,
   ⟨Rect.unit ![0, 13568] S48x256.size inb_S48x14336_S48x256_0_13568, xeP (X 53)⟩,
   ⟨Rect.unit ![0, 13312] S48x256.size inb_S48x14336_S48x256_0_13312, xeP (X 52)⟩,
   ⟨Rect.unit ![0, 13056] S48x256.size inb_S48x14336_S48x256_0_13056, xeP (X 51)⟩,
   ⟨Rect.unit ![0, 12800] S48x256.size inb_S48x14336_S48x256_0_12800, xeP (X 50)⟩,
   ⟨Rect.unit ![0, 12544] S48x256.size inb_S48x14336_S48x256_0_12544, xeP (X 49)⟩,
   ⟨Rect.unit ![0, 12288] S48x256.size inb_S48x14336_S48x256_0_12288, xeP (X 48)⟩,
   ⟨Rect.unit ![0, 12032] S48x256.size inb_S48x14336_S48x256_0_12032, xeP (X 47)⟩,
   ⟨Rect.unit ![0, 11776] S48x256.size inb_S48x14336_S48x256_0_11776, xeP (X 46)⟩,
   ⟨Rect.unit ![0, 11520] S48x256.size inb_S48x14336_S48x256_0_11520, xeP (X 45)⟩,
   ⟨Rect.unit ![0, 11264] S48x256.size inb_S48x14336_S48x256_0_11264, xeP (X 44)⟩,
   ⟨Rect.unit ![0, 11008] S48x256.size inb_S48x14336_S48x256_0_11008, xeP (X 43)⟩,
   ⟨Rect.unit ![0, 10752] S48x256.size inb_S48x14336_S48x256_0_10752, xeP (X 42)⟩,
   ⟨Rect.unit ![0, 10496] S48x256.size inb_S48x14336_S48x256_0_10496, xeP (X 41)⟩,
   ⟨Rect.unit ![0, 10240] S48x256.size inb_S48x14336_S48x256_0_10240, xeP (X 40)⟩,
   ⟨Rect.unit ![0, 9984] S48x256.size inb_S48x14336_S48x256_0_9984, xeP (X 39)⟩,
   ⟨Rect.unit ![0, 9728] S48x256.size inb_S48x14336_S48x256_0_9728, xeP (X 38)⟩,
   ⟨Rect.unit ![0, 9472] S48x256.size inb_S48x14336_S48x256_0_9472, xeP (X 37)⟩,
   ⟨Rect.unit ![0, 9216] S48x256.size inb_S48x14336_S48x256_0_9216, xeP (X 36)⟩,
   ⟨Rect.unit ![0, 8960] S48x256.size inb_S48x14336_S48x256_0_8960, xeP (X 35)⟩,
   ⟨Rect.unit ![0, 8704] S48x256.size inb_S48x14336_S48x256_0_8704, xeP (X 34)⟩,
   ⟨Rect.unit ![0, 8448] S48x256.size inb_S48x14336_S48x256_0_8448, xeP (X 33)⟩,
   ⟨Rect.unit ![0, 8192] S48x256.size inb_S48x14336_S48x256_0_8192, xeP (X 32)⟩,
   ⟨Rect.unit ![0, 7936] S48x256.size inb_S48x14336_S48x256_0_7936, xeP (X 31)⟩,
   ⟨Rect.unit ![0, 7680] S48x256.size inb_S48x14336_S48x256_0_7680, xeP (X 30)⟩,
   ⟨Rect.unit ![0, 7424] S48x256.size inb_S48x14336_S48x256_0_7424, xeP (X 29)⟩,
   ⟨Rect.unit ![0, 7168] S48x256.size inb_S48x14336_S48x256_0_7168, xeP (X 28)⟩,
   ⟨Rect.unit ![0, 6912] S48x256.size inb_S48x14336_S48x256_0_6912, xeP (X 27)⟩,
   ⟨Rect.unit ![0, 6656] S48x256.size inb_S48x14336_S48x256_0_6656, xeP (X 26)⟩,
   ⟨Rect.unit ![0, 6400] S48x256.size inb_S48x14336_S48x256_0_6400, xeP (X 25)⟩,
   ⟨Rect.unit ![0, 6144] S48x256.size inb_S48x14336_S48x256_0_6144, xeP (X 24)⟩,
   ⟨Rect.unit ![0, 5888] S48x256.size inb_S48x14336_S48x256_0_5888, xeP (X 23)⟩,
   ⟨Rect.unit ![0, 5632] S48x256.size inb_S48x14336_S48x256_0_5632, xeP (X 22)⟩,
   ⟨Rect.unit ![0, 5376] S48x256.size inb_S48x14336_S48x256_0_5376, xeP (X 21)⟩,
   ⟨Rect.unit ![0, 5120] S48x256.size inb_S48x14336_S48x256_0_5120, xeP (X 20)⟩,
   ⟨Rect.unit ![0, 4864] S48x256.size inb_S48x14336_S48x256_0_4864, xeP (X 19)⟩,
   ⟨Rect.unit ![0, 4608] S48x256.size inb_S48x14336_S48x256_0_4608, xeP (X 18)⟩,
   ⟨Rect.unit ![0, 4352] S48x256.size inb_S48x14336_S48x256_0_4352, xeP (X 17)⟩,
   ⟨Rect.unit ![0, 4096] S48x256.size inb_S48x14336_S48x256_0_4096, xeP (X 16)⟩,
   ⟨Rect.unit ![0, 3840] S48x256.size inb_S48x14336_S48x256_0_3840, xeP (X 15)⟩,
   ⟨Rect.unit ![0, 3584] S48x256.size inb_S48x14336_S48x256_0_3584, xeP (X 14)⟩,
   ⟨Rect.unit ![0, 3328] S48x256.size inb_S48x14336_S48x256_0_3328, xeP (X 13)⟩,
   ⟨Rect.unit ![0, 3072] S48x256.size inb_S48x14336_S48x256_0_3072, xeP (X 12)⟩,
   ⟨Rect.unit ![0, 2816] S48x256.size inb_S48x14336_S48x256_0_2816, xeP (X 11)⟩,
   ⟨Rect.unit ![0, 2560] S48x256.size inb_S48x14336_S48x256_0_2560, xeP (X 10)⟩,
   ⟨Rect.unit ![0, 2304] S48x256.size inb_S48x14336_S48x256_0_2304, xeP (X 9)⟩,
   ⟨Rect.unit ![0, 2048] S48x256.size inb_S48x14336_S48x256_0_2048, xeP (X 8)⟩,
   ⟨Rect.unit ![0, 1792] S48x256.size inb_S48x14336_S48x256_0_1792, xeP (X 7)⟩,
   ⟨Rect.unit ![0, 1536] S48x256.size inb_S48x14336_S48x256_0_1536, xeP (X 6)⟩,
   ⟨Rect.unit ![0, 1280] S48x256.size inb_S48x14336_S48x256_0_1280, xeP (X 5)⟩,
   ⟨Rect.unit ![0, 1024] S48x256.size inb_S48x14336_S48x256_0_1024, xeP (X 4)⟩,
   ⟨Rect.unit ![0, 768] S48x256.size inb_S48x14336_S48x256_0_768, xeP (X 3)⟩,
   ⟨Rect.unit ![0, 512] S48x256.size inb_S48x14336_S48x256_0_512, xeP (X 2)⟩,
   ⟨Rect.unit ![0, 256] S48x256.size inb_S48x14336_S48x256_0_256, xeP (X 1)⟩,
   ⟨Rect.unit ![0, 0] S48x256.size inb_S48x14336_S48x256_0_0, xeP (X 0)⟩]

/-- Block `b` of the tokens. -/
def xblk (arg1 : Memref sig .tc .vmem S24x7168 .bf16) (f1 : BufTy.Contents (Elt F) arg1.view.ty) : ℕ → Vec F S24x128 .bf16
  | 0 => arg1.view.readAt (Elt F) (Rect.unit (s := S24x7168) ![0, 0] S24x128.size inb_S24x7168_S24x128_0_0).toLoadRect f1
  | 1 => arg1.view.readAt (Elt F) (Rect.unit (s := S24x7168) ![0, 128] S24x128.size inb_S24x7168_S24x128_0_128).toLoadRect f1
  | 2 => arg1.view.readAt (Elt F) (Rect.unit (s := S24x7168) ![0, 256] S24x128.size inb_S24x7168_S24x128_0_256).toLoadRect f1
  | 3 => arg1.view.readAt (Elt F) (Rect.unit (s := S24x7168) ![0, 384] S24x128.size inb_S24x7168_S24x128_0_384).toLoadRect f1
  | 4 => arg1.view.readAt (Elt F) (Rect.unit (s := S24x7168) ![0, 512] S24x128.size inb_S24x7168_S24x128_0_512).toLoadRect f1
  | 5 => arg1.view.readAt (Elt F) (Rect.unit (s := S24x7168) ![0, 640] S24x128.size inb_S24x7168_S24x128_0_640).toLoadRect f1
  | 6 => arg1.view.readAt (Elt F) (Rect.unit (s := S24x7168) ![0, 768] S24x128.size inb_S24x7168_S24x128_0_768).toLoadRect f1
  | 7 => arg1.view.readAt (Elt F) (Rect.unit (s := S24x7168) ![0, 896] S24x128.size inb_S24x7168_S24x128_0_896).toLoadRect f1
  | 8 => arg1.view.readAt (Elt F) (Rect.unit (s := S24x7168) ![0, 1024] S24x128.size inb_S24x7168_S24x128_0_1024).toLoadRect f1
  | 9 => arg1.view.readAt (Elt F) (Rect.unit (s := S24x7168) ![0, 1152] S24x128.size inb_S24x7168_S24x128_0_1152).toLoadRect f1
  | 10 => arg1.view.readAt (Elt F) (Rect.unit (s := S24x7168) ![0, 1280] S24x128.size inb_S24x7168_S24x128_0_1280).toLoadRect f1
  | 11 => arg1.view.readAt (Elt F) (Rect.unit (s := S24x7168) ![0, 1408] S24x128.size inb_S24x7168_S24x128_0_1408).toLoadRect f1
  | 12 => arg1.view.readAt (Elt F) (Rect.unit (s := S24x7168) ![0, 1536] S24x128.size inb_S24x7168_S24x128_0_1536).toLoadRect f1
  | 13 => arg1.view.readAt (Elt F) (Rect.unit (s := S24x7168) ![0, 1664] S24x128.size inb_S24x7168_S24x128_0_1664).toLoadRect f1
  | 14 => arg1.view.readAt (Elt F) (Rect.unit (s := S24x7168) ![0, 1792] S24x128.size inb_S24x7168_S24x128_0_1792).toLoadRect f1
  | 15 => arg1.view.readAt (Elt F) (Rect.unit (s := S24x7168) ![0, 1920] S24x128.size inb_S24x7168_S24x128_0_1920).toLoadRect f1
  | 16 => arg1.view.readAt (Elt F) (Rect.unit (s := S24x7168) ![0, 2048] S24x128.size inb_S24x7168_S24x128_0_2048).toLoadRect f1
  | 17 => arg1.view.readAt (Elt F) (Rect.unit (s := S24x7168) ![0, 2176] S24x128.size inb_S24x7168_S24x128_0_2176).toLoadRect f1
  | 18 => arg1.view.readAt (Elt F) (Rect.unit (s := S24x7168) ![0, 2304] S24x128.size inb_S24x7168_S24x128_0_2304).toLoadRect f1
  | 19 => arg1.view.readAt (Elt F) (Rect.unit (s := S24x7168) ![0, 2432] S24x128.size inb_S24x7168_S24x128_0_2432).toLoadRect f1
  | 20 => arg1.view.readAt (Elt F) (Rect.unit (s := S24x7168) ![0, 2560] S24x128.size inb_S24x7168_S24x128_0_2560).toLoadRect f1
  | 21 => arg1.view.readAt (Elt F) (Rect.unit (s := S24x7168) ![0, 2688] S24x128.size inb_S24x7168_S24x128_0_2688).toLoadRect f1
  | 22 => arg1.view.readAt (Elt F) (Rect.unit (s := S24x7168) ![0, 2816] S24x128.size inb_S24x7168_S24x128_0_2816).toLoadRect f1
  | 23 => arg1.view.readAt (Elt F) (Rect.unit (s := S24x7168) ![0, 2944] S24x128.size inb_S24x7168_S24x128_0_2944).toLoadRect f1
  | 24 => arg1.view.readAt (Elt F) (Rect.unit (s := S24x7168) ![0, 3072] S24x128.size inb_S24x7168_S24x128_0_3072).toLoadRect f1
  | 25 => arg1.view.readAt (Elt F) (Rect.unit (s := S24x7168) ![0, 3200] S24x128.size inb_S24x7168_S24x128_0_3200).toLoadRect f1
  | 26 => arg1.view.readAt (Elt F) (Rect.unit (s := S24x7168) ![0, 3328] S24x128.size inb_S24x7168_S24x128_0_3328).toLoadRect f1
  | 27 => arg1.view.readAt (Elt F) (Rect.unit (s := S24x7168) ![0, 3456] S24x128.size inb_S24x7168_S24x128_0_3456).toLoadRect f1
  | 28 => arg1.view.readAt (Elt F) (Rect.unit (s := S24x7168) ![0, 3584] S24x128.size inb_S24x7168_S24x128_0_3584).toLoadRect f1
  | 29 => arg1.view.readAt (Elt F) (Rect.unit (s := S24x7168) ![0, 3712] S24x128.size inb_S24x7168_S24x128_0_3712).toLoadRect f1
  | 30 => arg1.view.readAt (Elt F) (Rect.unit (s := S24x7168) ![0, 3840] S24x128.size inb_S24x7168_S24x128_0_3840).toLoadRect f1
  | 31 => arg1.view.readAt (Elt F) (Rect.unit (s := S24x7168) ![0, 3968] S24x128.size inb_S24x7168_S24x128_0_3968).toLoadRect f1
  | 32 => arg1.view.readAt (Elt F) (Rect.unit (s := S24x7168) ![0, 4096] S24x128.size inb_S24x7168_S24x128_0_4096).toLoadRect f1
  | 33 => arg1.view.readAt (Elt F) (Rect.unit (s := S24x7168) ![0, 4224] S24x128.size inb_S24x7168_S24x128_0_4224).toLoadRect f1
  | 34 => arg1.view.readAt (Elt F) (Rect.unit (s := S24x7168) ![0, 4352] S24x128.size inb_S24x7168_S24x128_0_4352).toLoadRect f1
  | 35 => arg1.view.readAt (Elt F) (Rect.unit (s := S24x7168) ![0, 4480] S24x128.size inb_S24x7168_S24x128_0_4480).toLoadRect f1
  | 36 => arg1.view.readAt (Elt F) (Rect.unit (s := S24x7168) ![0, 4608] S24x128.size inb_S24x7168_S24x128_0_4608).toLoadRect f1
  | 37 => arg1.view.readAt (Elt F) (Rect.unit (s := S24x7168) ![0, 4736] S24x128.size inb_S24x7168_S24x128_0_4736).toLoadRect f1
  | 38 => arg1.view.readAt (Elt F) (Rect.unit (s := S24x7168) ![0, 4864] S24x128.size inb_S24x7168_S24x128_0_4864).toLoadRect f1
  | 39 => arg1.view.readAt (Elt F) (Rect.unit (s := S24x7168) ![0, 4992] S24x128.size inb_S24x7168_S24x128_0_4992).toLoadRect f1
  | 40 => arg1.view.readAt (Elt F) (Rect.unit (s := S24x7168) ![0, 5120] S24x128.size inb_S24x7168_S24x128_0_5120).toLoadRect f1
  | 41 => arg1.view.readAt (Elt F) (Rect.unit (s := S24x7168) ![0, 5248] S24x128.size inb_S24x7168_S24x128_0_5248).toLoadRect f1
  | 42 => arg1.view.readAt (Elt F) (Rect.unit (s := S24x7168) ![0, 5376] S24x128.size inb_S24x7168_S24x128_0_5376).toLoadRect f1
  | 43 => arg1.view.readAt (Elt F) (Rect.unit (s := S24x7168) ![0, 5504] S24x128.size inb_S24x7168_S24x128_0_5504).toLoadRect f1
  | 44 => arg1.view.readAt (Elt F) (Rect.unit (s := S24x7168) ![0, 5632] S24x128.size inb_S24x7168_S24x128_0_5632).toLoadRect f1
  | 45 => arg1.view.readAt (Elt F) (Rect.unit (s := S24x7168) ![0, 5760] S24x128.size inb_S24x7168_S24x128_0_5760).toLoadRect f1
  | 46 => arg1.view.readAt (Elt F) (Rect.unit (s := S24x7168) ![0, 5888] S24x128.size inb_S24x7168_S24x128_0_5888).toLoadRect f1
  | 47 => arg1.view.readAt (Elt F) (Rect.unit (s := S24x7168) ![0, 6016] S24x128.size inb_S24x7168_S24x128_0_6016).toLoadRect f1
  | 48 => arg1.view.readAt (Elt F) (Rect.unit (s := S24x7168) ![0, 6144] S24x128.size inb_S24x7168_S24x128_0_6144).toLoadRect f1
  | 49 => arg1.view.readAt (Elt F) (Rect.unit (s := S24x7168) ![0, 6272] S24x128.size inb_S24x7168_S24x128_0_6272).toLoadRect f1
  | 50 => arg1.view.readAt (Elt F) (Rect.unit (s := S24x7168) ![0, 6400] S24x128.size inb_S24x7168_S24x128_0_6400).toLoadRect f1
  | 51 => arg1.view.readAt (Elt F) (Rect.unit (s := S24x7168) ![0, 6528] S24x128.size inb_S24x7168_S24x128_0_6528).toLoadRect f1
  | 52 => arg1.view.readAt (Elt F) (Rect.unit (s := S24x7168) ![0, 6656] S24x128.size inb_S24x7168_S24x128_0_6656).toLoadRect f1
  | 53 => arg1.view.readAt (Elt F) (Rect.unit (s := S24x7168) ![0, 6784] S24x128.size inb_S24x7168_S24x128_0_6784).toLoadRect f1
  | 54 => arg1.view.readAt (Elt F) (Rect.unit (s := S24x7168) ![0, 6912] S24x128.size inb_S24x7168_S24x128_0_6912).toLoadRect f1
  | 55 => arg1.view.readAt (Elt F) (Rect.unit (s := S24x7168) ![0, 7040] S24x128.size inb_S24x7168_S24x128_0_7040).toLoadRect f1
  | _ => arg1.view.readAt (Elt F) (Rect.unit (s := S24x7168) ![0, 0] S24x128.size inb_S24x7168_S24x128_0_0).toLoadRect f1

/-- The two stores of one step's hidden values. -/
def heP0 (g u : FVec F S48x256 .f32) : FVec F S48x512 .bf16 :=
  k0_pay349 (k0_pay345 g u) (k0_pay346 g u) (k0_pay347 g u) (iota .tc S128x512 32 [1] iota_S128x512_d1_w32) k0_pay348 2#32
def heP1 (g u : FVec F S48x256 .f32) : FVec F S48x512 .bf16 :=
  k0_pay2 (k0_pay353 (k0_pay350 (k0_pay344 g u)) (k0_pay351 (k0_pay344 g u)) k0_pay352) (k0_pay354 (k0_pay350 (k0_pay344 g u)) (k0_pay351 (k0_pay344 g u)))

/-- The gate projection of one step. -/
def gate (c : Dev nD) (i : grid0.Coords) (h2 : k0_cond2 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) : FVec F S48x256 .f32 :=
  st_k0_t1 Variants.none c none i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 k0_pay340 0#32 28#32 f2 f9 (scM2.view.writes (Elt F) f11 (prepHi1792 (arg3.view.readAt (Elt F) (Rect.unit (s := S512x224) ![0, 0] S512x128.size inb_S512x224_S512x128_0_0).toLoadRect f3) (arg3.view.readAt (Elt F) (Rect.unit (s := S512x224) ![0, 128] S512x96.size inb_S512x224_S512x96_0_128).toLoadRect f3))) (scM3.view.writes (Elt F) f12 (prepLo1792 (arg3.view.readAt (Elt F) (Rect.unit (s := S512x224) ![0, 0] S512x128.size inb_S512x224_S512x128_0_0).toLoadRect f3) (arg3.view.readAt (Elt F) (Rect.unit (s := S512x224) ![0, 128] S512x96.size inb_S512x224_S512x96_0_128).toLoadRect f3))) k0_pay340 k0_t1_loop.trips
/-- The up projection of one step. -/
def up (c : Dev nD) (i : grid0.Coords) (h2 : k0_cond2 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) : FVec F S48x256 .f32 :=
  st_k0_t2 Variants.none c none i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 k0_pay340 0#32 28#32 f4 f9 (scM4.view.writes (Elt F) f13 (prepHi1792 (arg5.view.readAt (Elt F) (Rect.unit (s := S512x224) ![0, 0] S512x128.size inb_S512x224_S512x128_0_0).toLoadRect f5) (arg5.view.readAt (Elt F) (Rect.unit (s := S512x224) ![0, 128] S512x96.size inb_S512x224_S512x96_0_128).toLoadRect f5))) (scM5.view.writes (Elt F) f14 (prepLo1792 (arg5.view.readAt (Elt F) (Rect.unit (s := S512x224) ![0, 0] S512x128.size inb_S512x224_S512x128_0_0).toLoadRect f5) (arg5.view.readAt (Elt F) (Rect.unit (s := S512x224) ![0, 128] S512x96.size inb_S512x224_S512x96_0_128).toLoadRect f5))) k0_pay342 k0_t2_loop.trips
/-- The down projection of one step. -/
def down (c : Dev nD) (i : grid0.Coords) (h3 : k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) : FVec F S48x256 .f32 :=
  st_k0_t3 Variants.none c none i arg1 harg1 arg2 harg2 arg3 harg3 arg4 harg4 arg5 harg5 arg6 harg6 arg7 harg7 arg8 harg8 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h3 f6 f10 (scM6.view.writes (Elt F) f15 (prepHi1152 (arg7.view.readAt (Elt F) (Rect.unit (s := S512x144) ![0, 0] S512x128.size inb_S512x144_S512x128_0_0).toLoadRect f7) (arg7.view.readAt (Elt F) (Rect.unit (s := S512x144) ![0, 128] S512x16.size inb_S512x144_S512x16_0_128).toLoadRect f7))) (scM7.view.writes (Elt F) f16 (prepLo1152 (arg7.view.readAt (Elt F) (Rect.unit (s := S512x144) ![0, 0] S512x128.size inb_S512x144_S512x128_0_0).toLoadRect f7) (arg7.view.readAt (Elt F) (Rect.unit (s := S512x144) ![0, 128] S512x16.size inb_S512x144_S512x16_0_128).toLoadRect f7))) k0_pay489 k0_t3_loop.trips

set_option maxHeartbeats 4000000 in
theorem runC_eq (c : Dev nD) (i : grid0.Coords) (h1 : ¬ k0_cond1 i = 1#1) (h2 : ¬ k0_cond2 i = 1#1) (h3 : k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    (runC c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 = arg8.view.writes (Elt F) f8
      [⟨Rect.unit (s := S24x512) ![0, 0] S24x512.size inb_S24x512_S24x512_0_0, k0_pay491 (down c i h3 arg1 harg1 arg2 harg2 arg3 harg3 arg4 harg4 arg5 harg5 arg6 harg6 arg7 harg7 arg8 harg8 f1 f2 f3 f4 f5 f6 f7 f8 f9 f10 f11 f12 f13 f14 f15 f16)⟩] := by
  unfold runC
  rfl

set_option maxHeartbeats 4000000 in
theorem runB_he (c : Dev nD) (i : grid0.Coords) (h1 : ¬ k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    (runB c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 = scM1.view.writes (Elt F) f10
      [⟨Rect.unit (s := S48x9216) (k0_off9 i 512#32) S48x512.size (k0_off9_inb i h2 1), heP1 (gate c i h2 arg1 harg1 arg2 harg2 arg3 harg3 arg4 harg4 arg5 harg5 arg6 harg6 arg7 harg7 arg8 harg8 f1 f2 f3 f4 f5 f6 f7 f8 f9 f10 f11 f12 f13 f14 f15 f16) (up c i h2 arg1 harg1 arg2 harg2 arg3 harg3 arg4 harg4 arg5 harg5 arg6 harg6 arg7 harg7 arg8 harg8 f1 f2 f3 f4 f5 f6 f7 f8 f9 f10 f11 f12 f13 f14 f15 f16)⟩,
       ⟨Rect.unit (s := S48x9216) (k0_off9 i 0#32) S48x512.size (k0_off9_inb i h2 0), heP0 (gate c i h2 arg1 harg1 arg2 harg2 arg3 harg3 arg4 harg4 arg5 harg5 arg6 harg6 arg7 harg7 arg8 harg8 f1 f2 f3 f4 f5 f6 f7 f8 f9 f10 f11 f12 f13 f14 f15 f16) (up c i h2 arg1 harg1 arg2 harg2 arg3 harg3 arg4 harg4 arg5 harg5 arg6 harg6 arg7 harg7 arg8 harg8 f1 f2 f3 f4 f5 f6 f7 f8 f9 f10 f11 f12 f13 f14 f15 f16)⟩] := by
  unfold runB
  rfl

set_option maxHeartbeats 4000000 in
theorem runA_xe (c : Dev nD) (i : grid0.Coords) (h1 : k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    (runA c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 = (scM0.view.writes (Elt F) scM0.view.junk (xeL (xblk arg1 f1))) := by
  unfold runA
  rfl

set_option maxHeartbeats 4000000 in
theorem runA_he (c : Dev nD) (i : grid0.Coords) (h1 : k0_cond1 i = 1#1) (h2 : k0_cond2 i = 1#1) (h3 : ¬ k0_cond3 i = 1#1)
    (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) scM0.view.ty) (f10 : BufTy.Contents (Elt F) scM1.view.ty) (f11 : BufTy.Contents (Elt F) scM2.view.ty) (f12 : BufTy.Contents (Elt F) scM3.view.ty) (f13 : BufTy.Contents (Elt F) scM4.view.ty) (f14 : BufTy.Contents (Elt F) scM5.view.ty) (f15 : BufTy.Contents (Elt F) scM6.view.ty) (f16 : BufTy.Contents (Elt F) scM7.view.ty) :
    (runA c i h1 h2 h3 arg1 harg1 arg2 harg2 arg3 harg3 arg4 harg4 arg5 harg5 arg6 harg6 arg7 harg7 arg8 harg8 f1 f2 f3 f4 f5 f6 f7 f8 f9 f10 f11 f12 f13 f14 f15 f16).2.1 = scM1.view.writes (Elt F) f10
      [⟨Rect.unit (s := S48x9216) (k0_off9 i 512#32) S48x512.size (k0_off9_inb i h2 1), heP1 (gate c i h2 arg1 harg1 arg2 harg2 arg3 harg3 arg4 harg4 arg5 harg5 arg6 harg6 arg7 harg7 arg8 harg8 f1 f2 f3 f4 f5 f6 f7 f8 (scM0.view.writes (Elt F) scM0.view.junk (xeL (xblk arg1 f1))) f10 f11 f12 f13 f14 f15 f16) (up c i h2 arg1 harg1 arg2 harg2 arg3 harg3 arg4 harg4 arg5 harg5 arg6 harg6 arg7 harg7 arg8 harg8 f1 f2 f3 f4 f5 f6 f7 f8 (scM0.view.writes (Elt F) scM0.view.junk (xeL (xblk arg1 f1))) f10 f11 f12 f13 f14 f15 f16)⟩,
       ⟨Rect.unit (s := S48x9216) (k0_off9 i 0#32) S48x512.size (k0_off9_inb i h2 0), heP0 (gate c i h2 arg1 harg1 arg2 harg2 arg3 harg3 arg4 harg4 arg5 harg5 arg6 harg6 arg7 harg7 arg8 harg8 f1 f2 f3 f4 f5 f6 f7 f8 (scM0.view.writes (Elt F) scM0.view.junk (xeL (xblk arg1 f1))) f10 f11 f12 f13 f14 f15 f16) (up c i h2 arg1 harg1 arg2 harg2 arg3 harg3 arg4 harg4 arg5 harg5 arg6 harg6 arg7 harg7 arg8 harg8 f1 f2 f3 f4 f5 f6 f7 f8 (scM0.view.writes (Elt F) scM0.view.junk (xeL (xblk arg1 f1))) f10 f11 f12 f13 f14 f15 f16)⟩] := by
  unfold runA
  rfl

end Cert.KernelIdeal.Val
-- ==== Proof.Spec.lean ====
module

public import Idealize.ShloMosaic.Lib.Pointwise
public import Idealize.ShloMosaic.Lib.BitcastFour
public import Idealize.ShloMosaic.Lib.BitcastPair

@[expose] public section

set_option maxRecDepth 16384

noncomputable section

namespace Cert.Spec

open Idealize.ShloMosaic

/-- A matrix read at two numbers, `d` outside. -/
def at2 {α : Type} {a b : ℕ} (d : α) (X : (⟨2, ![a, b]⟩ : Shape).Idx → α) (i j : ℕ) : α :=
  if h : i < a ∧ j < b then X (ValueIdx.ix2 ⟨i, h.1⟩ ⟨j, h.2⟩) else d

theorem at2_of {α : Type} {a b : ℕ} (d : α) (X : (⟨2, ![a, b]⟩ : Shape).Idx → α) (i j : ℕ) (hi : i < a) (hj : j < b) :
    at2 d X i j = X (ValueIdx.ix2 ⟨i, hi⟩ ⟨j, hj⟩) := dif_pos ⟨hi, hj⟩

/-- A batch of single rows read at a row and a column. -/
def atx {α : Type} {a b : ℕ} (d : α) (X : (⟨3, ![a, 1, b]⟩ : Shape).Idx → α) (i j : ℕ) : α :=
  if h : i < a ∧ j < b then X (ValueIdx.ix3 ⟨i, h.1⟩ 0 ⟨j, h.2⟩) else d

theorem atx_of {α : Type} {a b : ℕ} (d : α) (X : (⟨3, ![a, 1, b]⟩ : Shape).Idx → α) (i j : ℕ) (hi : i < a) (hj : j < b) :
    atx d X i j = X (ValueIdx.ix3 ⟨i, hi⟩ 0 ⟨j, hj⟩) := dif_pos ⟨hi, hj⟩

/-! ### Scales -/

/-- The half-precision number of a sign, an exponent field and a mantissa, over the reals. -/
def scR (b : BitVec 16) : ℝ :=
  (if b.toNat / 32768 = 1 then -1 else 1) *
    (if b.toNat / 1024 % 32 = 0 then (b.toNat % 1024 : ℕ) * (2 : ℝ) ^ (-24 : ℤ)
      else (1024 + b.toNat % 1024 : ℕ) * (2 : ℝ) ^ ((b.toNat / 1024 % 32 : ℕ) - 25 : ℤ))

/-- The value of a 32-bit word with the sign bit clear, whose exponent field is neither 0 nor 255. -/
theorem ofBits_f32_nat (ex fr : ℕ) (he : 0 < ex) (he' : ex < 255) (hf : fr < 2 ^ 23) :
    Ideal.ofBits .f32 (BitVec.ofNat 32 (ex * 2 ^ 23 + fr)) = (((2 ^ 23 + fr : ℕ) * (2 : ℝ) ^ ((ex : ℤ) - 150) : ℝ) : EReal) := by
  have h1 : ((BitVec.ofNat 32 (ex * 2 ^ 23 + fr)).extractLsb' (8 + 23) 1 == 1#1) = false := by
    apply beq_false_of_ne
    intro h
    have := congrArg BitVec.toNat h
    rw [BitVec.extractLsb'_toNat, BitVec.toNat_ofNat, Nat.shiftRight_eq_div_pow] at this
    norm_num at this hf
    omega
  have h2 : ((BitVec.ofNat 32 (ex * 2 ^ 23 + fr)).extractLsb' 23 8).toNat = ex := by
    rw [BitVec.extractLsb'_toNat, BitVec.toNat_ofNat, Nat.shiftRight_eq_div_pow]
    norm_num at hf ⊢
    omega
  have h3 : ((BitVec.ofNat 32 (ex * 2 ^ 23 + fr)).extractLsb' 0 23).toNat = fr := by
    rw [BitVec.extractLsb'_toNat, BitVec.toNat_ofNat, Nat.shiftRight_eq_div_pow]
    norm_num at hf ⊢
    omega
  revert h1 h2 h3
  generalize BitVec.ofNat 32 (ex * 2 ^ 23 + fr) = w
  intro h1 h2 h3
  have e1 : ¬ ex = 2 ^ 8 - 1 := by omega
  have e2 : ¬ ex = 0 := by omega
  have e3 : (ex : ℤ) - ((2 : ℤ) ^ (8 - 1) - 1) - ((23 : ℕ) : ℤ) = (ex : ℤ) - 150 := by norm_num; ring
  show Ideal.ieee 8 23 w = _
  unfold Ideal.ieee
  dsimp only
  rw [h1, h2, h3, if_neg e1, if_neg e2, e3, if_neg (by decide), one_mul]

/-- The reference's unsigned scale: an integer significand times a power of two. -/
def refMag (b : BitVec 16) : EReal :=
  (FloatOps.sitofp (F := Ideal) FTy.f32
        (Scalar.select
          (IntOp.cmpi CmpIPredicate.sgt
            (IntOp.andi
              (IntOp.shrsi ArithUnit.host (BitVec.signExtend 32 b) 10#32) 31#32)
            0#32)
          (IntOp.addi (IntOp.andi (BitVec.signExtend 32 b) 1023#32) 1024#32)
          (IntOp.andi (BitVec.signExtend 32 b) 1023#32)) : EReal) *
      Ideal.ofBits FTy.f32
        (IntOp.shli ArithUnit.host
          (IntOp.addi
            (IntOp.maxsi
              (IntOp.andi
                (IntOp.shrsi ArithUnit.host (BitVec.signExtend 32 b) 10#32)
                31#32)
              1#32)
            102#32)
          23#32)

/-- The reference's scale. -/
def refScale (b : BitVec 16) : EReal :=
  Scalar.select (IntOp.cmpi CmpIPredicate.slt (BitVec.signExtend 32 b) 0#32) (-refMag b) (refMag b)

theorem sext_exp (b : BitVec 16) : IntOp.andi (IntOp.shrsi ArithUnit.host (BitVec.signExtend 32 b) 10#32) 31#32 = (b.extractLsb' 10 5).setWidth 32 := by
  have e : IntOp.shrsi ArithUnit.host (BitVec.signExtend 32 b) 10#32 = (BitVec.signExtend 32 b).sshiftRight 10 := rfl
  rw [e]; unfold IntOp.andi
  apply BitVec.eq_of_getLsbD_eq
  intro i hi
  by_cases h : i < 5
  · interval_cases i <;> simp [BitVec.getElem_sshiftRight, BitVec.getElem_signExtend, BitVec.getLsbD_signExtend]
  · have h31 : (31#32).getLsbD i = false := by
      have : 31#32 = (BitVec.allOnes 5).setWidth 32 := by decide
      rw [this, BitVec.getLsbD_setWidth, BitVec.getLsbD_allOnes]; simp [h]
    simp [h31, h]

theorem sext_man (b : BitVec 16) : IntOp.andi (BitVec.signExtend 32 b) 1023#32 = (b.extractLsb' 0 10).setWidth 32 := by
  unfold IntOp.andi
  apply BitVec.eq_of_getLsbD_eq
  intro i hi
  by_cases h : i < 10
  · interval_cases i <;> simp [BitVec.getElem_signExtend]
  · have h31 : (1023#32).getLsbD i = false := by
      have : 1023#32 = (BitVec.allOnes 10).setWidth 32 := by decide
      rw [this, BitVec.getLsbD_setWidth, BitVec.getLsbD_allOnes]; simp [h]
    simp [h31, h]

theorem ext_exp (b : BitVec 16) : (b.extractLsb' 10 5).toNat = b.toNat / 1024 % 32 := by
  simp [BitVec.extractLsb'_toNat, Nat.shiftRight_eq_div_pow]
theorem ext_man (b : BitVec 16) : (b.extractLsb' 0 10).toNat = b.toNat % 1024 := by
  simp [BitVec.extractLsb'_toNat]

theorem exp_cond (e : BitVec 5) : IntOp.cmpi CmpIPredicate.sgt (e.setWidth 32) 0#32 = if e.toNat = 0 then 0#1 else 1#1 := by
  revert e; decide

theorem exp_word (e : BitVec 5) : IntOp.shli ArithUnit.host (IntOp.addi (IntOp.maxsi (e.setWidth 32) 1#32) 102#32) 23#32
    = BitVec.ofNat 32 ((max e.toNat 1 + 102) * 2 ^ 23 + 0) := by
  revert e; decide

theorem sgn_cond (b : BitVec 16) : IntOp.cmpi CmpIPredicate.slt (BitVec.signExtend 32 b) 0#32 = if b.toNat / 32768 = 1 then 1#1 else 0#1 := by
  unfold IntOp.cmpi
  have h : (BitVec.signExtend 32 b).slt 0#32 = b.msb := by
    rw [BitVec.slt_zero_eq_msb, BitVec.msb_signExtend]; simp
  have h2 := b.isLt
  have h3 : b.msb = decide (b.toNat / 32768 = 1) := by
    rw [BitVec.msb_eq_decide]; congr 1; rw [eq_iff_iff]; omega
  simp only [h, h3]
  by_cases h4 : b.toNat / 32768 = 1 <;> simp [h4]

theorem refMag_eq (b : BitVec 16) : refMag b = ((if b.toNat / 1024 % 32 = 0 then (b.toNat % 1024 : ℕ) * (2 : ℝ) ^ (-24 : ℤ)
      else (1024 + b.toNat % 1024 : ℕ) * (2 : ℝ) ^ ((b.toNat / 1024 % 32 : ℕ) - 25 : ℤ) : ℝ) : EReal) := by
  unfold refMag
  rw [sext_exp, sext_man, exp_cond, exp_word, ofBits_f32_nat _ _ (by omega) (by rw [ext_exp]; omega) (by omega), ext_exp]
  have hm : ((b.extractLsb' 0 10).setWidth 32).toInt = ((b.toNat % 1024 : ℕ) : ℤ) := by
    rw [BitVec.toInt_eq_toNat_of_lt] <;> rw [BitVec.toNat_setWidth, ext_man] <;> omega
  have hm2 : (IntOp.addi ((b.extractLsb' 0 10).setWidth 32) 1024#32).toInt = ((1024 + b.toNat % 1024 : ℕ) : ℤ) := by
    unfold IntOp.addi
    rw [BitVec.toInt_eq_toNat_of_lt] <;> rw [BitVec.toNat_add, BitVec.toNat_setWidth, ext_man] <;> simp <;> omega
  show (((_ : BitVec 32).toInt : ℝ) : EReal) * _ = _
  rw [← EReal.coe_mul]
  congr 1
  generalize b.toNat / 1024 % 32 = e
  split
  · next h =>
    subst h
    rw [Scalar.select, if_neg (by decide), hm, Int.cast_natCast]
    generalize ((b.toNat % 1024 : ℕ) : ℝ) = z
    norm_num
  · next h =>
    rw [Scalar.select, if_pos (show (1#1 : BitVec 1) = 1 from rfl), hm2, Int.cast_natCast, max_eq_left (by omega)]
    generalize ((1024 + b.toNat % 1024 : ℕ) : ℝ) = z
    rw [show ((e + 102 : ℕ) : ℤ) - 150 = (e - 25 : ℤ) + (-23 : ℤ) by push_cast; ring, zpow_add₀ (by norm_num)]
    push_cast
    norm_num
    left; ring

theorem refScale_eq (b : BitVec 16) : refScale b = (scR b : EReal) := by
  unfold refScale scR
  rw [sgn_cond, refMag_eq]
  by_cases h : b.toNat / 32768 = 1
  · rw [if_pos h, Scalar.select, if_pos (show (1#1 : BitVec 1) = 1 from rfl), if_pos h, ← EReal.coe_neg, neg_one_mul]
  · rw [if_neg h, Scalar.select, if_neg (by decide), if_neg h, one_mul]

/-! ### Codes -/

/-- Field `n` of a packed byte, less the offset 8. -/
def nibE (b : BitVec 8) (n : ℕ) : EReal := ((((b.extractLsb' (4 * n) 4).toNat : ℝ) - 8 : ℝ) : EReal)

theorem ofBits_eight : Ideal.ofBits .f32 1090519040#32 = ((8 : ℝ) : EReal) := by
  have := ofBits_f32_nat 130 0 (by omega) (by omega) (by omega)
  rw [show 1090519040#32 = BitVec.ofNat 32 (130 * 2 ^ 23 + 0) from by decide, this]
  congr 1; norm_num

theorem refCode0 (b : BitVec 8) :
    (FloatOps.sitofp (F := Ideal) FTy.f32 (IntOp.andi (BitVec.setWidth 32 b) 15#32) : EReal) - Ideal.ofBits FTy.f32 1090519040#32 = nibE b 0 := by
  have h : (IntOp.andi (BitVec.setWidth 32 b) 15#32).toInt = ((b.extractLsb' (4 * 0) 4).toNat : ℤ) := by
    revert b; decide +kernel
  show (((_ : BitVec 32).toInt : ℝ) : EReal) - _ = _
  rw [h, ofBits_eight, ← EReal.coe_sub, Int.cast_natCast]; rfl

theorem refCode1 (b : BitVec 8) :
    (FloatOps.sitofp (F := Ideal) FTy.f32 (IntOp.shrsi ArithUnit.host (BitVec.setWidth 32 b) 4#32) : EReal) - Ideal.ofBits FTy.f32 1090519040#32 = nibE b 1 := by
  have h : (IntOp.shrsi ArithUnit.host (BitVec.setWidth 32 b) 4#32).toInt = ((b.extractLsb' (4 * 1) 4).toNat : ℤ) := by
    revert b; decide +kernel
  show (((_ : BitVec 32).toInt : ℝ) : EReal) - _ = _
  rw [h, ofBits_eight, ← EReal.coe_sub, Int.cast_natCast]; rfl

theorem nib_int (c : BitVec 4) : ((c ^^^ 8#4).signExtend 32).toInt = (c.toNat : ℤ) - 8 := by
  revert c; decide +kernel

theorem kcode0 (w : BitVec 16) :
    IntOp.shrsi ArithUnit.vector (IntOp.shli ArithUnit.vector (BitVec.signExtend 32 (IntOp.xori w 34952#16)) 28#32) 28#32 = ((w.extractLsb' 0 4) ^^^ 8#4).signExtend 32 := by
  show ((BitVec.signExtend 32 (w ^^^ 34952#16)) <<< 28).sshiftRight 28 = _
  apply BitVec.eq_of_getLsbD_eq
  intro i hi
  interval_cases i <;> simp [BitVec.getElem_sshiftRight, BitVec.getElem_signExtend, BitVec.getLsbD_signExtend, BitVec.getLsbD_shiftLeft, BitVec.getElem_shiftLeft, BitVec.msb_eq_getLsbD_last]

theorem kcode1 (w : BitVec 16) :
    IntOp.shrsi ArithUnit.vector (IntOp.shli ArithUnit.vector (BitVec.signExtend 32 (IntOp.xori w 34952#16)) 24#32) 28#32 = ((w.extractLsb' 4 4) ^^^ 8#4).signExtend 32 := by
  show ((BitVec.signExtend 32 (w ^^^ 34952#16)) <<< 24).sshiftRight 28 = _
  apply BitVec.eq_of_getLsbD_eq
  intro i hi
  interval_cases i <;> simp [BitVec.getElem_sshiftRight, BitVec.getElem_signExtend, BitVec.getLsbD_signExtend, BitVec.getLsbD_shiftLeft, BitVec.getElem_shiftLeft, BitVec.msb_eq_getLsbD_last]

theorem kcode2 (w : BitVec 16) :
    IntOp.shrsi ArithUnit.vector (IntOp.shli ArithUnit.vector (BitVec.signExtend 32 (IntOp.xori w 34952#16)) 20#32) 28#32 = ((w.extractLsb' 8 4) ^^^ 8#4).signExtend 32 := by
  show ((BitVec.signExtend 32 (w ^^^ 34952#16)) <<< 20).sshiftRight 28 = _
  apply BitVec.eq_of_getLsbD_eq
  intro i hi
  interval_cases i <;> simp [BitVec.getElem_sshiftRight, BitVec.getElem_signExtend, BitVec.getLsbD_signExtend, BitVec.getLsbD_shiftLeft, BitVec.getElem_shiftLeft, BitVec.msb_eq_getLsbD_last]

theorem kcode3 (w : BitVec 16) :
    IntOp.shrsi ArithUnit.vector (IntOp.shli ArithUnit.vector (BitVec.signExtend 32 (IntOp.xori w 34952#16)) 16#32) 28#32 = ((w.extractLsb' 12 4) ^^^ 8#4).signExtend 32 := by
  show ((BitVec.signExtend 32 (w ^^^ 34952#16)) <<< 16).sshiftRight 28 = _
  apply BitVec.eq_of_getLsbD_eq
  intro i hi
  interval_cases i <;> simp [BitVec.getElem_sshiftRight, BitVec.getElem_signExtend, BitVec.getLsbD_signExtend, BitVec.getLsbD_shiftLeft, BitVec.getElem_shiftLeft, BitVec.msb_eq_getLsbD_last]

/-- The code of field `j` of a pair of bytes, the second byte above the first. -/
theorem kcode_append (b1 b0 : BitVec 8) (j : Fin 4) :
    (((b1 ++ b0).extractLsb' (4 * j.val) 4) ^^^ 8#4).signExtend 32 = (((if j.val / 2 = 1 then b1 else b0).extractLsb' (4 * (j.val % 2)) 4) ^^^ 8#4).signExtend 32 := by
  congr 2
  apply BitVec.eq_of_getLsbD_eq
  intro i hi
  rw [BitVec.getLsbD_extractLsb', BitVec.getLsbD_extractLsb', BitVec.getLsbD_append]
  fin_cases j <;> interval_cases i <;> simp

theorem kcode_val (b : BitVec 8) (n : ℕ) :
    (FloatOps.sitofp (F := Ideal) FTy.bf16 (((b.extractLsb' (4 * n) 4) ^^^ 8#4).signExtend 32) : EReal) = nibE b n := by
  show (((_ : BitVec 32).toInt : ℝ) : EReal) = _
  rw [nib_int]; unfold nibE; push_cast; rfl

/-! ### The kernel's decoding -/

/-- The kernel's decoded scale of a word that holds the half-precision bits in its upper half. -/
def kDec (v : BitVec 32) : EReal :=
  Scalar.select (IntOp.cmpi .ne (IntOp.andi v 2147483648#32) 0#32) (Ideal.ofBits .f32 0xBF800000#32) (Ideal.ofBits .f32 0x3F800000#32) *
    min (Ideal.ofBits .f32 (IntOp.addi (IntOp.shrsi .vector (IntOp.andi v 2147418112#32) 3#32) 939524096#32))
      (Ideal.ofBits .f32 (IntOp.addi (IntOp.shrsi .vector (IntOp.andi v 2147418112#32) 3#32) 939524096#32)
        + Ideal.ofBits .f32 (IntOp.addi (IntOp.shrsi .vector (IntOp.andi v 2147418112#32) 3#32) 939524096#32) - Ideal.ofBits .f32 0x38800000#32)

theorem kword (b : BitVec 16) : IntOp.addi (IntOp.shrsi .vector (IntOp.andi (b ++ 0#16) 2147418112#32) 3#32) 939524096#32
    = BitVec.ofNat 32 ((b.toNat / 1024 % 32 + 112) * 2 ^ 23 + (b.toNat % 1024) * 2 ^ 13) := by
  have h : IntOp.shrsi .vector (IntOp.andi (b ++ 0#16) 2147418112#32) 3#32 = (b.extractLsb' 0 15).setWidth 32 <<< 13 := by
    show ((b ++ 0#16) &&& 2147418112#32).sshiftRight 3 = _
    apply BitVec.eq_of_getLsbD_eq
    intro i hi
    rw [BitVec.getLsbD_sshiftRight, BitVec.msb_eq_getLsbD_last, BitVec.getLsbD_and, BitVec.getLsbD_and, BitVec.getLsbD_append, BitVec.getLsbD_append]
    interval_cases i <;> simp
  rw [h]; unfold IntOp.addi
  apply BitVec.eq_of_toNat_eq
  have hb := b.isLt
  rw [BitVec.toNat_add, BitVec.toNat_shiftLeft, BitVec.toNat_setWidth, BitVec.extractLsb'_toNat, BitVec.toNat_ofNat, BitVec.toNat_ofNat, Nat.shiftLeft_eq]
  norm_num at hb ⊢
  omega

theorem ksign (b : BitVec 16) : IntOp.cmpi .ne (IntOp.andi (b ++ 0#16) 2147483648#32) 0#32 = if b.toNat / 32768 = 1 then 1#1 else 0#1 := by
  have h : IntOp.andi (b ++ 0#16) 2147483648#32 = (b.extractLsb' 15 1).setWidth 32 <<< 31 := by
    show ((b ++ 0#16) &&& 2147483648#32) = _
    apply BitVec.eq_of_getLsbD_eq
    intro i hi
    rw [BitVec.getLsbD_and, BitVec.getLsbD_append]
    interval_cases i <;> simp
  have h2 := b.isLt
  have h1 : (b.extractLsb' 15 1).toNat = b.toNat / 32768 := by
    rw [BitVec.extractLsb'_toNat, Nat.shiftRight_eq_div_pow]; norm_num at h2 ⊢; omega
  rw [h, ← h1]
  generalize b.extractLsb' 15 1 = s
  revert s; decide

theorem kDec_eq (b : BitVec 16) : kDec (b ++ 0#16) = (scR b : EReal) := by
  unfold kDec scR
  rw [kword, ksign, ofBits_f32_nat _ _ (by omega) (by omega) (by norm_num; omega)]
  have c1 : Ideal.ofBits .f32 0x38800000#32 = (((2 : ℝ) ^ (-14 : ℤ) : ℝ) : EReal) := by
    rw [show (0x38800000#32) = BitVec.ofNat 32 (113 * 2 ^ 23 + 0) from by decide, ofBits_f32_nat 113 0 (by omega) (by omega) (by omega)]
    congr 1; norm_num
  have c2 : Ideal.ofBits .f32 0x3F800000#32 = ((1 : ℝ) : EReal) := by
    rw [show (0x3F800000#32) = BitVec.ofNat 32 (127 * 2 ^ 23 + 0) from by decide, ofBits_f32_nat 127 0 (by omega) (by omega) (by omega)]
    congr 1; norm_num
  have c3 : Ideal.ofBits .f32 0xBF800000#32 = ((-1 : ℝ) : EReal) := IdealRules.sign_bit.ideal_negOnePat .f32
  have hmin : ∀ a b : ℝ, min (a : EReal) (b : EReal) = ((min a b : ℝ) : EReal) := fun a b => (EReal.coe_strictMono.monotone.map_min).symm
  rw [c1, c2, c3, ← EReal.coe_add, ← EReal.coe_sub, hmin]
  have hm : b.toNat % 1024 < 1024 := by omega
  have key : ∀ e m : ℕ, m < 1024 → min (((2 ^ 23 + m * 2 ^ 13 : ℕ) : ℝ) * (2 : ℝ) ^ (((e + 112 : ℕ) : ℤ) - 150)) (((2 ^ 23 + m * 2 ^ 13 : ℕ) : ℝ) * (2 : ℝ) ^ (((e + 112 : ℕ) : ℤ) - 150) + ((2 ^ 23 + m * 2 ^ 13 : ℕ) : ℝ) * (2 : ℝ) ^ (((e + 112 : ℕ) : ℤ) - 150) - (2 : ℝ) ^ (-14 : ℤ))
      = if e = 0 then ((m : ℕ) : ℝ) * (2 : ℝ) ^ (-24 : ℤ) else ((1024 + m : ℕ) : ℝ) * (2 : ℝ) ^ ((e : ℤ) - 25) := by
    intro e m hm
    have hm' : (m : ℝ) ≤ 1024 := by exact_mod_cast hm.le
    have hm0 : (0 : ℝ) ≤ m := Nat.cast_nonneg m
    have e1 : ((2 ^ 23 + m * 2 ^ 13 : ℕ) : ℝ) * (2 : ℝ) ^ (((e + 112 : ℕ) : ℤ) - 150) = ((1024 + m : ℕ) : ℝ) * (2 : ℝ) ^ ((e : ℤ) - 25) := by
      rw [show ((e + 112 : ℕ) : ℤ) - 150 = (e - 25 : ℤ) + (-13 : ℤ) by push_cast; ring, zpow_add₀ (by norm_num)]
      push_cast
      norm_num
      ring
    rw [e1]
    split
    · next h =>
      subst h
      push_cast
      norm_num
      rw [min_eq_right] <;> linarith
    · next h =>
      apply min_eq_left
      have h1 : (2 : ℝ) ^ (1 - 25 : ℤ) ≤ (2 : ℝ) ^ ((e : ℤ) - 25) := zpow_le_zpow_right₀ (by norm_num) (by omega)
      have h2 : (2 : ℝ) ^ (-14 : ℤ) = 1024 * (2 : ℝ) ^ (1 - 25 : ℤ) := by norm_num
      rw [h2]
      have h3 : 1024 * (2 : ℝ) ^ (1 - 25 : ℤ) ≤ ((1024 + m : ℕ) : ℝ) * (2 : ℝ) ^ ((e : ℤ) - 25) :=
        mul_le_mul (by push_cast; linarith) h1 (by positivity) (by positivity)
      linarith
  rw [key _ _ hm]
  by_cases h : b.toNat / 32768 = 1
  · rw [if_pos h, Scalar.select, if_pos (show (1#1 : BitVec 1) = 1 from rfl), if_pos h, ← EReal.coe_mul]
  · rw [if_neg h, Scalar.select, if_neg (by decide), if_neg h, ← EReal.coe_mul]

/-- The split of a real scale adds up again. -/
theorem split_mul (cd : ℝ) (s h : ℝ) : (cd : EReal) * (h : EReal) + (cd : EReal) * ((s : EReal) - (h : EReal)) = (cd : EReal) * (s : EReal) := by
  rw [← EReal.coe_sub, ← EReal.coe_mul, ← EReal.coe_mul, ← EReal.coe_mul, ← EReal.coe_add]
  congr 1; ring

/-- The kernel's high part of a real scale is real. -/
theorem split_hi (s : ℝ) (a c : EReal) (a' c' : ℝ) (ha : a = (a' : EReal)) (hc : c = (c' : EReal)) :
    ((s : EReal) * a) * c - (((s : EReal) * a) * c - (s : EReal) * a) = ((s * a' : ℝ) : EReal) := by
  subst ha hc
  rw [← EReal.coe_mul, ← EReal.coe_mul, ← EReal.coe_sub, ← EReal.coe_sub]
  congr 1; ring

theorem ofBits_c1 : Ideal.ofBits .f32 0x3F800400#32 = (((2 ^ 23 + 1024 : ℕ) * (2 : ℝ) ^ ((127 : ℕ) - 150 : ℤ) : ℝ) : EReal) := by
  rw [show (0x3F800400#32) = BitVec.ofNat 32 (127 * 2 ^ 23 + 1024) from by decide, ofBits_f32_nat 127 1024 (by omega) (by omega) (by omega)]
theorem ofBits_c2 : Ideal.ofBits .f32 0x49000010#32 = (((2 ^ 23 + 16 : ℕ) * (2 : ℝ) ^ ((146 : ℕ) - 150 : ℤ) : ℝ) : EReal) := by
  rw [show (0x49000010#32) = BitVec.ofNat 32 (146 * 2 ^ 23 + 16) from by decide, ofBits_f32_nat 146 16 (by omega) (by omega) (by omega)]

/-! ### Sums -/

/-- A sum over the interleaved layout that lives on one class is the sum over the columns of that class. -/
theorem sum_interleave (f : ℕ → EReal) (C : ℕ) (hC : C < 2) (h0 : ∀ q, (q / 2) % 2 ≠ C → f q = 0) (B : ℕ) :
    ∑ q ∈ Finset.range (4 * B), f q = ∑ b ∈ Finset.range B, f (4 * b + 2 * C) + ∑ b ∈ Finset.range B, f (4 * b + 2 * C + 1) := by
  induction B with
  | zero => simp
  | succ B ih =>
    rw [show 4 * (B + 1) = 4 * B + 1 + 1 + 1 + 1 by ring, Finset.sum_range_succ, Finset.sum_range_succ, Finset.sum_range_succ, Finset.sum_range_succ, ih,
      Finset.sum_range_succ, Finset.sum_range_succ]
    obtain rfl | rfl : C = 0 ∨ C = 1 := by omega
    · rw [h0 (4 * B + 1 + 1) (by omega), h0 (4 * B + 1 + 1 + 1) (by omega)]
      simp only [mul_zero, add_zero]
      abel
    · rw [h0 (4 * B) (by omega), h0 (4 * B + 1) (by omega)]
      simp only [mul_one, add_zero]
      abel

/-- One projection: tokens against offset codes times their group's scale, a byte of two codes at a time. -/
def proj (B : ℕ) (x : ℕ → ℕ → EReal) (Q : ℕ → ℕ → BitVec 8) (S : ℕ → ℕ → BitVec 16) (t n : ℕ) : EReal :=
  ∑ b ∈ Finset.range B, x t (2 * b) * (nibE (Q n b) 0 * (scR (S n (b / 16)) : EReal))
    + ∑ b ∈ Finset.range B, x t (2 * b + 1) * (nibE (Q n b) 1 * (scR (S n (b / 16)) : EReal))

/-- The tokens in the interleaved layout: a row per class and token. -/
def inter (x : ℕ → ℕ → EReal) (T q : ℕ) : EReal := if (q / 2) % 2 = T / 24 then x (T % 24) (2 * (q / 4) + q % 2) else 0

/-- The interleaved dot product is the projection at the class's row. -/
theorem inter_dot (B : ℕ) (x : ℕ → ℕ → EReal) (Q : ℕ → ℕ → BitVec 8) (S : ℕ → ℕ → BitVec 16) (T r : ℕ) (hT : T < 48) :
    ∑ q ∈ Finset.range (4 * B), inter x T q * (nibE (Q (2 * r + (q / 2) % 2) (q / 4)) (q % 2) * (scR (S (2 * r + (q / 2) % 2) (q / 64)) : EReal))
      = proj B x Q S (T % 24) (2 * r + T / 24) := by
  rw [sum_interleave _ (T / 24) (by omega)]
  · unfold proj inter
    congr 1 <;> refine Finset.sum_congr rfl fun b _ => ?_
    · have h1 : (4 * b + 2 * (T / 24)) / 2 % 2 = T / 24 := by omega
      have h2 : (4 * b + 2 * (T / 24)) / 4 = b := by omega
      have h3 : (4 * b + 2 * (T / 24)) % 2 = 0 := by omega
      have h4 : (4 * b + 2 * (T / 24)) / 64 = b / 16 := by omega
      rw [h1, h2, h3, h4, if_pos rfl, add_zero]
    · have h1 : (4 * b + 2 * (T / 24) + 1) / 2 % 2 = T / 24 := by omega
      have h2 : (4 * b + 2 * (T / 24) + 1) / 4 = b := by omega
      have h3 : (4 * b + 2 * (T / 24) + 1) % 2 = 1 := by omega
      have h4 : (4 * b + 2 * (T / 24) + 1) / 64 = b / 16 := by omega
      rw [h1, h2, h3, h4, if_pos rfl]
  · intro q hq
    unfold inter
    rw [if_neg hq, zero_mul]

/-- The gated hidden value. -/
def hid (x : ℕ → ℕ → EReal) (Qg Qu : ℕ → ℕ → BitVec 8) (Sg Su : ℕ → ℕ → BitVec 16) (t n : ℕ) : EReal :=
  proj 3584 x Qg Sg t n * Ideal.logistic (proj 3584 x Qg Sg t n) * proj 3584 x Qu Su t n

/-- The whole layer. -/
def mlp (x : ℕ → ℕ → EReal) (Qg : ℕ → ℕ → BitVec 8) (Sg : ℕ → ℕ → BitVec 16) (Qu : ℕ → ℕ → BitVec 8) (Su : ℕ → ℕ → BitVec 16)
    (Qd : ℕ → ℕ → BitVec 8) (Sd : ℕ → ℕ → BitVec 16) (t n : ℕ) : EReal :=
  proj 2304 (hid x Qg Qu Sg Su) Qd Sd t n

end Cert.Spec
-- ==== Proof.Pay.lean ====
module

public import proofs.«01_k».proof.Proof.Canon
public import proofs.«01_k».proof.Proof.Spec
public import Idealize.ShloMosaic.Lib.Pointwise
public import Idealize.ShloMosaic.Lib.BitcastFour
public import Idealize.ShloMosaic.Lib.BitcastPair

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Cert.Spec

/-- Two 64-row arrays interleaved by rows, read at a row and lane. -/
theorem il2 {α : Type} (lo hi : S64x128.Idx → α) (h : S128x128.Bitcasts 16 S64x128 32) (a : Fin 128) (l : Fin 128) :
    interleaveRows S128x128 lo hi h (ix2 a l) = if a.val % 2 = 0 then lo (ix2 ⟨a.val / 2, by omega⟩ l) else hi (ix2 ⟨a.val / 2, by omega⟩ l) := by
  unfold interleaveRows
  have e2 : S128x128.row (ix2 a l) = a.val := rfl
  dsimp only
  rw [e2]; split
  · refine congrArg lo (funext fun b => ?_)
    match b with
    | ⟨0, _⟩ => rfl
    | ⟨1, _⟩ => rfl
  · refine congrArg hi (funext fun b => ?_)
    match b with
    | ⟨0, _⟩ => rfl
    | ⟨1, _⟩ => rfl

/-- The rows of one parity of a packed load, read at an index. -/
theorem rp4 {α : Type} (p : Fin 2) (x : S1x64x2x128.Idx → α) (h : S1x64x2x128.Bitcasts 16 S1x64x1x128 32) (a : Fin 1) (w : Fin 64) (u : Fin 1) (l : Fin 128) :
    rowsOfParity p S1x64x1x128 x h (ix4 a w u l) = x (ix4 a w p l) := by
  unfold rowsOfParity
  congr 1
  funext b
  match b with
  | ⟨0, _⟩ => rfl
  | ⟨1, _⟩ => rfl
  | ⟨2, _⟩ =>
    refine Fin.ext ?_
    show 2 * u.val + p.val = p.val
    omega
  | ⟨3, _⟩ => rfl

/-- A row pair of one packed high and low byte: the 16-bit word of two rows of bytes. -/
theorem word16 (Q : S512x128.Idx → BitVec 8) (r : Fin 256) (k : Fin 128) :
    bitcast S256x128 16 (bitcast S128x128 32 Q bitcasts_S512x128_w8_S128x128_w32) bitcasts_S128x128_w32_S256x128_w16 (ix2 r k)
      = Q (ix2 ⟨2 * r.val + 1, by omega⟩ k) ++ Q (ix2 ⟨2 * r.val, by omega⟩ k) := by
  rw [bitcast_32_16]
  have e : (Shape.Bitcasts.srcIdx bitcasts_S128x128_w32_S256x128_w16 (ix2 r k) (S256x128.row (ix2 r k) / 2) (fun a ha => by
        have := Shape.Bitcasts.pos_lt bitcasts_S128x128_w32_S256x128_w16 (ix2 r k) 0 (by decide) a ha; omega)) = (ix2 ⟨r.val / 2, by omega⟩ k : S128x128.Idx) := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [e]
  have e2 : S256x128.row (ix2 r k) = r.val := rfl
  rw [e2]
  apply BitVec.eq_of_getLsbD_eq
  intro i hi
  rw [BitVec.getLsbD_extractLsb', BitVec.getLsbD_append]
  by_cases h : i < 8
  · have h8 := bitcast_8_32_getLsbD_ix2 Q bitcasts_S512x128_w8_S128x128_w32 ⟨r.val / 2, by omega⟩ k (16 * (r.val % 2) + i) (by omega) ⟨2 * r.val, by omega⟩ (by show 2 * r.val = 4 * (r.val / 2) + _; omega)
    refine (congrArg (fun z => (decide (i < 16) && z)) h8).trans ?_
    rw [show (16 * (r.val % 2) + i) % 8 = i by omega]
    simp only [hi, h, decide_true, Bool.true_and, if_true, if_false]
    rfl
  · have h8 := bitcast_8_32_getLsbD_ix2 Q bitcasts_S512x128_w8_S128x128_w32 ⟨r.val / 2, by omega⟩ k (16 * (r.val % 2) + i) (by omega) ⟨2 * r.val + 1, by omega⟩ (by show 2 * r.val + 1 = 4 * (r.val / 2) + _; omega)
    refine (congrArg (fun z => (decide (i < 16) && z)) h8).trans ?_
    rw [show (16 * (r.val % 2) + i) % 8 = i - 8 by omega]
    simp only [hi, h, decide_true, Bool.true_and, if_true, if_false]
    rfl

/-- The weight codes of one trip. -/
theorem code_apply (Q : Vec Ideal S512x128 .i8) (p : Fin 512) (r : Fin 256) :
    k0_pay87 Q (ix2 p r) = nibE ((Q : S512x128.Idx → BitVec 8) (ix2 ⟨2 * r.val + (p.val / 2) % 2, by omega⟩ ⟨p.val / 4, by omega⟩)) (p.val % 2) := by
  pointwise [k0_pay87]
  have hw : bitcast S256x128 16 (bitcast S128x128 32 (Q : S512x128.Idx → BitVec 8) bitcasts_S512x128_w8_S128x128_w32) bitcasts_S128x128_w32_S256x128_w16 (ix2 r ⟨p.val / 4, by omega⟩) = _ := word16 Q r ⟨p.val / 4, by omega⟩
  have hj := fun (j : Fin 4) (h : p.val % 4 = j.val) => show FloatOps.sitofp (F := Ideal) FTy.bf16 (((bitcast S256x128 16 (bitcast S128x128 32 (Q : S512x128.Idx → BitVec 8) bitcasts_S512x128_w8_S128x128_w32) bitcasts_S128x128_w32_S256x128_w16 (ix2 r ⟨p.val / 4, by omega⟩)).extractLsb' (4 * j.val) 4 ^^^ 8#4).signExtend 32)
      = nibE ((Q : S512x128.Idx → BitVec 8) (ix2 ⟨2 * r.val + (p.val / 2) % 2, by omega⟩ ⟨p.val / 4, by omega⟩)) (p.val % 2) by
    rw [hw, kcode_append, kcode_val]
    rw [show j.val % 2 = p.val % 2 by omega]
    congr 1
    split
    · next h2 => congr 2; apply Fin.ext; show 2 * r.val + 1 = 2 * r.val + _; omega
    · next h2 => congr 2; apply Fin.ext; show 2 * r.val = 2 * r.val + _; omega
  split
  · next h => exact (congrArg (FloatOps.sitofp (F := Ideal) FTy.bf16) (kcode0 _)).trans (hj 0 (by show _ = 0; omega))
  split
  · next h => exact (congrArg (FloatOps.sitofp (F := Ideal) FTy.bf16) (kcode1 _)).trans (hj 1 (by show _ = 1; omega))
  split
  · next h => exact (congrArg (FloatOps.sitofp (F := Ideal) FTy.bf16) (kcode2 _)).trans (hj 2 (by show _ = 2; omega))
  · next h => exact (congrArg (FloatOps.sitofp (F := Ideal) FTy.bf16) (kcode3 _)).trans (hj 3 (by show _ = 3; omega))

theorem pay88_apply (R : Vec Ideal S1x64x2x128 .bf16) (g : Fin 8) (u : Fin 1) (b : Fin 16) (l : Fin 128) :
    k0_pay88 R (ix4 g u b l) = R (ix4 0 ⟨8 * g.val + b.val / 2, by omega⟩ ⟨b.val % 2, by omega⟩ l) := by
  pointwise [k0_pay88, il2, rp4]
  split
  · next h =>
    congr 2 <;> apply Fin.ext <;> simp <;> omega
  · next h =>
    congr 2 <;> apply Fin.ext <;> simp <;> omega

/-- A sum against a row of a selection matrix picks one entry, or none. -/
theorem onehot {N : ℕ} (V : Fin N → EReal) (r : ℕ) (R : Fin N → BitVec 32) (g : ℕ → ℕ) (hR : ∀ x : Fin N, R x = BitVec.ofNat 32 (g x.val))
    (hg : ∀ x : Fin N, g x.val < 2 ^ 32) (hr : r < 2 ^ 32) (i0 : Fin N) (p : Prop) [Decidable p] (hp : ∀ x : Fin N, r = g x.val ↔ (x = i0 ∧ p)) :
    ∑ x, V x * (FloatOps.sitofp (F := Ideal) FTy.f32 (BitVec.setWidth 32 (IntOp.cmpi CmpIPredicate.eq (BitVec.ofNat 32 r) (R x))) : EReal)
      = if p then V i0 else 0 := by
  have hc : ∀ x : Fin N, (FloatOps.sitofp (F := Ideal) FTy.f32 (BitVec.setWidth 32 (IntOp.cmpi CmpIPredicate.eq (BitVec.ofNat 32 r) (R x))) : EReal)
      = if x = i0 ∧ p then 1 else 0 := by
    intro x
    rw [hR x]
    simp only [← (hp x)]
    have h : (BitVec.ofNat 32 r == BitVec.ofNat 32 (g x.val)) = decide (r = g x.val) := by
      rw [← Bool.coe_iff_coe, beq_iff_eq, decide_eq_true_eq]
      constructor
      · intro h
        have := congrArg BitVec.toNat h
        rwa [BitVec.toNat_ofNat, BitVec.toNat_ofNat, Nat.mod_eq_of_lt hr, Nat.mod_eq_of_lt (hg x)] at this
      · intro h; rw [h]
    unfold IntOp.cmpi
    show (((BitVec.setWidth 32 (BitVec.ofBool (BitVec.ofNat 32 r == BitVec.ofNat 32 (g x.val)))).toInt : ℝ) : EReal) = _
    rw [h]
    by_cases h2 : r = g x.val
    · rw [if_pos h2, decide_eq_true h2, show (BitVec.setWidth 32 (BitVec.ofBool true)).toInt = 1 from by decide]; norm_num
    · rw [if_neg h2, decide_eq_false h2, show (BitVec.setWidth 32 (BitVec.ofBool false)).toInt = 0 from by decide]; norm_num
  simp only [hc]
  by_cases h : p
  · rw [if_pos h]
    rw [Finset.sum_eq_single i0]
    · rw [if_pos ⟨rfl, h⟩, mul_one]
    · intro b _ hb; rw [if_neg (fun hh => hb hh.1), mul_zero]
    · intro hh; exact absurd (Finset.mem_univ _) hh
  · rw [if_neg h]
    exact Finset.sum_eq_zero fun x _ => by rw [if_neg (fun hh => h hh.2), mul_zero]

/-- One block of interleaved tokens. -/
theorem xeP_apply (x : Vec Ideal S24x128 .bf16) (t : Fin 48) (r : Fin 256) : (xeP x : FVec Ideal S48x256 .bf16) (ix2 t r)
    = if (r.val / 2) % 2 = t.val / 24 then (x : S24x128.Idx → EReal) (ix2 ⟨t.val % 24, by omega⟩ ⟨2 * (r.val / 4) + r.val % 2, by omega⟩) else (0 : EReal) := by
  pointwise [xeP, oneHot0, oneHot1, k0_pay1, k0_pay85, k0_pay86, k0_pay7, k0_pay12, k0_pay3, k0_pay4, k0_pay5, k0_pay6, k0_pay8, k0_pay9, k0_pay10, k0_pay11, k0_pay84]
  split
  · next h =>
    refine (onehot _ r.val _ (fun x => 4 * (x / 2) + x % 2) (by decide +kernel) (fun x => by (try dsimp only); omega) (by omega)
      ⟨2 * (r.val / 4) + r.val % 2, by omega⟩ ((r.val / 2) % 2 = t.val / 24) ?_).trans ?_
    · intro x; rw [Fin.ext_iff]; (try dsimp only); omega
    · simp only [Nat.mod_eq_of_lt h]
  · next h =>
    refine (onehot _ r.val _ (fun x => 4 * (x / 2) + 2 + x % 2) (by decide +kernel) (fun x => by (try dsimp only); omega) (by omega)
      ⟨2 * (r.val / 4) + r.val % 2, by omega⟩ ((r.val / 2) % 2 = t.val / 24) ?_).trans ?_
    · intro x; rw [Fin.ext_iff]; (try dsimp only); omega
    · have e : t.val % 24 = t.val - 24 := by omega
      simp only [e]

/-- The result block: the two classes' rows placed side by side. -/
theorem pay491_apply (a : FVec Ideal S48x256 .f32) (t : Fin 24) (r : Fin 512) :
    k0_pay491 a (ix2 t r) = a (ix2 ⟨24 * (r.val % 2) + t.val, by omega⟩ ⟨r.val / 2, by omega⟩) := by
  pointwise [k0_pay491]
  refine (congrArg₂ (fun x y : EReal => x + y)
    (onehot _ r.val _ (fun x => 2 * x) (by decide +kernel) (fun x => by (try dsimp only); omega) (by omega) ⟨r.val / 2, by omega⟩ (r.val % 2 = 0) ?_)
    (onehot _ r.val _ (fun x => 2 * x + 1) (by decide +kernel) (fun x => by (try dsimp only); omega) (by omega) ⟨r.val / 2, by omega⟩ (r.val % 2 = 1) ?_)).trans ?_
  · intro x; rw [Fin.ext_iff]; (try dsimp only); omega
  · intro x; rw [Fin.ext_iff]; (try dsimp only); omega
  · try dsimp only
    obtain h | h : r.val % 2 = 0 ∨ r.val % 2 = 1 := by omega
    · rw [if_pos h, if_neg (by omega), add_zero]
      congr 2; apply Fin.ext; show t.val = 24 * (r.val % 2) + t.val; omega
    · rw [if_neg (by omega), if_pos h, zero_add]
      congr 2; apply Fin.ext; show 24 + t.val = 24 * (r.val % 2) + t.val; omega

theorem pay344_apply (g u : FVec Ideal S48x256 .f32) (t : Fin 48) (r : Fin 256) :
    k0_pay344 g u (ix2 t r) = g (ix2 t r) * Ideal.logistic (g (ix2 t r)) * u (ix2 t r) := by
  pointwise [k0_pay344]

theorem heP0_apply (g u : FVec Ideal S48x256 .f32) (t : Fin 48) (r : Fin 512) :
    heP0 g u (ix2 t r) = if (r.val / 2) % 2 = t.val / 24 then k0_pay344 g u (ix2 ⟨24 * (r.val % 2) + t.val % 24, by omega⟩ ⟨r.val / 4, by omega⟩) else 0 := by
  pointwise [heP0, k0_pay349, k0_pay348, k0_pay347, k0_pay346, k0_pay345]
  split
  · next h =>
    refine (congrArg₂ (fun x y : EReal => x + y)
      (onehot _ r.val _ (fun x => 4 * x + 0) (by decide +kernel) (fun x => by (try dsimp only); omega) (by omega) ⟨r.val / 4, by omega⟩ (r.val % 4 = 0) ?_)
      (onehot _ r.val _ (fun x => 4 * x + 1) (by decide +kernel) (fun x => by (try dsimp only); omega) (by omega) ⟨r.val / 4, by omega⟩ (r.val % 4 = 1) ?_)).trans ?_
    · intro x; rw [Fin.ext_iff]; (try dsimp only); omega
    · intro x; rw [Fin.ext_iff]; (try dsimp only); omega
    · try dsimp only
      by_cases h0 : r.val % 4 = 0
      · refine (congrArg₂ (fun x y : EReal => x + y) (if_pos h0) (if_neg (by omega))).trans ((add_zero _).trans (Eq.trans ?_ (if_pos (by omega)).symm))
        refine congrArg₂ (fun a b => k0_pay344 g u (ix2 a b)) (Fin.ext ?_) rfl
        show _ = 24 * (r.val % 2) + t.val % 24
        first | omega | (show t.val = _; omega) | (show t.val - 24 = _; omega)
      by_cases h1 : r.val % 4 = 1
      · refine (congrArg₂ (fun x y : EReal => x + y) (if_neg h0) (if_pos h1)).trans ((zero_add _).trans (Eq.trans ?_ (if_pos (by omega)).symm))
        refine congrArg₂ (fun a b => k0_pay344 g u (ix2 a b)) (Fin.ext ?_) rfl
        show _ = 24 * (r.val % 2) + t.val % 24
        first | omega | (show 24 + t.val = _; omega) | (show 24 + (t.val - 24) = _; omega)
      · exact (congrArg₂ (fun x y : EReal => x + y) (if_neg h0) (if_neg h1)).trans ((add_zero _).trans (if_neg (by omega)).symm)
  · next h =>
    refine (congrArg₂ (fun x y : EReal => x + y)
      (onehot _ r.val _ (fun x => 4 * x + 2) (by decide +kernel) (fun x => by (try dsimp only); omega) (by omega) ⟨r.val / 4, by omega⟩ (r.val % 4 = 2) ?_)
      (onehot _ r.val _ (fun x => 4 * x + 3) (by decide +kernel) (fun x => by (try dsimp only); omega) (by omega) ⟨r.val / 4, by omega⟩ (r.val % 4 = 3) ?_)).trans ?_
    · intro x; rw [Fin.ext_iff]; (try dsimp only); omega
    · intro x; rw [Fin.ext_iff]; (try dsimp only); omega
    · try dsimp only
      by_cases h0 : r.val % 4 = 2
      · refine (congrArg₂ (fun x y : EReal => x + y) (if_pos h0) (if_neg (by omega))).trans ((add_zero _).trans (Eq.trans ?_ (if_pos (by omega)).symm))
        refine congrArg₂ (fun a b => k0_pay344 g u (ix2 a b)) (Fin.ext ?_) rfl
        show _ = 24 * (r.val % 2) + t.val % 24
        first | omega | (show t.val = _; omega) | (show t.val - 24 = _; omega)
      by_cases h1 : r.val % 4 = 3
      · refine (congrArg₂ (fun x y : EReal => x + y) (if_neg h0) (if_pos h1)).trans ((zero_add _).trans (Eq.trans ?_ (if_pos (by omega)).symm))
        refine congrArg₂ (fun a b => k0_pay344 g u (ix2 a b)) (Fin.ext ?_) rfl
        show _ = 24 * (r.val % 2) + t.val % 24
        first | omega | (show 24 + t.val = _; omega) | (show 24 + (t.val - 24) = _; omega)
      · exact (congrArg₂ (fun x y : EReal => x + y) (if_neg h0) (if_neg h1)).trans ((add_zero _).trans (if_neg (by omega)).symm)

theorem heP1_apply (g u : FVec Ideal S48x256 .f32) (t : Fin 48) (r : Fin 512) :
    heP1 g u (ix2 t r) = if (r.val / 2) % 2 = t.val / 24 then k0_pay344 g u (ix2 ⟨24 * (r.val % 2) + t.val % 24, by omega⟩ ⟨128 + r.val / 4, by omega⟩) else 0 := by
  pointwise [heP1, k0_pay2, k0_pay350, k0_pay351, k0_pay352, k0_pay353, k0_pay354]
  split
  · next h =>
    refine (congrArg₂ (fun x y : EReal => x + y)
      (onehot _ r.val _ (fun x => 4 * x + 0) (by decide +kernel) (fun x => by (try dsimp only); omega) (by omega) ⟨r.val / 4, by omega⟩ (r.val % 4 = 0) ?_)
      (onehot _ r.val _ (fun x => 4 * x + 1) (by decide +kernel) (fun x => by (try dsimp only); omega) (by omega) ⟨r.val / 4, by omega⟩ (r.val % 4 = 1) ?_)).trans ?_
    · intro x; rw [Fin.ext_iff]; (try dsimp only); omega
    · intro x; rw [Fin.ext_iff]; (try dsimp only); omega
    · try dsimp only
      by_cases h0 : r.val % 4 = 0
      · refine (congrArg₂ (fun x y : EReal => x + y) (if_pos h0) (if_neg (by omega))).trans ((add_zero _).trans (Eq.trans ?_ (if_pos (by omega)).symm))
        refine congrArg₂ (fun a b => k0_pay344 g u (ix2 a b)) (Fin.ext ?_) rfl
        show _ = 24 * (r.val % 2) + t.val % 24
        first | omega | (show t.val = _; omega) | (show t.val - 24 = _; omega)
      by_cases h1 : r.val % 4 = 1
      · refine (congrArg₂ (fun x y : EReal => x + y) (if_neg h0) (if_pos h1)).trans ((zero_add _).trans (Eq.trans ?_ (if_pos (by omega)).symm))
        refine congrArg₂ (fun a b => k0_pay344 g u (ix2 a b)) (Fin.ext ?_) rfl
        show _ = 24 * (r.val % 2) + t.val % 24
        first | omega | (show 24 + t.val = _; omega) | (show 24 + (t.val - 24) = _; omega)
      · exact (congrArg₂ (fun x y : EReal => x + y) (if_neg h0) (if_neg h1)).trans ((add_zero _).trans (if_neg (by omega)).symm)
  · next h =>
    refine (congrArg₂ (fun x y : EReal => x + y)
      (onehot _ r.val _ (fun x => 4 * x + 2) (by decide +kernel) (fun x => by (try dsimp only); omega) (by omega) ⟨r.val / 4, by omega⟩ (r.val % 4 = 2) ?_)
      (onehot _ r.val _ (fun x => 4 * x + 3) (by decide +kernel) (fun x => by (try dsimp only); omega) (by omega) ⟨r.val / 4, by omega⟩ (r.val % 4 = 3) ?_)).trans ?_
    · intro x; rw [Fin.ext_iff]; (try dsimp only); omega
    · intro x; rw [Fin.ext_iff]; (try dsimp only); omega
    · try dsimp only
      by_cases h0 : r.val % 4 = 2
      · refine (congrArg₂ (fun x y : EReal => x + y) (if_pos h0) (if_neg (by omega))).trans ((add_zero _).trans (Eq.trans ?_ (if_pos (by omega)).symm))
        refine congrArg₂ (fun a b => k0_pay344 g u (ix2 a b)) (Fin.ext ?_) rfl
        show _ = 24 * (r.val % 2) + t.val % 24
        first | omega | (show t.val = _; omega) | (show t.val - 24 = _; omega)
      by_cases h1 : r.val % 4 = 3
      · refine (congrArg₂ (fun x y : EReal => x + y) (if_neg h0) (if_pos h1)).trans ((zero_add _).trans (Eq.trans ?_ (if_pos (by omega)).symm))
        refine congrArg₂ (fun a b => k0_pay344 g u (ix2 a b)) (Fin.ext ?_) rfl
        show _ = 24 * (r.val % 2) + t.val % 24
        first | omega | (show 24 + t.val = _; omega) | (show 24 + (t.val - 24) = _; omega)
      · exact (congrArg₂ (fun x y : EReal => x + y) (if_neg h0) (if_neg h1)).trans ((add_zero _).trans (if_neg (by omega)).symm)

theorem dif_fin {P : Prop} [Decidable P] {α : Type} (a b : α) : (if h : P then a else b) = if P then a else b := rfl

/-- A row of an interleaved pair, by parity. -/
theorem parRow (B : Vec Ideal S1x64x2x128 .bf16) (m : ℕ) (hm : m / 2 < 64) (a b : ℕ) (ha : a < 64) (hb : b < 2) (l : Fin 128) (e1 : m / 2 = a) (e2 : m % 2 = b) :
    (if m % 2 = 0 then (B : S1x64x2x128.Idx → EReal) (ix4 0 ⟨m / 2, hm⟩ 0 l) else (B : S1x64x2x128.Idx → EReal) (ix4 0 ⟨m / 2, hm⟩ 1 l))
      = (B : S1x64x2x128.Idx → EReal) (ix4 0 ⟨a, ha⟩ ⟨b, hb⟩ l) := by
  subst e1 e2
  split
  · next h => exact congrArg (fun z => (B : S1x64x2x128.Idx → EReal) (ix4 0 ⟨m / 2, hm⟩ z l)) (Fin.ext h.symm)
  · next h => exact congrArg (fun z => (B : S1x64x2x128.Idx → EReal) (ix4 0 ⟨m / 2, hm⟩ z l)) (Fin.ext (show 1 = m % 2 by omega))

/-- One trip of a projection loop. -/
theorem trip_apply (acc : FVec Ideal S48x256 .f32) (codes : FVec Ideal S512x256 .bf16) (A0 B0 A1 B1 : Vec Ideal S1x64x2x128 .bf16) (X : Vec Ideal S48x512 .bf16) (t : Fin 48) (r : Fin 256) :
    k0_pay341 acc codes (k0_pay88 A0) B0 A1 B1 X (ix2 t r) = (acc (ix2 t r) : EReal) + ∑ p : Fin 512, (X : S48x512.Idx → EReal) (ix2 t p) * (codes (ix2 p r) *
        (if h : r.val < 128 then (A0 : S1x64x2x128.Idx → EReal) (ix4 0 ⟨8 * (p.val / 64) + p.val % 16 / 2, by omega⟩ ⟨p.val % 2, by omega⟩ ⟨r.val, h⟩) else (A1 : S1x64x2x128.Idx → EReal) (ix4 0 ⟨8 * (p.val / 64) + p.val % 16 / 2, by omega⟩ ⟨p.val % 2, by omega⟩ ⟨r.val - 128, by omega⟩))
      + codes (ix2 p r) *
        (if h : r.val < 128 then (B0 : S1x64x2x128.Idx → EReal) (ix4 0 ⟨8 * (p.val / 64) + p.val % 16 / 2, by omega⟩ ⟨p.val % 2, by omega⟩ ⟨r.val, h⟩) else (B1 : S1x64x2x128.Idx → EReal) (ix4 0 ⟨8 * (p.val / 64) + p.val % 16 / 2, by omega⟩ ⟨p.val % 2, by omega⟩ ⟨r.val - 128, by omega⟩))) := by
  pointwise [k0_pay341, il2, rp4]
  refine congrArg (fun z : EReal => acc (ix2 t r) + z) (Finset.sum_congr rfl fun p _ => congrArg (fun z : EReal => X (ix2 t p) * z) ?_)
  by_cases h : r.val < 128
  · simp only [dif_pos h]
    refine congrArg₂ (fun x y : EReal => x + y) (congrArg (fun z : EReal => codes (ix2 p r) * z) ?_) (congrArg (fun z : EReal => codes (ix2 p r) * z) ?_)
    · refine (pay88_apply A0 ⟨p.val / 64, _⟩ 0 ⟨p.val % 16, _⟩ ⟨r.val, _⟩).trans ?_
      exact congrArg (fun z => (A0 : S1x64x2x128.Idx → EReal) (ix4 0 ⟨8 * (p.val / 64) + p.val % 16 / 2, _⟩ z ⟨r.val, h⟩)) (Fin.ext (show p.val % 16 % 2 = p.val % 2 by omega))
    · exact parRow B0 _ _ _ _ _ _ _ (by omega) (by omega)
  · simp only [dif_neg h]
    have e : (⟨128 + (r.val - 128), by omega⟩ : Fin 256) = r := Fin.ext (by dsimp only; omega)
    refine congrArg₂ (fun x y : EReal => x + y) (congrArg₂ (fun w z : EReal => w * z) (congrArg (fun w => codes (ix2 p w)) e) ?_)
      (congrArg₂ (fun w z : EReal => w * z) (congrArg (fun w => codes (ix2 p w)) e) ?_)
    · exact parRow A1 _ _ _ _ _ _ _ (by omega) (by omega)
    · exact parRow B1 _ _ _ _ _ _ _ (by omega) (by omega)

end Cert.KernelIdeal.Val
-- ==== Proof.Scr.lean ====
module

public import proofs.«01_k».proof.Proof.Pay

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Cert.Spec

/-- The high part of a scale. -/
def hiE (s : EReal) : EReal :=
  s * Ideal.ofBits .f32 0x3F800400#32 * Ideal.ofBits .f32 0x49000010#32
    - (s * Ideal.ofBits .f32 0x3F800400#32 * Ideal.ofBits .f32 0x49000010#32 - s * Ideal.ofBits .f32 0x3F800400#32)

theorem mag_gen (sh : Shape) (v : IVec sh 32) (i : sh.Idx) (k2 k3 a : BitVec 32) :
    (bitcastToFloat (F := Ideal) .f32 (addi (shrsi (andi v (broadcast sh k2)) (broadcast sh k3)) (broadcast sh a)) : FVec Ideal sh .f32) i
      = Ideal.ofBits .f32 (IntOp.addi (IntOp.shrsi .vector (IntOp.andi (v i) k2) k3) a) := rfl
theorem sel_gen (sh : Shape) (v : IVec sh 32) (i : sh.Idx) (k1 z d e : BitVec 32) :
    (select (cmpi .ne (andi v (broadcast sh k1)) (broadcast sh z)) (broadcast sh (Scalar.ofBits .f32 d)) (broadcast sh (Scalar.ofBits .f32 e)) : FVec Ideal sh .f32) i
      = Scalar.select (IntOp.cmpi .ne (IntOp.andi (v i) k1) z) (Ideal.ofBits .f32 d) (Ideal.ofBits .f32 e) := rfl
theorem min_gen (sh : Shape) (i : sh.Idx) (m : FVec Ideal sh .f32) (s : FVec Ideal sh .f32) (c : BitVec 32) :
    (mulf s (minimumf m (subf (addf m m) (broadcast sh (Scalar.ofBits .f32 c)))) : FVec Ideal sh .f32) i
      = s i * min (m i) (m i + m i - Ideal.ofBits .f32 c) := rfl

theorem decV_apply (sh : Shape) (v : IVec sh 32) (i : sh.Idx) : (decV sh v : FVec Ideal sh .f32) i = kDec (v i) := by
  unfold decV kDec
  rw [min_gen, sel_gen, mag_gen]
theorem hiV_apply (sh : Shape) (s : FVec Ideal sh .f32) (i : sh.Idx) : (hiV sh s : FVec Ideal sh .f32) i = hiE (s i) := by
  pointwise [hiV]
  unfold hiE
  rfl
theorem trunc_gen (sh : Shape) (s : FVec Ideal sh .f32) (i : sh.Idx) : (truncf .bf16 s bitsLt_bf16_f32 : FVec Ideal sh .bf16) i = s i := rfl
theorem sub_gen (sh : Shape) (s t : FVec Ideal sh .f32) (i : sh.Idx) : (subf s t : FVec Ideal sh .f32) i = s i - t i := rfl
theorem hiT_apply (sh : Shape) (v : IVec sh 32) (i : sh.Idx) : (hiT sh v : FVec Ideal sh .bf16) i = hiE (kDec (v i)) := by
  unfold hiT
  rw [trunc_gen, hiV_apply, decV_apply]
theorem loT_apply (sh : Shape) (v : IVec sh 32) (i : sh.Idx) : (loT sh v : FVec Ideal sh .bf16) i = kDec (v i) - hiE (kDec (v i)) := by
  unfold loT
  rw [trunc_gen, sub_gen, hiV_apply, decV_apply]

/-- A code times the two parts of a scale is the code times the scale. -/
theorem nib_split (b : BitVec 8) (n : ℕ) (s : BitVec 16) :
    nibE b n * hiE (kDec (s ++ 0#16)) + nibE b n * (kDec (s ++ 0#16) - hiE (kDec (s ++ 0#16))) = nibE b n * (scR s : EReal) := by
  rw [kDec_eq]
  unfold hiE nibE
  rw [split_hi (scR s) _ _ _ _ ofBits_c1 ofBits_c2]
  exact split_mul _ _ _

theorem half0_word (a b : BitVec 16) : IntOp.shli .vector (a ++ b) 16#32 = b ++ 0#16 := by
  show (a ++ b) <<< 16 = _
  apply BitVec.eq_of_getLsbD_eq
  intro i hi
  rw [BitVec.getLsbD_shiftLeft, BitVec.getLsbD_append, BitVec.getLsbD_append]
  interval_cases i <;> simp

theorem half1_word (a b : BitVec 16) : IntOp.andi (a ++ b) 4294901760#32 = a ++ 0#16 := by
  show (a ++ b) &&& 4294901760#32 = _
  apply BitVec.eq_of_getLsbD_eq
  intro i hi
  rw [BitVec.getLsbD_and, BitVec.getLsbD_append, BitVec.getLsbD_append]
  interval_cases i <;> simp

theorem words128_apply (v : S512x128.Idx → BitVec 16) (g : Fin 128) (l : Fin 256) :
    words128 (F := Ideal) v (ix2 g l) = v (ix2 ⟨2 * l.val + 1, by omega⟩ g) ++ v (ix2 ⟨2 * l.val, by omega⟩ g) := by
  unfold words128
  pointwise []
  rw [bitcast_16_32]
  congr 1
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

theorem half0_128 (v : S512x128.Idx → BitVec 16) (g : Fin 128) (l : Fin 256) :
    half0 S128x256 (words128 (F := Ideal) v) (ix2 g l) = v (ix2 ⟨2 * l.val, by omega⟩ g) ++ 0#16 :=
  (congrArg (fun w => IntOp.shli .vector w 16#32) (words128_apply v g l)).trans (half0_word _ _)
theorem half1_128 (v : S512x128.Idx → BitVec 16) (g : Fin 128) (l : Fin 256) :
    half1 S128x256 (words128 (F := Ideal) v) (ix2 g l) = v (ix2 ⟨2 * l.val + 1, by omega⟩ g) ++ 0#16 :=
  (congrArg (fun w => IntOp.andi w 4294901760#32) (words128_apply v g l)).trans (half1_word _ _)

theorem il4_128 {α : Type} (lo : S1x128x1x128.Idx → α) (h : S1x128x2x128.Bitcasts 16 S1x128x1x128 32) (a : Fin 1) (g : Fin 128) (b : Fin 2) (l : Fin 128) :
    interleaveRows S1x128x2x128 lo lo h (ix4 a g b l) = lo (ix4 a g 0 l) := by
  unfold interleaveRows
  dsimp only
  split <;>
  · refine congrArg lo (funext fun c => ?_)
    match c with
    | ⟨0, _⟩ => rfl
    | ⟨1, _⟩ => rfl
    | ⟨2, _⟩ => exact Fin.ext (show b.val / 2 = 0 by omega)
    | ⟨3, _⟩ => rfl

theorem col128_0_apply (src : FVec Ideal S128x256 .bf16) (a : Fin 1) (g : Fin 128) (b : Fin 2) (l : Fin 128) :
    col128_0 src (ix4 a g b l) = src (ix2 g ⟨0 + l.val, by omega⟩) := by
  unfold col128_0
  pointwise [il4_128]

theorem col128_1_apply (src : FVec Ideal S128x256 .bf16) (a : Fin 1) (g : Fin 128) (b : Fin 2) (l : Fin 128) :
    col128_1 src (ix4 a g b l) = src (ix2 g ⟨128 + l.val, by omega⟩) := by
  unfold col128_1
  pointwise [il4_128]

theorem words96_apply (v : S512x96.Idx → BitVec 16) (g : Fin 96) (l : Fin 256) :
    words96 (F := Ideal) v (ix2 g l) = v (ix2 ⟨2 * l.val + 1, by omega⟩ g) ++ v (ix2 ⟨2 * l.val, by omega⟩ g) := by
  unfold words96
  pointwise []
  rw [bitcast_16_32]
  congr 1
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

theorem half0_96 (v : S512x96.Idx → BitVec 16) (g : Fin 96) (l : Fin 256) :
    half0 S96x256 (words96 (F := Ideal) v) (ix2 g l) = v (ix2 ⟨2 * l.val, by omega⟩ g) ++ 0#16 :=
  (congrArg (fun w => IntOp.shli .vector w 16#32) (words96_apply v g l)).trans (half0_word _ _)
theorem half1_96 (v : S512x96.Idx → BitVec 16) (g : Fin 96) (l : Fin 256) :
    half1 S96x256 (words96 (F := Ideal) v) (ix2 g l) = v (ix2 ⟨2 * l.val + 1, by omega⟩ g) ++ 0#16 :=
  (congrArg (fun w => IntOp.andi w 4294901760#32) (words96_apply v g l)).trans (half1_word _ _)

theorem il4_96 {α : Type} (lo : S1x96x1x128.Idx → α) (h : S1x96x2x128.Bitcasts 16 S1x96x1x128 32) (a : Fin 1) (g : Fin 96) (b : Fin 2) (l : Fin 128) :
    interleaveRows S1x96x2x128 lo lo h (ix4 a g b l) = lo (ix4 a g 0 l) := by
  unfold interleaveRows
  dsimp only
  split <;>
  · refine congrArg lo (funext fun c => ?_)
    match c with
    | ⟨0, _⟩ => rfl
    | ⟨1, _⟩ => rfl
    | ⟨2, _⟩ => exact Fin.ext (show b.val / 2 = 0 by omega)
    | ⟨3, _⟩ => rfl

theorem col96_0_apply (src : FVec Ideal S96x256 .bf16) (a : Fin 1) (g : Fin 96) (b : Fin 2) (l : Fin 128) :
    col96_0 src (ix4 a g b l) = src (ix2 g ⟨0 + l.val, by omega⟩) := by
  unfold col96_0
  pointwise [il4_96]

theorem col96_1_apply (src : FVec Ideal S96x256 .bf16) (a : Fin 1) (g : Fin 96) (b : Fin 2) (l : Fin 128) :
    col96_1 src (ix4 a g b l) = src (ix2 g ⟨128 + l.val, by omega⟩) := by
  unfold col96_1
  pointwise [il4_96]

theorem words16_apply (v : S512x16.Idx → BitVec 16) (g : Fin 16) (l : Fin 256) :
    words16 (F := Ideal) v (ix2 g l) = v (ix2 ⟨2 * l.val + 1, by omega⟩ g) ++ v (ix2 ⟨2 * l.val, by omega⟩ g) := by
  unfold words16
  pointwise []
  rw [bitcast_16_32]
  congr 1
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  · refine congrArg v (funext fun c => ?_)
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

theorem half0_16 (v : S512x16.Idx → BitVec 16) (g : Fin 16) (l : Fin 256) :
    half0 S16x256 (words16 (F := Ideal) v) (ix2 g l) = v (ix2 ⟨2 * l.val, by omega⟩ g) ++ 0#16 :=
  (congrArg (fun w => IntOp.shli .vector w 16#32) (words16_apply v g l)).trans (half0_word _ _)
theorem half1_16 (v : S512x16.Idx → BitVec 16) (g : Fin 16) (l : Fin 256) :
    half1 S16x256 (words16 (F := Ideal) v) (ix2 g l) = v (ix2 ⟨2 * l.val + 1, by omega⟩ g) ++ 0#16 :=
  (congrArg (fun w => IntOp.andi w 4294901760#32) (words16_apply v g l)).trans (half1_word _ _)

theorem il4_16 {α : Type} (lo : S1x16x1x128.Idx → α) (h : S1x16x2x128.Bitcasts 16 S1x16x1x128 32) (a : Fin 1) (g : Fin 16) (b : Fin 2) (l : Fin 128) :
    interleaveRows S1x16x2x128 lo lo h (ix4 a g b l) = lo (ix4 a g 0 l) := by
  unfold interleaveRows
  dsimp only
  split <;>
  · refine congrArg lo (funext fun c => ?_)
    match c with
    | ⟨0, _⟩ => rfl
    | ⟨1, _⟩ => rfl
    | ⟨2, _⟩ => exact Fin.ext (show b.val / 2 = 0 by omega)
    | ⟨3, _⟩ => rfl

theorem col16_0_apply (src : FVec Ideal S16x256 .bf16) (a : Fin 1) (g : Fin 16) (b : Fin 2) (l : Fin 128) :
    col16_0 src (ix4 a g b l) = src (ix2 g ⟨0 + l.val, by omega⟩) := by
  unfold col16_0
  pointwise [il4_16]

theorem col16_1_apply (src : FVec Ideal S16x256 .bf16) (a : Fin 1) (g : Fin 16) (b : Fin 2) (l : Fin 128) :
    col16_1 src (ix4 a g b l) = src (ix2 g ⟨128 + l.val, by omega⟩) := by
  unfold col16_1
  pointwise [il4_16]

/-- An index of a rank-4 shape from its coordinates. -/
theorem ix4_eta {a b c d : ℕ} (y : (⟨4, ![a, b, c, d]⟩ : Shape).Idx) : y = ix4 (y 0) (y 1) (y 2) (y 3) := by
  funext e
  match e with
  | ⟨0, _⟩ => rfl
  | ⟨1, _⟩ => rfl
  | ⟨2, _⟩ => rfl
  | ⟨3, _⟩ => rfl

theorem ix2_eta {a b : ℕ} (y : (⟨2, ![a, b]⟩ : Shape).Idx) : y = ix2 (y 0) (y 1) := by
  funext e
  match e with
  | ⟨0, _⟩ => rfl
  | ⟨1, _⟩ => rfl

end Cert.KernelIdeal.Val
-- ==== Proof.Trip.lean ====
module

public import proofs.«01_k».proof.Proof.Scr

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Cert.Spec

section reads
variable {κ : Kind} {sp : Space}

theorem rd4_1792 (v : View sig κ sp S2x1792x2x128 .bf16) (f : v.ty.Contents (Elt Ideal)) (U : ℕ → ℕ → ℕ → EReal)
    (hf : ∀ y, v.read (Elt Ideal) f y = U ((y 1).val % 2) ((y 1).val / 8) (128 * (y 0).val + (y 3).val)) (off : Fin 4 → ℕ) (inb) (o0 o1 : ℕ)
    (h0 : off 0 = o0) (h1 : off 1 = o1) (h3 : off 3 = 0) (a : Fin 1) (b : Fin 64) (c : Fin 2) (d : Fin 128) :
    v.readAt (Elt Ideal) (Rect.unit (s := S2x1792x2x128) off S1x64x2x128.size inb).toLoadRect f (ix4 a b c d : S1x64x2x128.Idx) = U ((o1 + b.val) % 2) ((o1 + b.val) / 8) (128 * o0 + d.val) := by
  refine (hf _).trans ?_
  show U ((off 1 + 1 * b.val) % 2) ((off 1 + 1 * b.val) / 8) (128 * (off 0 + 1 * a.val) + (off 3 + 1 * d.val)) = _
  rw [h0, h1, h3, show a.val = 0 by omega]
  simp only [one_mul, zero_add, mul_zero, add_zero]

theorem rd4_1152 (v : View sig κ sp S2x1152x2x128 .bf16) (f : v.ty.Contents (Elt Ideal)) (U : ℕ → ℕ → ℕ → EReal)
    (hf : ∀ y, v.read (Elt Ideal) f y = U ((y 1).val % 2) ((y 1).val / 8) (128 * (y 0).val + (y 3).val)) (off : Fin 4 → ℕ) (inb) (o0 o1 : ℕ)
    (h0 : off 0 = o0) (h1 : off 1 = o1) (h3 : off 3 = 0) (a : Fin 1) (b : Fin 64) (c : Fin 2) (d : Fin 128) :
    v.readAt (Elt Ideal) (Rect.unit (s := S2x1152x2x128) off S1x64x2x128.size inb).toLoadRect f (ix4 a b c d : S1x64x2x128.Idx) = U ((o1 + b.val) % 2) ((o1 + b.val) / 8) (128 * o0 + d.val) := by
  refine (hf _).trans ?_
  show U ((off 1 + 1 * b.val) % 2) ((off 1 + 1 * b.val) / 8) (128 * (off 0 + 1 * a.val) + (off 3 + 1 * d.val)) = _
  rw [h0, h1, h3, show a.val = 0 by omega]
  simp only [one_mul, zero_add, mul_zero, add_zero]

theorem rd2 {a b a' b' : ℕ} {e : EltTy} (v : View sig κ sp ⟨2, ![a, b]⟩ e) (f : v.ty.Contents (Elt Ideal)) (X : ℕ → ℕ → Elt Ideal e)
    (hf : ∀ (i : Fin a) (j : Fin b), v.read (Elt Ideal) f (ix2 i j) = X i.val j.val) (off : Fin 2 → ℕ) (inb) (o1 : ℕ)
    (h0 : off 0 = 0) (h1 : off 1 = o1) (i : Fin a') (j : Fin b') :
    v.readAt (Elt Ideal) (Rect.unit (s := ⟨2, ![a, b]⟩) off ![a', b'] inb).toLoadRect f (ix2 i j : (⟨2, ![a', b']⟩ : Shape).Idx) = X i.val (o1 + j.val) := by
  refine (congrArg (v.read (Elt Ideal) f) (ix2_eta _)).trans ((hf _ _).trans ?_)
  show X (off 0 + 1 * i.val) (off 1 + 1 * j.val) = _
  rw [h0, h1]
  simp only [one_mul, zero_add]
end reads

/-- One term of a projection in the interleaved layout. -/
def term (X : ℕ → ℕ → EReal) (Q : ℕ → ℕ → BitVec 8) (S : ℕ → ℕ → BitVec 16) (T r q : ℕ) : EReal :=
  X T q * (nibE (Q (2 * r + (q / 2) % 2) (q / 4)) (q % 2) * (scR (S (2 * r + (q / 2) % 2) (q / 64)) : EReal))

theorem trips_1 : k0_t1_loop.trips = 28 := by decide +kernel
theorem off1_eq : ∀ k : Fin k0_t1_loop.trips, k0_off1 k 0 = 0 ∧ k0_off1 k 1 = 128 * k.val := by decide +kernel
theorem off2_eq : ∀ k : Fin k0_t1_loop.trips, k0_off2 k 0 = 0 ∧ k0_off2 k 1 = 64 * k.val ∧ k0_off2 k 3 = 0 := by decide +kernel
theorem off3_eq : ∀ k : Fin k0_t1_loop.trips, k0_off3 k 0 = 1 ∧ k0_off3 k 1 = 64 * k.val ∧ k0_off3 k 3 = 0 := by decide +kernel
theorem off4_eq : ∀ k : Fin k0_t1_loop.trips, k0_off4 k 0 = 0 ∧ k0_off4 k 1 = 512 * k.val := by decide +kernel

theorem tripR1_eq (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h2 : k0_cond2 i = 1#1) (v773 : FVec Ideal S48x256 .f32) (c0_i32_461 : BitVec 32) (c28_i32 : BitVec 32) (X2 : BufTy.Contents (Elt Ideal) arg2.view.ty) (X9 : BufTy.Contents (Elt Ideal) arg9.view.ty) (X11 : BufTy.Contents (Elt Ideal) arg11.view.ty) (X12 : BufTy.Contents (Elt Ideal) arg12.view.ty) (k : Fin k0_t1_loop.trips) (acc : FVec Ideal S48x256 .f32) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X2 X9 X11 X12 k acc
      = k0_pay341 acc (k0_pay87 (arg2.view.readAt (Elt Ideal) (Rect.unit (s := S512x3584) (k0_off1 k) S512x128.size (k0_off1_inb i k k0_h2)).toLoadRect X2))
          (k0_pay88 (arg11.view.readAt (Elt Ideal) (Rect.unit (s := S2x1792x2x128) (k0_off2 k) S1x64x2x128.size (k0_off2_inb i k k0_h2)).toLoadRect X11))
          (arg12.view.readAt (Elt Ideal) (Rect.unit (s := S2x1792x2x128) (k0_off2 k) S1x64x2x128.size (k0_off2_inb i k k0_h2)).toLoadRect X12)
          (arg11.view.readAt (Elt Ideal) (Rect.unit (s := S2x1792x2x128) (k0_off3 k) S1x64x2x128.size (k0_off3_inb i k k0_h2)).toLoadRect X11)
          (arg12.view.readAt (Elt Ideal) (Rect.unit (s := S2x1792x2x128) (k0_off3 k) S1x64x2x128.size (k0_off3_inb i k k0_h2)).toLoadRect X12)
          (arg9.view.readAt (Elt Ideal) (Rect.unit (s := S48x14336) (k0_off4 k) S48x512.size (k0_off4_inb i k k0_h2)).toLoadRect X9) := by
  unfold tripR_k0_t1 trip_k0_t1
  rfl

section
variable (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h2 : k0_cond2 i = 1#1) (v773 : FVec Ideal S48x256 .f32) (c0_i32_461 : BitVec 32) (c28_i32 : BitVec 32) (X2 : BufTy.Contents (Elt Ideal) arg2.view.ty) (X9 : BufTy.Contents (Elt Ideal) arg9.view.ty) (X11 : BufTy.Contents (Elt Ideal) arg11.view.ty) (X12 : BufTy.Contents (Elt Ideal) arg12.view.ty)
  (Q : ℕ → ℕ → BitVec 8) (S : ℕ → ℕ → BitVec 16) (X : ℕ → ℕ → EReal) (U W : ℕ → ℕ → ℕ → EReal)
  (hQ : ∀ (a : Fin 512) (b : Fin 3584), arg2.view.read (Elt Ideal) X2 (ix2 a b) = Q a.val b.val)
  (hX : ∀ (a : Fin 48) (b : Fin 14336), arg9.view.read (Elt Ideal) X9 (ix2 a b) = X a.val b.val)
  (hU : ∀ y, arg11.view.read (Elt Ideal) X11 y = U ((y 1).val % 2) ((y 1).val / 8) (128 * (y 0).val + (y 3).val))
  (hW : ∀ y, arg12.view.read (Elt Ideal) X12 y = W ((y 1).val % 2) ((y 1).val / 8) (128 * (y 0).val + (y 3).val))
  (hUW : ∀ (b : BitVec 8) (n cc g l : ℕ), nibE b n * U cc g l + nibE b n * W cc g l = nibE b n * (scR (S (2 * l + cc) g) : EReal))
include hQ hX hU hW hUW

theorem trip1_sum (k : Fin k0_t1_loop.trips) (acc : FVec Ideal S48x256 .f32) (T : Fin 48) (r : Fin 256) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X2 X9 X11 X12 k acc (ix2 T r) = (acc (ix2 T r) : EReal) + ∑ p ∈ Finset.range 512, term X Q S T.val r.val (512 * k.val + p) := by
  rw [tripR1_eq, trip_apply, Finset.sum_range]
  refine congrArg (fun z : EReal => acc (ix2 T r) + z) (Finset.sum_congr rfl fun p _ => ?_)
  have e1 := rd2 arg9.view X9 X hX _ (k0_off4_inb i k k0_h2) _ (off4_eq k).1 (off4_eq k).2 T p
  have e2 := fun a b => rd2 arg2.view X2 Q hQ _ (k0_off1_inb i k k0_h2) _ (off1_eq k).1 (off1_eq k).2 a b
  have u0 := rd4_1792 arg11.view X11 U hU _ (k0_off2_inb i k k0_h2) _ _ (off2_eq k).1 (off2_eq k).2.1 (off2_eq k).2.2
  have u1 := rd4_1792 arg11.view X11 U hU _ (k0_off3_inb i k k0_h2) _ _ (off3_eq k).1 (off3_eq k).2.1 (off3_eq k).2.2
  have w0 := rd4_1792 arg12.view X12 W hW _ (k0_off2_inb i k k0_h2) _ _ (off2_eq k).1 (off2_eq k).2.1 (off2_eq k).2.2
  have w1 := rd4_1792 arg12.view X12 W hW _ (k0_off3_inb i k k0_h2) _ _ (off3_eq k).1 (off3_eq k).2.1 (off3_eq k).2.2
  rw [code_apply]
  unfold term
  refine congrArg₂ (fun x z : EReal => x * z) e1 ?_
  refine Eq.trans ?_ ((hUW (Q (2 * r.val + ((512 * k.val + p.val) / 2) % 2) ((512 * k.val + p.val) / 4)) ((512 * k.val + p.val) % 2) (((512 * k.val + p.val) / 2) % 2) ((512 * k.val + p.val) / 64) r.val))
  have hn : nibE ((arg2.view.readAt (Elt Ideal) (Rect.unit (s := S512x3584) (k0_off1 k) S512x128.size (k0_off1_inb i k k0_h2)).toLoadRect X2 : S512x128.Idx → BitVec 8) (ix2 ⟨2 * r.val + (p.val / 2) % 2, by omega⟩ ⟨p.val / 4, by omega⟩)) (p.val % 2)
      = nibE (Q (2 * r.val + ((512 * k.val + p.val) / 2) % 2) ((512 * k.val + p.val) / 4)) ((512 * k.val + p.val) % 2) := by
    have e3 := e2 (⟨2 * r.val + (p.val / 2) % 2, by omega⟩ : Fin 512) (⟨p.val / 4, by omega⟩ : Fin 128)
    refine (congrArg (fun z => nibE z (p.val % 2)) e3).trans ?_
    rw [show 128 * k.val + p.val / 4 = (512 * k.val + p.val) / 4 by omega, show (512 * k.val + p.val) / 2 % 2 = p.val / 2 % 2 by omega, show (512 * k.val + p.val) % 2 = p.val % 2 by omega]
  by_cases h : r.val < 128
  · rw [dif_pos h, dif_pos h]
    refine congrArg₂ (fun x z : EReal => x + z) (congrArg₂ (fun x z : EReal => x * z) hn ((u0 _ _ _ _).trans ?_)) (congrArg₂ (fun x z : EReal => x * z) hn ((w0 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 0 + r.val = r.val by omega]
  · rw [dif_neg h, dif_neg h]
    refine congrArg₂ (fun x z : EReal => x + z) (congrArg₂ (fun x z : EReal => x * z) hn ((u1 _ _ _ _).trans ?_)) (congrArg₂ (fun x z : EReal => x * z) hn ((w1 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 1 + (r.val - 128) = r.val by omega]

theorem st1_sum (init : FVec Ideal S48x256 .f32) (n : ℕ) (hn : n ≤ 28) (T : Fin 48) (r : Fin 256) :
    st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X2 X9 X11 X12 init n (ix2 T r) = (init (ix2 T r) : EReal) + ∑ q ∈ Finset.range (512 * n), term X Q S T.val r.val q := by
  induction n with
  | zero => rw [st_k0_t1_zero]; simp
  | succ n ih =>
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X2 X9 X11 X12 init ⟨n, by rw [trips_1]; omega⟩
    refine (congrFun e (ix2 T r)).trans ?_
    rw [trip1_sum 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X2 X9 X11 X12 Q S X U W hQ hX hU hW hUW, show 512 * (n + 1) = 512 * n + 512 by ring, Finset.sum_range_add, ← add_assoc]
    exact congrArg (fun z : EReal => z + _) (ih (by omega))
end

theorem trips_2 : k0_t2_loop.trips = 28 := by decide +kernel
theorem off5_eq : ∀ k : Fin k0_t2_loop.trips, k0_off5 k 0 = 0 ∧ k0_off5 k 1 = 128 * k.val := by decide +kernel
theorem off6_eq : ∀ k : Fin k0_t2_loop.trips, k0_off6 k 0 = 0 ∧ k0_off6 k 1 = 64 * k.val ∧ k0_off6 k 3 = 0 := by decide +kernel
theorem off7_eq : ∀ k : Fin k0_t2_loop.trips, k0_off7 k 0 = 1 ∧ k0_off7 k 1 = 64 * k.val ∧ k0_off7 k 3 = 0 := by decide +kernel
theorem off8_eq : ∀ k : Fin k0_t2_loop.trips, k0_off8 k 0 = 0 ∧ k0_off8 k 1 = 512 * k.val := by decide +kernel

theorem tripR2_eq (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h2 : k0_cond2 i = 1#1) (v773 : FVec Ideal S48x256 .f32) (c0_i32_461 : BitVec 32) (c28_i32 : BitVec 32) (X4 : BufTy.Contents (Elt Ideal) arg4.view.ty) (X9 : BufTy.Contents (Elt Ideal) arg9.view.ty) (X13 : BufTy.Contents (Elt Ideal) arg13.view.ty) (X14 : BufTy.Contents (Elt Ideal) arg14.view.ty) (k : Fin k0_t2_loop.trips) (acc : FVec Ideal S48x256 .f32) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X4 X9 X13 X14 k acc
      = k0_pay341 acc (k0_pay87 (arg4.view.readAt (Elt Ideal) (Rect.unit (s := S512x3584) (k0_off5 k) S512x128.size (k0_off5_inb i k k0_h2)).toLoadRect X4))
          (k0_pay88 (arg13.view.readAt (Elt Ideal) (Rect.unit (s := S2x1792x2x128) (k0_off6 k) S1x64x2x128.size (k0_off6_inb i k k0_h2)).toLoadRect X13))
          (arg14.view.readAt (Elt Ideal) (Rect.unit (s := S2x1792x2x128) (k0_off6 k) S1x64x2x128.size (k0_off6_inb i k k0_h2)).toLoadRect X14)
          (arg13.view.readAt (Elt Ideal) (Rect.unit (s := S2x1792x2x128) (k0_off7 k) S1x64x2x128.size (k0_off7_inb i k k0_h2)).toLoadRect X13)
          (arg14.view.readAt (Elt Ideal) (Rect.unit (s := S2x1792x2x128) (k0_off7 k) S1x64x2x128.size (k0_off7_inb i k k0_h2)).toLoadRect X14)
          (arg9.view.readAt (Elt Ideal) (Rect.unit (s := S48x14336) (k0_off8 k) S48x512.size (k0_off8_inb i k k0_h2)).toLoadRect X9) := by
  unfold tripR_k0_t2 trip_k0_t2
  rfl

section
variable (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h2 : k0_cond2 i = 1#1) (v773 : FVec Ideal S48x256 .f32) (c0_i32_461 : BitVec 32) (c28_i32 : BitVec 32) (X4 : BufTy.Contents (Elt Ideal) arg4.view.ty) (X9 : BufTy.Contents (Elt Ideal) arg9.view.ty) (X13 : BufTy.Contents (Elt Ideal) arg13.view.ty) (X14 : BufTy.Contents (Elt Ideal) arg14.view.ty)
  (Q : ℕ → ℕ → BitVec 8) (S : ℕ → ℕ → BitVec 16) (X : ℕ → ℕ → EReal) (U W : ℕ → ℕ → ℕ → EReal)
  (hQ : ∀ (a : Fin 512) (b : Fin 3584), arg4.view.read (Elt Ideal) X4 (ix2 a b) = Q a.val b.val)
  (hX : ∀ (a : Fin 48) (b : Fin 14336), arg9.view.read (Elt Ideal) X9 (ix2 a b) = X a.val b.val)
  (hU : ∀ y, arg13.view.read (Elt Ideal) X13 y = U ((y 1).val % 2) ((y 1).val / 8) (128 * (y 0).val + (y 3).val))
  (hW : ∀ y, arg14.view.read (Elt Ideal) X14 y = W ((y 1).val % 2) ((y 1).val / 8) (128 * (y 0).val + (y 3).val))
  (hUW : ∀ (b : BitVec 8) (n cc g l : ℕ), nibE b n * U cc g l + nibE b n * W cc g l = nibE b n * (scR (S (2 * l + cc) g) : EReal))
include hQ hX hU hW hUW

theorem trip2_sum (k : Fin k0_t2_loop.trips) (acc : FVec Ideal S48x256 .f32) (T : Fin 48) (r : Fin 256) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X4 X9 X13 X14 k acc (ix2 T r) = (acc (ix2 T r) : EReal) + ∑ p ∈ Finset.range 512, term X Q S T.val r.val (512 * k.val + p) := by
  rw [tripR2_eq, trip_apply, Finset.sum_range]
  refine congrArg (fun z : EReal => acc (ix2 T r) + z) (Finset.sum_congr rfl fun p _ => ?_)
  have e1 := rd2 arg9.view X9 X hX _ (k0_off8_inb i k k0_h2) _ (off8_eq k).1 (off8_eq k).2 T p
  have e2 := fun a b => rd2 arg4.view X4 Q hQ _ (k0_off5_inb i k k0_h2) _ (off5_eq k).1 (off5_eq k).2 a b
  have u0 := rd4_1792 arg13.view X13 U hU _ (k0_off6_inb i k k0_h2) _ _ (off6_eq k).1 (off6_eq k).2.1 (off6_eq k).2.2
  have u1 := rd4_1792 arg13.view X13 U hU _ (k0_off7_inb i k k0_h2) _ _ (off7_eq k).1 (off7_eq k).2.1 (off7_eq k).2.2
  have w0 := rd4_1792 arg14.view X14 W hW _ (k0_off6_inb i k k0_h2) _ _ (off6_eq k).1 (off6_eq k).2.1 (off6_eq k).2.2
  have w1 := rd4_1792 arg14.view X14 W hW _ (k0_off7_inb i k k0_h2) _ _ (off7_eq k).1 (off7_eq k).2.1 (off7_eq k).2.2
  rw [code_apply]
  unfold term
  refine congrArg₂ (fun x z : EReal => x * z) e1 ?_
  refine Eq.trans ?_ ((hUW (Q (2 * r.val + ((512 * k.val + p.val) / 2) % 2) ((512 * k.val + p.val) / 4)) ((512 * k.val + p.val) % 2) (((512 * k.val + p.val) / 2) % 2) ((512 * k.val + p.val) / 64) r.val))
  have hn : nibE ((arg4.view.readAt (Elt Ideal) (Rect.unit (s := S512x3584) (k0_off5 k) S512x128.size (k0_off5_inb i k k0_h2)).toLoadRect X4 : S512x128.Idx → BitVec 8) (ix2 ⟨2 * r.val + (p.val / 2) % 2, by omega⟩ ⟨p.val / 4, by omega⟩)) (p.val % 2)
      = nibE (Q (2 * r.val + ((512 * k.val + p.val) / 2) % 2) ((512 * k.val + p.val) / 4)) ((512 * k.val + p.val) % 2) := by
    have e3 := e2 (⟨2 * r.val + (p.val / 2) % 2, by omega⟩ : Fin 512) (⟨p.val / 4, by omega⟩ : Fin 128)
    refine (congrArg (fun z => nibE z (p.val % 2)) e3).trans ?_
    rw [show 128 * k.val + p.val / 4 = (512 * k.val + p.val) / 4 by omega, show (512 * k.val + p.val) / 2 % 2 = p.val / 2 % 2 by omega, show (512 * k.val + p.val) % 2 = p.val % 2 by omega]
  by_cases h : r.val < 128
  · rw [dif_pos h, dif_pos h]
    refine congrArg₂ (fun x z : EReal => x + z) (congrArg₂ (fun x z : EReal => x * z) hn ((u0 _ _ _ _).trans ?_)) (congrArg₂ (fun x z : EReal => x * z) hn ((w0 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 0 + r.val = r.val by omega]
  · rw [dif_neg h, dif_neg h]
    refine congrArg₂ (fun x z : EReal => x + z) (congrArg₂ (fun x z : EReal => x * z) hn ((u1 _ _ _ _).trans ?_)) (congrArg₂ (fun x z : EReal => x * z) hn ((w1 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 1 + (r.val - 128) = r.val by omega]

theorem st2_sum (init : FVec Ideal S48x256 .f32) (n : ℕ) (hn : n ≤ 28) (T : Fin 48) (r : Fin 256) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X4 X9 X13 X14 init n (ix2 T r) = (init (ix2 T r) : EReal) + ∑ q ∈ Finset.range (512 * n), term X Q S T.val r.val q := by
  induction n with
  | zero => rw [st_k0_t2_zero]; simp
  | succ n ih =>
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X4 X9 X13 X14 init ⟨n, by rw [trips_2]; omega⟩
    refine (congrFun e (ix2 T r)).trans ?_
    rw [trip2_sum 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v773 c0_i32_461 c28_i32 X4 X9 X13 X14 Q S X U W hQ hX hU hW hUW, show 512 * (n + 1) = 512 * n + 512 by ring, Finset.sum_range_add, ← add_assoc]
    exact congrArg (fun z : EReal => z + _) (ih (by omega))
end

theorem trips_3 : k0_t3_loop.trips = 18 := by decide +kernel
theorem off10_eq : ∀ k : Fin k0_t3_loop.trips, k0_off10 k 0 = 0 ∧ k0_off10 k 1 = 128 * k.val := by decide +kernel
theorem off11_eq : ∀ k : Fin k0_t3_loop.trips, k0_off11 k 0 = 0 ∧ k0_off11 k 1 = 64 * k.val ∧ k0_off11 k 3 = 0 := by decide +kernel
theorem off12_eq : ∀ k : Fin k0_t3_loop.trips, k0_off12 k 0 = 1 ∧ k0_off12 k 1 = 64 * k.val ∧ k0_off12 k 3 = 0 := by decide +kernel
theorem off13_eq : ∀ k : Fin k0_t3_loop.trips, k0_off13 k 0 = 0 ∧ k0_off13 k 1 = 512 * k.val := by decide +kernel

theorem tripR3_eq (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h3 : k0_cond3 i = 1#1)  (X6 : BufTy.Contents (Elt Ideal) arg6.view.ty) (X10 : BufTy.Contents (Elt Ideal) arg10.view.ty) (X15 : BufTy.Contents (Elt Ideal) arg15.view.ty) (X16 : BufTy.Contents (Elt Ideal) arg16.view.ty) (k : Fin k0_t3_loop.trips) (acc : FVec Ideal S48x256 .f32) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3  X6 X10 X15 X16 k acc
      = k0_pay341 acc (k0_pay87 (arg6.view.readAt (Elt Ideal) (Rect.unit (s := S512x2304) (k0_off10 k) S512x128.size (k0_off10_inb i k k0_h3)).toLoadRect X6))
          (k0_pay88 (arg15.view.readAt (Elt Ideal) (Rect.unit (s := S2x1152x2x128) (k0_off11 k) S1x64x2x128.size (k0_off11_inb i k k0_h3)).toLoadRect X15))
          (arg16.view.readAt (Elt Ideal) (Rect.unit (s := S2x1152x2x128) (k0_off11 k) S1x64x2x128.size (k0_off11_inb i k k0_h3)).toLoadRect X16)
          (arg15.view.readAt (Elt Ideal) (Rect.unit (s := S2x1152x2x128) (k0_off12 k) S1x64x2x128.size (k0_off12_inb i k k0_h3)).toLoadRect X15)
          (arg16.view.readAt (Elt Ideal) (Rect.unit (s := S2x1152x2x128) (k0_off12 k) S1x64x2x128.size (k0_off12_inb i k k0_h3)).toLoadRect X16)
          (arg10.view.readAt (Elt Ideal) (Rect.unit (s := S48x9216) (k0_off13 k) S48x512.size (k0_off13_inb i k k0_h3)).toLoadRect X10) := by
  unfold tripR_k0_t3 trip_k0_t3
  rfl

section
variable (𝒱 : Variants) (c : Dev nD) (bd : Option 𝒱.V) (i : grid0.Coords) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (arg9 : Memref sig .tc .vmem S48x14336 .bf16) (harg9 : arg9.IsWhole) (arg10 : Memref sig .tc .vmem S48x9216 .bf16) (harg10 : arg10.IsWhole) (arg11 : Memref sig .tc .vmem S2x1792x2x128 .bf16) (harg11 : arg11.IsWhole) (arg12 : Memref sig .tc .vmem S2x1792x2x128 .bf16) (harg12 : arg12.IsWhole) (arg13 : Memref sig .tc .vmem S2x1792x2x128 .bf16) (harg13 : arg13.IsWhole) (arg14 : Memref sig .tc .vmem S2x1792x2x128 .bf16) (harg14 : arg14.IsWhole) (arg15 : Memref sig .tc .vmem S2x1152x2x128 .bf16) (harg15 : arg15.IsWhole) (arg16 : Memref sig .tc .vmem S2x1152x2x128 .bf16) (harg16 : arg16.IsWhole) (k0_h3 : k0_cond3 i = 1#1)  (X6 : BufTy.Contents (Elt Ideal) arg6.view.ty) (X10 : BufTy.Contents (Elt Ideal) arg10.view.ty) (X15 : BufTy.Contents (Elt Ideal) arg15.view.ty) (X16 : BufTy.Contents (Elt Ideal) arg16.view.ty)
  (Q : ℕ → ℕ → BitVec 8) (S : ℕ → ℕ → BitVec 16) (X : ℕ → ℕ → EReal) (U W : ℕ → ℕ → ℕ → EReal)
  (hQ : ∀ (a : Fin 512) (b : Fin 2304), arg6.view.read (Elt Ideal) X6 (ix2 a b) = Q a.val b.val)
  (hX : ∀ (a : Fin 48) (b : Fin 9216), arg10.view.read (Elt Ideal) X10 (ix2 a b) = X a.val b.val)
  (hU : ∀ y, arg15.view.read (Elt Ideal) X15 y = U ((y 1).val % 2) ((y 1).val / 8) (128 * (y 0).val + (y 3).val))
  (hW : ∀ y, arg16.view.read (Elt Ideal) X16 y = W ((y 1).val % 2) ((y 1).val / 8) (128 * (y 0).val + (y 3).val))
  (hUW : ∀ (b : BitVec 8) (n cc g l : ℕ), nibE b n * U cc g l + nibE b n * W cc g l = nibE b n * (scR (S (2 * l + cc) g) : EReal))
include hQ hX hU hW hUW

theorem trip3_sum (k : Fin k0_t3_loop.trips) (acc : FVec Ideal S48x256 .f32) (T : Fin 48) (r : Fin 256) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3  X6 X10 X15 X16 k acc (ix2 T r) = (acc (ix2 T r) : EReal) + ∑ p ∈ Finset.range 512, term X Q S T.val r.val (512 * k.val + p) := by
  rw [tripR3_eq, trip_apply, Finset.sum_range]
  refine congrArg (fun z : EReal => acc (ix2 T r) + z) (Finset.sum_congr rfl fun p _ => ?_)
  have e1 := rd2 arg10.view X10 X hX _ (k0_off13_inb i k k0_h3) _ (off13_eq k).1 (off13_eq k).2 T p
  have e2 := fun a b => rd2 arg6.view X6 Q hQ _ (k0_off10_inb i k k0_h3) _ (off10_eq k).1 (off10_eq k).2 a b
  have u0 := rd4_1152 arg15.view X15 U hU _ (k0_off11_inb i k k0_h3) _ _ (off11_eq k).1 (off11_eq k).2.1 (off11_eq k).2.2
  have u1 := rd4_1152 arg15.view X15 U hU _ (k0_off12_inb i k k0_h3) _ _ (off12_eq k).1 (off12_eq k).2.1 (off12_eq k).2.2
  have w0 := rd4_1152 arg16.view X16 W hW _ (k0_off11_inb i k k0_h3) _ _ (off11_eq k).1 (off11_eq k).2.1 (off11_eq k).2.2
  have w1 := rd4_1152 arg16.view X16 W hW _ (k0_off12_inb i k k0_h3) _ _ (off12_eq k).1 (off12_eq k).2.1 (off12_eq k).2.2
  rw [code_apply]
  unfold term
  refine congrArg₂ (fun x z : EReal => x * z) e1 ?_
  refine Eq.trans ?_ ((hUW (Q (2 * r.val + ((512 * k.val + p.val) / 2) % 2) ((512 * k.val + p.val) / 4)) ((512 * k.val + p.val) % 2) (((512 * k.val + p.val) / 2) % 2) ((512 * k.val + p.val) / 64) r.val))
  have hn : nibE ((arg6.view.readAt (Elt Ideal) (Rect.unit (s := S512x2304) (k0_off10 k) S512x128.size (k0_off10_inb i k k0_h3)).toLoadRect X6 : S512x128.Idx → BitVec 8) (ix2 ⟨2 * r.val + (p.val / 2) % 2, by omega⟩ ⟨p.val / 4, by omega⟩)) (p.val % 2)
      = nibE (Q (2 * r.val + ((512 * k.val + p.val) / 2) % 2) ((512 * k.val + p.val) / 4)) ((512 * k.val + p.val) % 2) := by
    have e3 := e2 (⟨2 * r.val + (p.val / 2) % 2, by omega⟩ : Fin 512) (⟨p.val / 4, by omega⟩ : Fin 128)
    refine (congrArg (fun z => nibE z (p.val % 2)) e3).trans ?_
    rw [show 128 * k.val + p.val / 4 = (512 * k.val + p.val) / 4 by omega, show (512 * k.val + p.val) / 2 % 2 = p.val / 2 % 2 by omega, show (512 * k.val + p.val) % 2 = p.val % 2 by omega]
  by_cases h : r.val < 128
  · rw [dif_pos h, dif_pos h]
    refine congrArg₂ (fun x z : EReal => x + z) (congrArg₂ (fun x z : EReal => x * z) hn ((u0 _ _ _ _).trans ?_)) (congrArg₂ (fun x z : EReal => x * z) hn ((w0 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 0 + r.val = r.val by omega]
  · rw [dif_neg h, dif_neg h]
    refine congrArg₂ (fun x z : EReal => x + z) (congrArg₂ (fun x z : EReal => x * z) hn ((u1 _ _ _ _).trans ?_)) (congrArg₂ (fun x z : EReal => x * z) hn ((w1 _ _ _ _).trans ?_)) <;>
    · dsimp only
      rw [show (64 * k.val + (8 * (p.val / 64) + p.val % 16 / 2)) % 2 = (512 * k.val + p.val) / 2 % 2 by omega,
        show (64 * k.val + (8 * (p.val / 64) + p.val % 16 / 2)) / 8 = (512 * k.val + p.val) / 64 by omega, show 128 * 1 + (r.val - 128) = r.val by omega]

theorem st3_sum (init : FVec Ideal S48x256 .f32) (n : ℕ) (hn : n ≤ 18) (T : Fin 48) (r : Fin 256) :
    st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3  X6 X10 X15 X16 init n (ix2 T r) = (init (ix2 T r) : EReal) + ∑ q ∈ Finset.range (512 * n), term X Q S T.val r.val q := by
  induction n with
  | zero => rw [st_k0_t3_zero]; simp
  | succ n ih =>
    have e := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3  X6 X10 X15 X16 init ⟨n, by rw [trips_3]; omega⟩
    refine (congrFun e (ix2 T r)).trans ?_
    rw [trip3_sum 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3  X6 X10 X15 X16 Q S X U W hQ hX hU hW hUW, show 512 * (n + 1) = 512 * n + 512 by ring, Finset.sum_range_add, ← add_assoc]
    exact congrArg (fun z : EReal => z + _) (ih (by omega))
end

end Cert.KernelIdeal.Val
-- ==== Proof.Scr1792.lean ====
module

public import proofs.«01_k».proof.Proof.Scr

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Cert.Spec

/-- What a prepared scale buffer holds: a value per class, group and row pair. -/
def G1792 (U : ℕ → ℕ → ℕ → EReal) : S2x1792x2x128.Idx → Elt Ideal .bf16 := fun y => U ((y 1).val % 2) ((y 1).val / 8) (128 * (y 0).val + (y 3).val)

theorem pc1792_128_0 (U : ℕ → ℕ → ℕ → EReal) (r c : ℕ) (inb) (sp) (src : FVec Ideal S128x256 .bf16)
    (hs : ∀ (g : Fin 128) (l : Fin 256), src (ix2 g l) = U c (0 + g.val) l.val) (hr : r % 2 = c) (hr2 : r / 8 = 0) (x : S1x128x2x128.Idx) :
    col128_0 src x = G1792 U ((⟨⟨![0, r, 0, 0], S1x128x2x128.size, ![1, 8, 1, 1], inb⟩, sp⟩ : Rect S2x1792x2x128).emb x) := by
  have e := ix4_eta x
  generalize x 0 = x0 at e; generalize x 1 = x1 at e; generalize x 2 = x2 at e; generalize x 3 = x3 at e
  subst e
  refine (col128_0_apply src x0 x1 x2 x3).trans ((hs x1 _).trans ?_)
  show U c (0 + x1.val) (0 + x3.val) = U ((r + 8 * x1.val) % 2) ((r + 8 * x1.val) / 8) (128 * (0 + 1 * x0.val) + (0 + 1 * x3.val))
  have h0 : x0.val = 0 := Nat.lt_one_iff.mp x0.isLt
  rw [show (r + 8 * x1.val) % 2 = c by omega, show (r + 8 * x1.val) / 8 = 0 + x1.val by omega, show 128 * (0 + 1 * x0.val) + (0 + 1 * x3.val) = 0 + x3.val by omega]

theorem pc1792_128_1 (U : ℕ → ℕ → ℕ → EReal) (r c : ℕ) (inb) (sp) (src : FVec Ideal S128x256 .bf16)
    (hs : ∀ (g : Fin 128) (l : Fin 256), src (ix2 g l) = U c (0 + g.val) l.val) (hr : r % 2 = c) (hr2 : r / 8 = 0) (x : S1x128x2x128.Idx) :
    col128_1 src x = G1792 U ((⟨⟨![1, r, 0, 0], S1x128x2x128.size, ![1, 8, 1, 1], inb⟩, sp⟩ : Rect S2x1792x2x128).emb x) := by
  have e := ix4_eta x
  generalize x 0 = x0 at e; generalize x 1 = x1 at e; generalize x 2 = x2 at e; generalize x 3 = x3 at e
  subst e
  refine (col128_1_apply src x0 x1 x2 x3).trans ((hs x1 _).trans ?_)
  show U c (0 + x1.val) (128 + x3.val) = U ((r + 8 * x1.val) % 2) ((r + 8 * x1.val) / 8) (128 * (1 + 1 * x0.val) + (0 + 1 * x3.val))
  have h0 : x0.val = 0 := Nat.lt_one_iff.mp x0.isLt
  rw [show (r + 8 * x1.val) % 2 = c by omega, show (r + 8 * x1.val) / 8 = 0 + x1.val by omega, show 128 * (1 + 1 * x0.val) + (0 + 1 * x3.val) = 128 + x3.val by omega]

theorem mem1792_128 (h r : ℕ) (inb) (sp) (y : S2x1792x2x128.Idx) (h0 : (y 0).val = h) (h1 : ∃ g, g < 128 ∧ (y 1).val = r + 8 * g) :
    y ∈ (⟨⟨![h, r, 0, 0], S1x128x2x128.size, ![1, 8, 1, 1], inb⟩, sp⟩ : Rect S2x1792x2x128).set := by
  obtain ⟨g, hg, h1⟩ := h1
  refine (LoadRect.mem_set _).mpr fun a => ?_
  match a with
  | ⟨0, _⟩ => exact ⟨0, Nat.one_pos, by show (y 0).val = h + 1 * 0; omega⟩
  | ⟨1, _⟩ => exact ⟨g, hg, h1⟩
  | ⟨2, _⟩ => exact ⟨(y 2).val, (y 2).isLt, by show (y 2).val = 0 + 1 * (y 2).val; omega⟩
  | ⟨3, _⟩ => exact ⟨(y 3).val, (y 3).isLt, by show (y 3).val = 0 + 1 * (y 3).val; omega⟩

theorem pc1792_96_0 (U : ℕ → ℕ → ℕ → EReal) (r c : ℕ) (inb) (sp) (src : FVec Ideal S96x256 .bf16)
    (hs : ∀ (g : Fin 96) (l : Fin 256), src (ix2 g l) = U c (128 + g.val) l.val) (hr : r % 2 = c) (hr2 : r / 8 = 128) (x : S1x96x2x128.Idx) :
    col96_0 src x = G1792 U ((⟨⟨![0, r, 0, 0], S1x96x2x128.size, ![1, 8, 1, 1], inb⟩, sp⟩ : Rect S2x1792x2x128).emb x) := by
  have e := ix4_eta x
  generalize x 0 = x0 at e; generalize x 1 = x1 at e; generalize x 2 = x2 at e; generalize x 3 = x3 at e
  subst e
  refine (col96_0_apply src x0 x1 x2 x3).trans ((hs x1 _).trans ?_)
  show U c (128 + x1.val) (0 + x3.val) = U ((r + 8 * x1.val) % 2) ((r + 8 * x1.val) / 8) (128 * (0 + 1 * x0.val) + (0 + 1 * x3.val))
  have h0 : x0.val = 0 := Nat.lt_one_iff.mp x0.isLt
  rw [show (r + 8 * x1.val) % 2 = c by omega, show (r + 8 * x1.val) / 8 = 128 + x1.val by omega, show 128 * (0 + 1 * x0.val) + (0 + 1 * x3.val) = 0 + x3.val by omega]

theorem pc1792_96_1 (U : ℕ → ℕ → ℕ → EReal) (r c : ℕ) (inb) (sp) (src : FVec Ideal S96x256 .bf16)
    (hs : ∀ (g : Fin 96) (l : Fin 256), src (ix2 g l) = U c (128 + g.val) l.val) (hr : r % 2 = c) (hr2 : r / 8 = 128) (x : S1x96x2x128.Idx) :
    col96_1 src x = G1792 U ((⟨⟨![1, r, 0, 0], S1x96x2x128.size, ![1, 8, 1, 1], inb⟩, sp⟩ : Rect S2x1792x2x128).emb x) := by
  have e := ix4_eta x
  generalize x 0 = x0 at e; generalize x 1 = x1 at e; generalize x 2 = x2 at e; generalize x 3 = x3 at e
  subst e
  refine (col96_1_apply src x0 x1 x2 x3).trans ((hs x1 _).trans ?_)
  show U c (128 + x1.val) (128 + x3.val) = U ((r + 8 * x1.val) % 2) ((r + 8 * x1.val) / 8) (128 * (1 + 1 * x0.val) + (0 + 1 * x3.val))
  have h0 : x0.val = 0 := Nat.lt_one_iff.mp x0.isLt
  rw [show (r + 8 * x1.val) % 2 = c by omega, show (r + 8 * x1.val) / 8 = 128 + x1.val by omega, show 128 * (1 + 1 * x0.val) + (0 + 1 * x3.val) = 128 + x3.val by omega]

theorem mem1792_96 (h r : ℕ) (inb) (sp) (y : S2x1792x2x128.Idx) (h0 : (y 0).val = h) (h1 : ∃ g, g < 96 ∧ (y 1).val = r + 8 * g) :
    y ∈ (⟨⟨![h, r, 0, 0], S1x96x2x128.size, ![1, 8, 1, 1], inb⟩, sp⟩ : Rect S2x1792x2x128).set := by
  obtain ⟨g, hg, h1⟩ := h1
  refine (LoadRect.mem_set _).mpr fun a => ?_
  match a with
  | ⟨0, _⟩ => exact ⟨0, Nat.one_pos, by show (y 0).val = h + 1 * 0; omega⟩
  | ⟨1, _⟩ => exact ⟨g, hg, h1⟩
  | ⟨2, _⟩ => exact ⟨(y 2).val, (y 2).isLt, by show (y 2).val = 0 + 1 * (y 2).val; omega⟩
  | ⟨3, _⟩ => exact ⟨(y 3).val, (y 3).isLt, by show (y 3).val = 0 + 1 * (y 3).val; omega⟩

theorem prep1792_pieces (U : ℕ → ℕ → ℕ → EReal) (a0 a1 : FVec Ideal S128x256 .bf16) (b0 b1 : FVec Ideal S96x256 .bf16)
    (ha0 : ∀ (g : Fin 128) (l : Fin 256), a0 (ix2 g l) = U 0 (0 + g.val) l.val) (ha1 : ∀ (g : Fin 128) (l : Fin 256), a1 (ix2 g l) = U 1 (0 + g.val) l.val)
    (hb0 : ∀ (g : Fin 96) (l : Fin 256), b0 (ix2 g l) = U 0 (128 + g.val) l.val) (hb1 : ∀ (g : Fin 96) (l : Fin 256), b1 (ix2 g l) = U 1 (128 + g.val) l.val) :
    ∀ p ∈ prep1792 a0 a1 b0 b1, ∀ x : p.1.shape.Idx, p.2 x = G1792 U (p.1.emb x) := by
  unfold prep1792
  refine List.forall_mem_cons.mpr ⟨fun x => pc1792_96_1 U 1031 1 _ _ b1 hb1 rfl rfl x, ?_⟩
  refine List.forall_mem_cons.mpr ⟨fun x => pc1792_96_0 U 1031 1 _ _ b1 hb1 rfl rfl x, ?_⟩
  refine List.forall_mem_cons.mpr ⟨fun x => pc1792_96_1 U 1029 1 _ _ b1 hb1 rfl rfl x, ?_⟩
  refine List.forall_mem_cons.mpr ⟨fun x => pc1792_96_0 U 1029 1 _ _ b1 hb1 rfl rfl x, ?_⟩
  refine List.forall_mem_cons.mpr ⟨fun x => pc1792_96_1 U 1027 1 _ _ b1 hb1 rfl rfl x, ?_⟩
  refine List.forall_mem_cons.mpr ⟨fun x => pc1792_96_0 U 1027 1 _ _ b1 hb1 rfl rfl x, ?_⟩
  refine List.forall_mem_cons.mpr ⟨fun x => pc1792_96_1 U 1025 1 _ _ b1 hb1 rfl rfl x, ?_⟩
  refine List.forall_mem_cons.mpr ⟨fun x => pc1792_96_0 U 1025 1 _ _ b1 hb1 rfl rfl x, ?_⟩
  refine List.forall_mem_cons.mpr ⟨fun x => pc1792_96_1 U 1030 0 _ _ b0 hb0 rfl rfl x, ?_⟩
  refine List.forall_mem_cons.mpr ⟨fun x => pc1792_96_0 U 1030 0 _ _ b0 hb0 rfl rfl x, ?_⟩
  refine List.forall_mem_cons.mpr ⟨fun x => pc1792_96_1 U 1028 0 _ _ b0 hb0 rfl rfl x, ?_⟩
  refine List.forall_mem_cons.mpr ⟨fun x => pc1792_96_0 U 1028 0 _ _ b0 hb0 rfl rfl x, ?_⟩
  refine List.forall_mem_cons.mpr ⟨fun x => pc1792_96_1 U 1026 0 _ _ b0 hb0 rfl rfl x, ?_⟩
  refine List.forall_mem_cons.mpr ⟨fun x => pc1792_96_0 U 1026 0 _ _ b0 hb0 rfl rfl x, ?_⟩
  refine List.forall_mem_cons.mpr ⟨fun x => pc1792_96_1 U 1024 0 _ _ b0 hb0 rfl rfl x, ?_⟩
  refine List.forall_mem_cons.mpr ⟨fun x => pc1792_96_0 U 1024 0 _ _ b0 hb0 rfl rfl x, ?_⟩
  refine List.forall_mem_cons.mpr ⟨fun x => pc1792_128_1 U 7 1 _ _ a1 ha1 rfl rfl x, ?_⟩
  refine List.forall_mem_cons.mpr ⟨fun x => pc1792_128_0 U 7 1 _ _ a1 ha1 rfl rfl x, ?_⟩
  refine List.forall_mem_cons.mpr ⟨fun x => pc1792_128_1 U 5 1 _ _ a1 ha1 rfl rfl x, ?_⟩
  refine List.forall_mem_cons.mpr ⟨fun x => pc1792_128_0 U 5 1 _ _ a1 ha1 rfl rfl x, ?_⟩
  refine List.forall_mem_cons.mpr ⟨fun x => pc1792_128_1 U 3 1 _ _ a1 ha1 rfl rfl x, ?_⟩
  refine List.forall_mem_cons.mpr ⟨fun x => pc1792_128_0 U 3 1 _ _ a1 ha1 rfl rfl x, ?_⟩
  refine List.forall_mem_cons.mpr ⟨fun x => pc1792_128_1 U 1 1 _ _ a1 ha1 rfl rfl x, ?_⟩
  refine List.forall_mem_cons.mpr ⟨fun x => pc1792_128_0 U 1 1 _ _ a1 ha1 rfl rfl x, ?_⟩
  refine List.forall_mem_cons.mpr ⟨fun x => pc1792_128_1 U 6 0 _ _ a0 ha0 rfl rfl x, ?_⟩
  refine List.forall_mem_cons.mpr ⟨fun x => pc1792_128_0 U 6 0 _ _ a0 ha0 rfl rfl x, ?_⟩
  refine List.forall_mem_cons.mpr ⟨fun x => pc1792_128_1 U 4 0 _ _ a0 ha0 rfl rfl x, ?_⟩
  refine List.forall_mem_cons.mpr ⟨fun x => pc1792_128_0 U 4 0 _ _ a0 ha0 rfl rfl x, ?_⟩
  refine List.forall_mem_cons.mpr ⟨fun x => pc1792_128_1 U 2 0 _ _ a0 ha0 rfl rfl x, ?_⟩
  refine List.forall_mem_cons.mpr ⟨fun x => pc1792_128_0 U 2 0 _ _ a0 ha0 rfl rfl x, ?_⟩
  refine List.forall_mem_cons.mpr ⟨fun x => pc1792_128_1 U 0 0 _ _ a0 ha0 rfl rfl x, ?_⟩
  refine List.forall_mem_cons.mpr ⟨fun x => pc1792_128_0 U 0 0 _ _ a0 ha0 rfl rfl x, ?_⟩
  exact fun p hp => absurd hp List.not_mem_nil

theorem prep1792_cover (a0 a1 : FVec Ideal S128x256 .bf16) (b0 b1 : FVec Ideal S96x256 .bf16) (y : S2x1792x2x128.Idx) :
    ∃ p ∈ prep1792 a0 a1 b0 b1, y ∈ p.1.set := by
  unfold prep1792
  have h0 : (y 0).val < 2 := (y 0).isLt
  have h1 : (y 1).val < 1792 := (y 1).isLt
  obtain e | e | e | e | e | e | e | e : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), mem1792_128 0 0 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), mem1792_128 1 0 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem1792_96 0 1024 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem1792_96 1 1024 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), mem1792_128 0 1 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), mem1792_128 1 1 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.head _))))))), mem1792_96 0 1025 _ _ y g ⟨((y 1).val - 1024) / 8, by omega, by omega⟩⟩
    · exact ⟨_, List.Mem.tail _ (List.Mem.tail _ (List.Mem.tail _ (List.Mem.tail _ (List.Mem.tail _ (List.Mem.tail _ (List.Mem.head _)))))), mem1792_96 1 1025 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), mem1792_128 0 2 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), mem1792_128 1 2 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem1792_96 0 1026 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem1792_96 1 1026 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), mem1792_128 0 3 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), mem1792_128 1 3 _ _ y g ⟨((y 1).val - 0) / 8, by omega, by omega⟩⟩
    · exact ⟨_, List.Mem.tail _ (List.Mem.tail _ (List.Mem.tail _ (List.Mem.tail _ (List.Mem.tail _ (List.Mem.head _))))), mem1792_96 0 1027 _ _ y g ⟨((y 1).val - 1024) / 8, by omega, by omega⟩⟩
    · exact ⟨_, List.Mem.tail _ (List.Mem.tail _ (List.Mem.tail _ (List.Mem.tail _ (List.Mem.head _)))), mem1792_96 1 1027 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), mem1792_128 0 4 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), mem1792_128 1 4 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem1792_96 0 1028 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem1792_96 1 1028 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem1792_128 0 5 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem1792_128 1 5 _ _ y g ⟨((y 1).val - 0) / 8, by omega, by omega⟩⟩
    · exact ⟨_, List.Mem.tail _ (List.Mem.tail _ (List.Mem.tail _ (List.Mem.head _))), mem1792_96 0 1029 _ _ y g ⟨((y 1).val - 1024) / 8, by omega, by omega⟩⟩
    · exact ⟨_, List.Mem.tail _ (List.Mem.tail _ (List.Mem.head _)), mem1792_96 1 1029 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), mem1792_128 0 6 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), mem1792_128 1 6 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem1792_96 0 1030 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.head _)))))))), mem1792_96 1 1030 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem1792_128 0 7 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem1792_128 1 7 _ _ y g ⟨((y 1).val - 0) / 8, by omega, by omega⟩⟩
    · exact ⟨_, List.Mem.tail _ (List.Mem.head _), mem1792_96 0 1031 _ _ y g ⟨((y 1).val - 1024) / 8, by omega, by omega⟩⟩
    · exact ⟨_, List.Mem.head _, mem1792_96 1 1031 _ _ y g ⟨((y 1).val - 1024) / 8, by omega, by omega⟩⟩

theorem prep1792_read {κ : Kind} {sp : Space} (v : View sig κ sp S2x1792x2x128 .bf16) (f : v.ty.Contents (Elt Ideal)) (U : ℕ → ℕ → ℕ → EReal) (a0 a1 : FVec Ideal S128x256 .bf16) (b0 b1 : FVec Ideal S96x256 .bf16)
    (ha0 : ∀ (g : Fin 128) (l : Fin 256), a0 (ix2 g l) = U 0 (0 + g.val) l.val) (ha1 : ∀ (g : Fin 128) (l : Fin 256), a1 (ix2 g l) = U 1 (0 + g.val) l.val)
    (hb0 : ∀ (g : Fin 96) (l : Fin 256), b0 (ix2 g l) = U 0 (128 + g.val) l.val) (hb1 : ∀ (g : Fin 96) (l : Fin 256), b1 (ix2 g l) = U 1 (128 + g.val) l.val) (y : S2x1792x2x128.Idx) :
    v.read (Elt Ideal) (v.writes (Elt Ideal) f (prep1792 a0 a1 b0 b1)) y = G1792 U y :=
  View.read_writes_apply_of_pieces v f (G1792 U) _ (prep1792_pieces U a0 a1 b0 b1 ha0 ha1 hb0 hb1) y (prep1792_cover a0 a1 b0 b1 y)

/-- The high parts a scale block is prepared to. -/
theorem prepHi1792_read {κ : Kind} {sp : Space} (v : View sig κ sp S2x1792x2x128 .bf16) (f : v.ty.Contents (Elt Ideal)) (S : ℕ → ℕ → BitVec 16) (x : S512x128.Idx → BitVec 16) (z : S512x96.Idx → BitVec 16)
    (hx : ∀ (i : Fin 512) (j : Fin 128), x (ix2 i j) = S i.val j.val) (hz : ∀ (i : Fin 512) (j : Fin 96), z (ix2 i j) = S i.val (128 + j.val)) (y : S2x1792x2x128.Idx) :
    v.read (Elt Ideal) (v.writes (Elt Ideal) f (prepHi1792 (F := Ideal) x z)) y = G1792 (fun c g l => hiE (kDec (S (2 * l + c) g ++ 0#16))) y := by
  refine prep1792_read v f _ _ _ _ _ ?_ ?_ ?_ ?_ y <;> intro g l <;> refine (hiT_apply _ _ _).trans (congrArg (fun w => hiE (kDec w)) ?_)
  · exact (half0_128 x g l).trans (by rw [hx]; simp only [zero_add, add_zero])
  · exact (half1_128 x g l).trans (by rw [hx]; simp only [zero_add])
  · exact (half0_96 z g l).trans (by rw [hz]; simp only [add_zero])
  · exact (half1_96 z g l).trans (by rw [hz])
/-- The low parts a scale block is prepared to. -/
theorem prepLo1792_read {κ : Kind} {sp : Space} (v : View sig κ sp S2x1792x2x128 .bf16) (f : v.ty.Contents (Elt Ideal)) (S : ℕ → ℕ → BitVec 16) (x : S512x128.Idx → BitVec 16) (z : S512x96.Idx → BitVec 16)
    (hx : ∀ (i : Fin 512) (j : Fin 128), x (ix2 i j) = S i.val j.val) (hz : ∀ (i : Fin 512) (j : Fin 96), z (ix2 i j) = S i.val (128 + j.val)) (y : S2x1792x2x128.Idx) :
    v.read (Elt Ideal) (v.writes (Elt Ideal) f (prepLo1792 (F := Ideal) x z)) y
      = G1792 (fun c g l => kDec (S (2 * l + c) g ++ 0#16) - hiE (kDec (S (2 * l + c) g ++ 0#16))) y := by
  refine prep1792_read v f _ _ _ _ _ ?_ ?_ ?_ ?_ y <;> intro g l <;> refine (loT_apply _ _ _).trans (congrArg (fun w => kDec w - hiE (kDec w)) ?_)
  · exact (half0_128 x g l).trans (by rw [hx]; simp only [zero_add, add_zero])
  · exact (half1_128 x g l).trans (by rw [hx]; simp only [zero_add])
  · exact (half0_96 z g l).trans (by rw [hz]; simp only [add_zero])
  · exact (half1_96 z g l).trans (by rw [hz])

end Cert.KernelIdeal.Val
-- ==== Proof.Scr1152.lean ====
module

public import proofs.«01_k».proof.Proof.Scr

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Cert.Spec

/-- What a prepared scale buffer holds: a value per class, group and row pair. -/
def G1152 (U : ℕ → ℕ → ℕ → EReal) : S2x1152x2x128.Idx → Elt Ideal .bf16 := fun y => U ((y 1).val % 2) ((y 1).val / 8) (128 * (y 0).val + (y 3).val)

theorem pc1152_128_0 (U : ℕ → ℕ → ℕ → EReal) (r c : ℕ) (inb) (sp) (src : FVec Ideal S128x256 .bf16)
    (hs : ∀ (g : Fin 128) (l : Fin 256), src (ix2 g l) = U c (0 + g.val) l.val) (hr : r % 2 = c) (hr2 : r / 8 = 0) (x : S1x128x2x128.Idx) :
    col128_0 src x = G1152 U ((⟨⟨![0, r, 0, 0], S1x128x2x128.size, ![1, 8, 1, 1], inb⟩, sp⟩ : Rect S2x1152x2x128).emb x) := by
  have e := ix4_eta x
  generalize x 0 = x0 at e; generalize x 1 = x1 at e; generalize x 2 = x2 at e; generalize x 3 = x3 at e
  subst e
  refine (col128_0_apply src x0 x1 x2 x3).trans ((hs x1 _).trans ?_)
  show U c (0 + x1.val) (0 + x3.val) = U ((r + 8 * x1.val) % 2) ((r + 8 * x1.val) / 8) (128 * (0 + 1 * x0.val) + (0 + 1 * x3.val))
  have h0 : x0.val = 0 := Nat.lt_one_iff.mp x0.isLt
  rw [show (r + 8 * x1.val) % 2 = c by omega, show (r + 8 * x1.val) / 8 = 0 + x1.val by omega, show 128 * (0 + 1 * x0.val) + (0 + 1 * x3.val) = 0 + x3.val by omega]

theorem pc1152_128_1 (U : ℕ → ℕ → ℕ → EReal) (r c : ℕ) (inb) (sp) (src : FVec Ideal S128x256 .bf16)
    (hs : ∀ (g : Fin 128) (l : Fin 256), src (ix2 g l) = U c (0 + g.val) l.val) (hr : r % 2 = c) (hr2 : r / 8 = 0) (x : S1x128x2x128.Idx) :
    col128_1 src x = G1152 U ((⟨⟨![1, r, 0, 0], S1x128x2x128.size, ![1, 8, 1, 1], inb⟩, sp⟩ : Rect S2x1152x2x128).emb x) := by
  have e := ix4_eta x
  generalize x 0 = x0 at e; generalize x 1 = x1 at e; generalize x 2 = x2 at e; generalize x 3 = x3 at e
  subst e
  refine (col128_1_apply src x0 x1 x2 x3).trans ((hs x1 _).trans ?_)
  show U c (0 + x1.val) (128 + x3.val) = U ((r + 8 * x1.val) % 2) ((r + 8 * x1.val) / 8) (128 * (1 + 1 * x0.val) + (0 + 1 * x3.val))
  have h0 : x0.val = 0 := Nat.lt_one_iff.mp x0.isLt
  rw [show (r + 8 * x1.val) % 2 = c by omega, show (r + 8 * x1.val) / 8 = 0 + x1.val by omega, show 128 * (1 + 1 * x0.val) + (0 + 1 * x3.val) = 128 + x3.val by omega]

theorem mem1152_128 (h r : ℕ) (inb) (sp) (y : S2x1152x2x128.Idx) (h0 : (y 0).val = h) (h1 : ∃ g, g < 128 ∧ (y 1).val = r + 8 * g) :
    y ∈ (⟨⟨![h, r, 0, 0], S1x128x2x128.size, ![1, 8, 1, 1], inb⟩, sp⟩ : Rect S2x1152x2x128).set := by
  obtain ⟨g, hg, h1⟩ := h1
  refine (LoadRect.mem_set _).mpr fun a => ?_
  match a with
  | ⟨0, _⟩ => exact ⟨0, Nat.one_pos, by show (y 0).val = h + 1 * 0; omega⟩
  | ⟨1, _⟩ => exact ⟨g, hg, h1⟩
  | ⟨2, _⟩ => exact ⟨(y 2).val, (y 2).isLt, by show (y 2).val = 0 + 1 * (y 2).val; omega⟩
  | ⟨3, _⟩ => exact ⟨(y 3).val, (y 3).isLt, by show (y 3).val = 0 + 1 * (y 3).val; omega⟩

theorem pc1152_16_0 (U : ℕ → ℕ → ℕ → EReal) (r c : ℕ) (inb) (sp) (src : FVec Ideal S16x256 .bf16)
    (hs : ∀ (g : Fin 16) (l : Fin 256), src (ix2 g l) = U c (128 + g.val) l.val) (hr : r % 2 = c) (hr2 : r / 8 = 128) (x : S1x16x2x128.Idx) :
    col16_0 src x = G1152 U ((⟨⟨![0, r, 0, 0], S1x16x2x128.size, ![1, 8, 1, 1], inb⟩, sp⟩ : Rect S2x1152x2x128).emb x) := by
  have e := ix4_eta x
  generalize x 0 = x0 at e; generalize x 1 = x1 at e; generalize x 2 = x2 at e; generalize x 3 = x3 at e
  subst e
  refine (col16_0_apply src x0 x1 x2 x3).trans ((hs x1 _).trans ?_)
  show U c (128 + x1.val) (0 + x3.val) = U ((r + 8 * x1.val) % 2) ((r + 8 * x1.val) / 8) (128 * (0 + 1 * x0.val) + (0 + 1 * x3.val))
  have h0 : x0.val = 0 := Nat.lt_one_iff.mp x0.isLt
  rw [show (r + 8 * x1.val) % 2 = c by omega, show (r + 8 * x1.val) / 8 = 128 + x1.val by omega, show 128 * (0 + 1 * x0.val) + (0 + 1 * x3.val) = 0 + x3.val by omega]

theorem pc1152_16_1 (U : ℕ → ℕ → ℕ → EReal) (r c : ℕ) (inb) (sp) (src : FVec Ideal S16x256 .bf16)
    (hs : ∀ (g : Fin 16) (l : Fin 256), src (ix2 g l) = U c (128 + g.val) l.val) (hr : r % 2 = c) (hr2 : r / 8 = 128) (x : S1x16x2x128.Idx) :
    col16_1 src x = G1152 U ((⟨⟨![1, r, 0, 0], S1x16x2x128.size, ![1, 8, 1, 1], inb⟩, sp⟩ : Rect S2x1152x2x128).emb x) := by
  have e := ix4_eta x
  generalize x 0 = x0 at e; generalize x 1 = x1 at e; generalize x 2 = x2 at e; generalize x 3 = x3 at e
  subst e
  refine (col16_1_apply src x0 x1 x2 x3).trans ((hs x1 _).trans ?_)
  show U c (128 + x1.val) (128 + x3.val) = U ((r + 8 * x1.val) % 2) ((r + 8 * x1.val) / 8) (128 * (1 + 1 * x0.val) + (0 + 1 * x3.val))
  have h0 : x0.val = 0 := Nat.lt_one_iff.mp x0.isLt
  rw [show (r + 8 * x1.val) % 2 = c by omega, show (r + 8 * x1.val) / 8 = 128 + x1.val by omega, show 128 * (1 + 1 * x0.val) + (0 + 1 * x3.val) = 128 + x3.val by omega]

theorem mem1152_16 (h r : ℕ) (inb) (sp) (y : S2x1152x2x128.Idx) (h0 : (y 0).val = h) (h1 : ∃ g, g < 16 ∧ (y 1).val = r + 8 * g) :
    y ∈ (⟨⟨![h, r, 0, 0], S1x16x2x128.size, ![1, 8, 1, 1], inb⟩, sp⟩ : Rect S2x1152x2x128).set := by
  obtain ⟨g, hg, h1⟩ := h1
  refine (LoadRect.mem_set _).mpr fun a => ?_
  match a with
  | ⟨0, _⟩ => exact ⟨0, Nat.one_pos, by show (y 0).val = h + 1 * 0; omega⟩
  | ⟨1, _⟩ => exact ⟨g, hg, h1⟩
  | ⟨2, _⟩ => exact ⟨(y 2).val, (y 2).isLt, by show (y 2).val = 0 + 1 * (y 2).val; omega⟩
  | ⟨3, _⟩ => exact ⟨(y 3).val, (y 3).isLt, by show (y 3).val = 0 + 1 * (y 3).val; omega⟩

theorem prep1152_pieces (U : ℕ → ℕ → ℕ → EReal) (a0 a1 : FVec Ideal S128x256 .bf16) (b0 b1 : FVec Ideal S16x256 .bf16)
    (ha0 : ∀ (g : Fin 128) (l : Fin 256), a0 (ix2 g l) = U 0 (0 + g.val) l.val) (ha1 : ∀ (g : Fin 128) (l : Fin 256), a1 (ix2 g l) = U 1 (0 + g.val) l.val)
    (hb0 : ∀ (g : Fin 16) (l : Fin 256), b0 (ix2 g l) = U 0 (128 + g.val) l.val) (hb1 : ∀ (g : Fin 16) (l : Fin 256), b1 (ix2 g l) = U 1 (128 + g.val) l.val) :
    ∀ p ∈ prep1152 a0 a1 b0 b1, ∀ x : p.1.shape.Idx, p.2 x = G1152 U (p.1.emb x) := by
  unfold prep1152
  refine List.forall_mem_cons.mpr ⟨fun x => pc1152_16_1 U 1031 1 _ _ b1 hb1 rfl rfl x, ?_⟩
  refine List.forall_mem_cons.mpr ⟨fun x => pc1152_16_0 U 1031 1 _ _ b1 hb1 rfl rfl x, ?_⟩
  refine List.forall_mem_cons.mpr ⟨fun x => pc1152_16_1 U 1029 1 _ _ b1 hb1 rfl rfl x, ?_⟩
  refine List.forall_mem_cons.mpr ⟨fun x => pc1152_16_0 U 1029 1 _ _ b1 hb1 rfl rfl x, ?_⟩
  refine List.forall_mem_cons.mpr ⟨fun x => pc1152_16_1 U 1027 1 _ _ b1 hb1 rfl rfl x, ?_⟩
  refine List.forall_mem_cons.mpr ⟨fun x => pc1152_16_0 U 1027 1 _ _ b1 hb1 rfl rfl x, ?_⟩
  refine List.forall_mem_cons.mpr ⟨fun x => pc1152_16_1 U 1025 1 _ _ b1 hb1 rfl rfl x, ?_⟩
  refine List.forall_mem_cons.mpr ⟨fun x => pc1152_16_0 U 1025 1 _ _ b1 hb1 rfl rfl x, ?_⟩
  refine List.forall_mem_cons.mpr ⟨fun x => pc1152_16_1 U 1030 0 _ _ b0 hb0 rfl rfl x, ?_⟩
  refine List.forall_mem_cons.mpr ⟨fun x => pc1152_16_0 U 1030 0 _ _ b0 hb0 rfl rfl x, ?_⟩
  refine List.forall_mem_cons.mpr ⟨fun x => pc1152_16_1 U 1028 0 _ _ b0 hb0 rfl rfl x, ?_⟩
  refine List.forall_mem_cons.mpr ⟨fun x => pc1152_16_0 U 1028 0 _ _ b0 hb0 rfl rfl x, ?_⟩
  refine List.forall_mem_cons.mpr ⟨fun x => pc1152_16_1 U 1026 0 _ _ b0 hb0 rfl rfl x, ?_⟩
  refine List.forall_mem_cons.mpr ⟨fun x => pc1152_16_0 U 1026 0 _ _ b0 hb0 rfl rfl x, ?_⟩
  refine List.forall_mem_cons.mpr ⟨fun x => pc1152_16_1 U 1024 0 _ _ b0 hb0 rfl rfl x, ?_⟩
  refine List.forall_mem_cons.mpr ⟨fun x => pc1152_16_0 U 1024 0 _ _ b0 hb0 rfl rfl x, ?_⟩
  refine List.forall_mem_cons.mpr ⟨fun x => pc1152_128_1 U 7 1 _ _ a1 ha1 rfl rfl x, ?_⟩
  refine List.forall_mem_cons.mpr ⟨fun x => pc1152_128_0 U 7 1 _ _ a1 ha1 rfl rfl x, ?_⟩
  refine List.forall_mem_cons.mpr ⟨fun x => pc1152_128_1 U 5 1 _ _ a1 ha1 rfl rfl x, ?_⟩
  refine List.forall_mem_cons.mpr ⟨fun x => pc1152_128_0 U 5 1 _ _ a1 ha1 rfl rfl x, ?_⟩
  refine List.forall_mem_cons.mpr ⟨fun x => pc1152_128_1 U 3 1 _ _ a1 ha1 rfl rfl x, ?_⟩
  refine List.forall_mem_cons.mpr ⟨fun x => pc1152_128_0 U 3 1 _ _ a1 ha1 rfl rfl x, ?_⟩
  refine List.forall_mem_cons.mpr ⟨fun x => pc1152_128_1 U 1 1 _ _ a1 ha1 rfl rfl x, ?_⟩
  refine List.forall_mem_cons.mpr ⟨fun x => pc1152_128_0 U 1 1 _ _ a1 ha1 rfl rfl x, ?_⟩
  refine List.forall_mem_cons.mpr ⟨fun x => pc1152_128_1 U 6 0 _ _ a0 ha0 rfl rfl x, ?_⟩
  refine List.forall_mem_cons.mpr ⟨fun x => pc1152_128_0 U 6 0 _ _ a0 ha0 rfl rfl x, ?_⟩
  refine List.forall_mem_cons.mpr ⟨fun x => pc1152_128_1 U 4 0 _ _ a0 ha0 rfl rfl x, ?_⟩
  refine List.forall_mem_cons.mpr ⟨fun x => pc1152_128_0 U 4 0 _ _ a0 ha0 rfl rfl x, ?_⟩
  refine List.forall_mem_cons.mpr ⟨fun x => pc1152_128_1 U 2 0 _ _ a0 ha0 rfl rfl x, ?_⟩
  refine List.forall_mem_cons.mpr ⟨fun x => pc1152_128_0 U 2 0 _ _ a0 ha0 rfl rfl x, ?_⟩
  refine List.forall_mem_cons.mpr ⟨fun x => pc1152_128_1 U 0 0 _ _ a0 ha0 rfl rfl x, ?_⟩
  refine List.forall_mem_cons.mpr ⟨fun x => pc1152_128_0 U 0 0 _ _ a0 ha0 rfl rfl x, ?_⟩
  exact fun p hp => absurd hp List.not_mem_nil

theorem prep1152_cover (a0 a1 : FVec Ideal S128x256 .bf16) (b0 b1 : FVec Ideal S16x256 .bf16) (y : S2x1152x2x128.Idx) :
    ∃ p ∈ prep1152 a0 a1 b0 b1, y ∈ p.1.set := by
  unfold prep1152
  have h0 : (y 0).val < 2 := (y 0).isLt
  have h1 : (y 1).val < 1152 := (y 1).isLt
  obtain e | e | e | e | e | e | e | e : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), mem1152_128 0 0 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), mem1152_128 1 0 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem1152_16 0 1024 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem1152_16 1 1024 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), mem1152_128 0 1 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), mem1152_128 1 1 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.head _))))))), mem1152_16 0 1025 _ _ y g ⟨((y 1).val - 1024) / 8, by omega, by omega⟩⟩
    · exact ⟨_, List.Mem.tail _ (List.Mem.tail _ (List.Mem.tail _ (List.Mem.tail _ (List.Mem.tail _ (List.Mem.tail _ (List.Mem.head _)))))), mem1152_16 1 1025 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), mem1152_128 0 2 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), mem1152_128 1 2 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem1152_16 0 1026 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem1152_16 1 1026 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), mem1152_128 0 3 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), mem1152_128 1 3 _ _ y g ⟨((y 1).val - 0) / 8, by omega, by omega⟩⟩
    · exact ⟨_, List.Mem.tail _ (List.Mem.tail _ (List.Mem.tail _ (List.Mem.tail _ (List.Mem.tail _ (List.Mem.head _))))), mem1152_16 0 1027 _ _ y g ⟨((y 1).val - 1024) / 8, by omega, by omega⟩⟩
    · exact ⟨_, List.Mem.tail _ (List.Mem.tail _ (List.Mem.tail _ (List.Mem.tail _ (List.Mem.head _)))), mem1152_16 1 1027 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), mem1152_128 0 4 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), mem1152_128 1 4 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem1152_16 0 1028 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem1152_16 1 1028 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem1152_128 0 5 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem1152_128 1 5 _ _ y g ⟨((y 1).val - 0) / 8, by omega, by omega⟩⟩
    · exact ⟨_, List.Mem.tail _ (List.Mem.tail _ (List.Mem.tail _ (List.Mem.head _))), mem1152_16 0 1029 _ _ y g ⟨((y 1).val - 1024) / 8, by omega, by omega⟩⟩
    · exact ⟨_, List.Mem.tail _ (List.Mem.tail _ (List.Mem.head _)), mem1152_16 1 1029 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), mem1152_128 0 6 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), mem1152_128 1 6 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem1152_16 0 1030 _ _ y g ⟨((y 1).val - 1024) / 8, by omega, by omega⟩⟩
    · exact ⟨_, List.Mem.tail _ (List.Mem.tail _ (List.Mem.tail _ (List.Mem.tail _ (List.Mem.tail _ (List.Mem.tail _ (List.Mem.tail _ (List.Mem.tail _ (List.Mem.head _)))))))), mem1152_16 1 1030 _ _ y g ⟨((y 1).val - 1024) / 8, by omega, by omega⟩⟩
  · rcases Nat.lt_or_ge (y 1).val 1024 with f | f <;> obtain g | g : (y 0).val = 0 ∨ (y 0).val = 1 := by omega
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem1152_128 0 7 _ _ y g ⟨((y 1).val - 0) / 8, by omega, by omega⟩⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem1152_128 1 7 _ _ y g ⟨((y 1).val - 0) / 8, by omega, by omega⟩⟩
    · exact ⟨_, List.Mem.tail _ (List.Mem.head _), mem1152_16 0 1031 _ _ y g ⟨((y 1).val - 1024) / 8, by omega, by omega⟩⟩
    · exact ⟨_, List.Mem.head _, mem1152_16 1 1031 _ _ y g ⟨((y 1).val - 1024) / 8, by omega, by omega⟩⟩

theorem prep1152_read {κ : Kind} {sp : Space} (v : View sig κ sp S2x1152x2x128 .bf16) (f : v.ty.Contents (Elt Ideal)) (U : ℕ → ℕ → ℕ → EReal) (a0 a1 : FVec Ideal S128x256 .bf16) (b0 b1 : FVec Ideal S16x256 .bf16)
    (ha0 : ∀ (g : Fin 128) (l : Fin 256), a0 (ix2 g l) = U 0 (0 + g.val) l.val) (ha1 : ∀ (g : Fin 128) (l : Fin 256), a1 (ix2 g l) = U 1 (0 + g.val) l.val)
    (hb0 : ∀ (g : Fin 16) (l : Fin 256), b0 (ix2 g l) = U 0 (128 + g.val) l.val) (hb1 : ∀ (g : Fin 16) (l : Fin 256), b1 (ix2 g l) = U 1 (128 + g.val) l.val) (y : S2x1152x2x128.Idx) :
    v.read (Elt Ideal) (v.writes (Elt Ideal) f (prep1152 a0 a1 b0 b1)) y = G1152 U y :=
  View.read_writes_apply_of_pieces v f (G1152 U) _ (prep1152_pieces U a0 a1 b0 b1 ha0 ha1 hb0 hb1) y (prep1152_cover a0 a1 b0 b1 y)

/-- The high parts a scale block is prepared to. -/
theorem prepHi1152_read {κ : Kind} {sp : Space} (v : View sig κ sp S2x1152x2x128 .bf16) (f : v.ty.Contents (Elt Ideal)) (S : ℕ → ℕ → BitVec 16) (x : S512x128.Idx → BitVec 16) (z : S512x16.Idx → BitVec 16)
    (hx : ∀ (i : Fin 512) (j : Fin 128), x (ix2 i j) = S i.val j.val) (hz : ∀ (i : Fin 512) (j : Fin 16), z (ix2 i j) = S i.val (128 + j.val)) (y : S2x1152x2x128.Idx) :
    v.read (Elt Ideal) (v.writes (Elt Ideal) f (prepHi1152 (F := Ideal) x z)) y = G1152 (fun c g l => hiE (kDec (S (2 * l + c) g ++ 0#16))) y := by
  refine prep1152_read v f _ _ _ _ _ ?_ ?_ ?_ ?_ y <;> intro g l <;> refine (hiT_apply _ _ _).trans (congrArg (fun w => hiE (kDec w)) ?_)
  · exact (half0_128 x g l).trans (by rw [hx]; simp only [zero_add, add_zero])
  · exact (half1_128 x g l).trans (by rw [hx]; simp only [zero_add])
  · exact (half0_16 z g l).trans (by rw [hz]; simp only [add_zero])
  · exact (half1_16 z g l).trans (by rw [hz])
/-- The low parts a scale block is prepared to. -/
theorem prepLo1152_read {κ : Kind} {sp : Space} (v : View sig κ sp S2x1152x2x128 .bf16) (f : v.ty.Contents (Elt Ideal)) (S : ℕ → ℕ → BitVec 16) (x : S512x128.Idx → BitVec 16) (z : S512x16.Idx → BitVec 16)
    (hx : ∀ (i : Fin 512) (j : Fin 128), x (ix2 i j) = S i.val j.val) (hz : ∀ (i : Fin 512) (j : Fin 16), z (ix2 i j) = S i.val (128 + j.val)) (y : S2x1152x2x128.Idx) :
    v.read (Elt Ideal) (v.writes (Elt Ideal) f (prepLo1152 (F := Ideal) x z)) y
      = G1152 (fun c g l => kDec (S (2 * l + c) g ++ 0#16) - hiE (kDec (S (2 * l + c) g ++ 0#16))) y := by
  refine prep1152_read v f _ _ _ _ _ ?_ ?_ ?_ ?_ y <;> intro g l <;> refine (loT_apply _ _ _).trans (congrArg (fun w => kDec w - hiE (kDec w)) ?_)
  · exact (half0_128 x g l).trans (by rw [hx]; simp only [zero_add, add_zero])
  · exact (half1_128 x g l).trans (by rw [hx]; simp only [zero_add])
  · exact (half0_16 z g l).trans (by rw [hz]; simp only [add_zero])
  · exact (half1_16 z g l).trans (by rw [hz])

end Cert.KernelIdeal.Val
-- ==== Proof.Sums.lean ====
module

public import proofs.«01_k».proof.Proof.Trip
public import proofs.«01_k».proof.Proof.Scr1792
public import proofs.«01_k».proof.Proof.Scr1152

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Cert.Spec

theorem zero_pay (T : Fin 48) (r : Fin 256) : (k0_pay340 : FVec Ideal S48x256 .f32) (ix2 T r) = (0 : EReal) := by
  pointwise [k0_pay340]
theorem zero_pay2 (T : Fin 48) (r : Fin 256) : (k0_pay342 : FVec Ideal S48x256 .f32) (ix2 T r) = (0 : EReal) := by
  pointwise [k0_pay342]
theorem zero_pay3 (T : Fin 48) (r : Fin 256) : (k0_pay489 : FVec Ideal S48x256 .f32) (ix2 T r) = (0 : EReal) := by
  pointwise [k0_pay489]

/-- The gate projection of one step, entry by entry. -/
theorem gate_apply (c : Dev nD) (i : grid0.Coords) (h : k0_cond2 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty)
    (x : ℕ → ℕ → EReal) (Q : ℕ → ℕ → BitVec 8) (S : ℕ → ℕ → BitVec 16)
    (hQ : ∀ (a : Fin 512) (b : Fin 3584), arg2.view.read (Elt Ideal) f2 (ix2 a b) = Q a.val b.val)
    (hS : ∀ (a : Fin 512) (b : Fin 224), arg3.view.read (Elt Ideal) f3 (ix2 a b) = S a.val b.val)
    (hX : ∀ (a : Fin 48) (b : Fin 14336), scM0.view.read (Elt Ideal) f9 (ix2 a b) = inter x a.val b.val) (T : Fin 48) (r : Fin 256) :
    gate (F := Ideal) c i h arg1 harg1 arg2 harg2 arg3 harg3 arg4 harg4 arg5 harg5 arg6 harg6 arg7 harg7 arg8 harg8 f1 f2 f3 f4 f5 f6 f7 f8 f9 f10 f11 f12 f13 f14 f15 f16 (ix2 T r) = proj 3584 x Q S (T.val % 24) (2 * r.val + T.val / 24) := by
  have hx := rd2 arg3.view f3 S hS ![0, 0] inb_S512x224_S512x128_0_0 0 rfl rfl (a' := 512) (b' := 128)
  have hz := rd2 arg3.view f3 S hS ![0, 128] inb_S512x224_S512x96_0_128 128 rfl rfl (a' := 512) (b' := 96)
  unfold gate
  rw [trips_1]
  rw [st1_sum _ _ _ _ _ _ _ _ _ _ _ _ _ _ _ _ _ _ _ _ _ _ _ _ _ _ _ _ _ _ _ _ _ _ _ _ _ _ _ _ _ _ _ _ Q S (inter x) _ _ hQ hX
    (prepHi1792_read _ _ S _ _ (fun a b => (hx a b).trans (by rw [Nat.zero_add])) hz) (prepLo1792_read _ _ S _ _ (fun a b => (hx a b).trans (by rw [Nat.zero_add])) hz)
    (fun b n cc g l => nib_split b n _) _ 28 le_rfl T r, zero_pay, zero_add]
  exact inter_dot 3584 x Q S T.val r.val T.isLt

/-- The up projection of one step, entry by entry. -/
theorem up_apply (c : Dev nD) (i : grid0.Coords) (h : k0_cond2 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty)
    (x : ℕ → ℕ → EReal) (Q : ℕ → ℕ → BitVec 8) (S : ℕ → ℕ → BitVec 16)
    (hQ : ∀ (a : Fin 512) (b : Fin 3584), arg4.view.read (Elt Ideal) f4 (ix2 a b) = Q a.val b.val)
    (hS : ∀ (a : Fin 512) (b : Fin 224), arg5.view.read (Elt Ideal) f5 (ix2 a b) = S a.val b.val)
    (hX : ∀ (a : Fin 48) (b : Fin 14336), scM0.view.read (Elt Ideal) f9 (ix2 a b) = inter x a.val b.val) (T : Fin 48) (r : Fin 256) :
    up (F := Ideal) c i h arg1 harg1 arg2 harg2 arg3 harg3 arg4 harg4 arg5 harg5 arg6 harg6 arg7 harg7 arg8 harg8 f1 f2 f3 f4 f5 f6 f7 f8 f9 f10 f11 f12 f13 f14 f15 f16 (ix2 T r) = proj 3584 x Q S (T.val % 24) (2 * r.val + T.val / 24) := by
  have hx := rd2 arg5.view f5 S hS ![0, 0] inb_S512x224_S512x128_0_0 0 rfl rfl (a' := 512) (b' := 128)
  have hz := rd2 arg5.view f5 S hS ![0, 128] inb_S512x224_S512x96_0_128 128 rfl rfl (a' := 512) (b' := 96)
  unfold up
  rw [trips_2]
  rw [st2_sum _ _ _ _ _ _ _ _ _ _ _ _ _ _ _ _ _ _ _ _ _ _ _ _ _ _ _ _ _ _ _ _ _ _ _ _ _ _ _ _ _ _ _ _ Q S (inter x) _ _ hQ hX
    (prepHi1792_read _ _ S _ _ (fun a b => (hx a b).trans (by rw [Nat.zero_add])) hz) (prepLo1792_read _ _ S _ _ (fun a b => (hx a b).trans (by rw [Nat.zero_add])) hz)
    (fun b n cc g l => nib_split b n _) _ 28 le_rfl T r, zero_pay2, zero_add]
  exact inter_dot 3584 x Q S T.val r.val T.isLt

/-- The down projection of one step, entry by entry. -/
theorem down_apply (c : Dev nD) (i : grid0.Coords) (h : k0_cond3 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty)
    (x : ℕ → ℕ → EReal) (Q : ℕ → ℕ → BitVec 8) (S : ℕ → ℕ → BitVec 16)
    (hQ : ∀ (a : Fin 512) (b : Fin 2304), arg6.view.read (Elt Ideal) f6 (ix2 a b) = Q a.val b.val)
    (hS : ∀ (a : Fin 512) (b : Fin 144), arg7.view.read (Elt Ideal) f7 (ix2 a b) = S a.val b.val)
    (hX : ∀ (a : Fin 48) (b : Fin 9216), scM1.view.read (Elt Ideal) f10 (ix2 a b) = inter x a.val b.val) (T : Fin 48) (r : Fin 256) :
    down (F := Ideal) c i h arg1 harg1 arg2 harg2 arg3 harg3 arg4 harg4 arg5 harg5 arg6 harg6 arg7 harg7 arg8 harg8 f1 f2 f3 f4 f5 f6 f7 f8 f9 f10 f11 f12 f13 f14 f15 f16 (ix2 T r) = proj 2304 x Q S (T.val % 24) (2 * r.val + T.val / 24) := by
  have hx := rd2 arg7.view f7 S hS ![0, 0] inb_S512x144_S512x128_0_0 0 rfl rfl (a' := 512) (b' := 128)
  have hz := rd2 arg7.view f7 S hS ![0, 128] inb_S512x144_S512x16_0_128 128 rfl rfl (a' := 512) (b' := 16)
  unfold down
  rw [trips_3]
  rw [st3_sum _ _ _ _ _ _ _ _ _ _ _ _ _ _ _ _ _ _ _ _ _ _ _ _ _ _ _ _ _ _ _ _ _ _ _ _ _ _ _ _ _ Q S (inter x) _ _ hQ hX
    (prepHi1152_read _ _ S _ _ (fun a b => (hx a b).trans (by rw [Nat.zero_add])) hz) (prepLo1152_read _ _ S _ _ (fun a b => (hx a b).trans (by rw [Nat.zero_add])) hz)
    (fun b n cc g l => nib_split b n _) _ 18 le_rfl T r, zero_pay3, zero_add]
  exact inter_dot 2304 x Q S T.val r.val T.isLt

theorem heP0_val (g u : FVec Ideal S48x256 .f32) (x : ℕ → ℕ → EReal) (Qg Qu : ℕ → ℕ → BitVec 8) (Sg Su : ℕ → ℕ → BitVec 16)
    (hg : ∀ (T : Fin 48) (r : Fin 256), g (ix2 T r) = proj 3584 x Qg Sg (T.val % 24) (2 * r.val + T.val / 24))
    (hu : ∀ (T : Fin 48) (r : Fin 256), u (ix2 T r) = proj 3584 x Qu Su (T.val % 24) (2 * r.val + T.val / 24)) (t : Fin 48) (r : Fin 512) :
    heP0 g u (ix2 t r) = inter (hid x Qg Qu Sg Su) t.val (0 + r.val) := by
  rw [heP0_apply]
  unfold inter
  by_cases h : (r.val / 2) % 2 = t.val / 24
  · rw [if_pos h, if_pos (show (0 + r.val) / 2 % 2 = t.val / 24 by omega), pay344_apply, hg, hu]
    unfold hid
    dsimp only
    rw [show (24 * (r.val % 2) + t.val % 24) % 24 = t.val % 24 by omega,
      show 2 * (r.val / 4) + (24 * (r.val % 2) + t.val % 24) / 24 = 2 * ((0 + r.val) / 4) + (0 + r.val) % 2 by omega]
  · rw [if_neg h, if_neg (show ¬ (0 + r.val) / 2 % 2 = t.val / 24 by omega)]

theorem heP1_val (g u : FVec Ideal S48x256 .f32) (x : ℕ → ℕ → EReal) (Qg Qu : ℕ → ℕ → BitVec 8) (Sg Su : ℕ → ℕ → BitVec 16)
    (hg : ∀ (T : Fin 48) (r : Fin 256), g (ix2 T r) = proj 3584 x Qg Sg (T.val % 24) (2 * r.val + T.val / 24))
    (hu : ∀ (T : Fin 48) (r : Fin 256), u (ix2 T r) = proj 3584 x Qu Su (T.val % 24) (2 * r.val + T.val / 24)) (t : Fin 48) (r : Fin 512) :
    heP1 g u (ix2 t r) = inter (hid x Qg Qu Sg Su) t.val (512 + r.val) := by
  rw [heP1_apply]
  unfold inter
  by_cases h : (r.val / 2) % 2 = t.val / 24
  · rw [if_pos h, if_pos (show (512 + r.val) / 2 % 2 = t.val / 24 by omega), pay344_apply, hg, hu]
    unfold hid
    dsimp only
    rw [show (24 * (r.val % 2) + t.val % 24) % 24 = t.val % 24 by omega,
      show 2 * (128 + r.val / 4) + (24 * (r.val % 2) + t.val % 24) / 24 = 2 * ((512 + r.val) / 4) + (512 + r.val) % 2 by omega]
  · rw [if_neg h, if_neg (show ¬ (512 + r.val) / 2 % 2 = t.val / 24 by omega)]

/-- One block of the result. -/
theorem y_val (a : FVec Ideal S48x256 .f32) (x : ℕ → ℕ → EReal) (Q : ℕ → ℕ → BitVec 8) (S : ℕ → ℕ → BitVec 16)
    (ha : ∀ (T : Fin 48) (r : Fin 256), a (ix2 T r) = proj 2304 x Q S (T.val % 24) (2 * r.val + T.val / 24)) (t : Fin 24) (r : Fin 512) :
    k0_pay491 a (ix2 t r) = proj 2304 x Q S t.val r.val := by
  rw [pay491_apply, ha]
  dsimp only
  rw [show (24 * (r.val % 2) + t.val) % 24 = t.val by omega, show 2 * (r.val / 2) + (24 * (r.val % 2) + t.val) / 24 = r.val by omega]

end Cert.KernelIdeal.Val
-- ==== Proof.Vals.lean ====
module

public import proofs.«01_k».proof.Proof.Sums

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Cert.Spec

/-! ### The interleaved tokens -/

theorem xe_piece (x : ℕ → ℕ → EReal) (X : Vec Ideal S24x128 .bf16) (o b : ℕ) (inb) (ho : o = 256 * b)
    (hX : ∀ (i : Fin 24) (j : Fin 128), X (ix2 i j) = x i.val (128 * b + j.val)) (y : S48x256.Idx) :
    (xeP X : FVec Ideal S48x256 .bf16) y = (fun y : S48x14336.Idx => inter x (y 0).val (y 1).val) ((Rect.unit (s := S48x14336) ![0, o] S48x256.size inb).emb y) := by
  have e := ix2_eta y
  generalize y 0 = y0 at e; generalize y 1 = y1 at e
  subst e
  refine (xeP_apply X y0 y1).trans ?_
  show _ = inter x (0 + 1 * y0.val) (o + 1 * y1.val)
  unfold inter
  subst ho
  have h0 : y0.val < 48 := y0.isLt
  have h1 : y1.val < 256 := y1.isLt
  rw [show (256 * b + 1 * y1.val) / 2 % 2 = y1.val / 2 % 2 by omega, show (0 + 1 * y0.val) / 24 = y0.val / 24 by omega,
    show (0 + 1 * y0.val) % 24 = y0.val % 24 by omega, show 2 * ((256 * b + 1 * y1.val) / 4) + (256 * b + 1 * y1.val) % 2 = 128 * b + (2 * (y1.val / 4) + y1.val % 2) by omega]
  by_cases h : y1.val / 2 % 2 = y0.val / 24
  · rw [if_pos h, if_pos h]; exact hX _ _
  · rw [if_neg h, if_neg h]

theorem mem_xe (o : ℕ) (inb) (y : S48x14336.Idx) (h : o ≤ (y 1).val) (h' : (y 1).val < o + 256) :
    y ∈ (Rect.unit (s := S48x14336) ![0, o] S48x256.size inb).set := by
  refine (LoadRect.mem_set _).mpr fun a => ?_
  match a with
  | ⟨0, _⟩ => exact ⟨(y 0).val, (y 0).isLt, by show (y 0).val = 0 + 1 * (y 0).val; omega⟩
  | ⟨1, _⟩ => exact ⟨(y 1).val - o, by show (y 1).val - o < 256; omega, by show (y 1).val = o + 1 * ((y 1).val - o); omega⟩

theorem xe_pieces (x : ℕ → ℕ → EReal) (X : ℕ → Vec Ideal S24x128 .bf16)
    (hX : ∀ b, b < 56 → ∀ (i : Fin 24) (j : Fin 128), X b (ix2 i j) = x i.val (128 * b + j.val)) :
    ∀ p ∈ xeL (F := Ideal) X, ∀ y : p.1.shape.Idx, p.2 y = (fun y : S48x14336.Idx => inter x (y 0).val (y 1).val) (p.1.emb y) := by
  unfold xeL
  dsimp only
  refine List.forall_mem_cons.mpr ⟨fun y => xe_piece x (X 55) 14080 55 inb_S48x14336_S48x256_0_14080 rfl (hX 55 (by omega)) y, ?_⟩
  refine List.forall_mem_cons.mpr ⟨fun y => xe_piece x (X 54) 13824 54 inb_S48x14336_S48x256_0_13824 rfl (hX 54 (by omega)) y, ?_⟩
  refine List.forall_mem_cons.mpr ⟨fun y => xe_piece x (X 53) 13568 53 inb_S48x14336_S48x256_0_13568 rfl (hX 53 (by omega)) y, ?_⟩
  refine List.forall_mem_cons.mpr ⟨fun y => xe_piece x (X 52) 13312 52 inb_S48x14336_S48x256_0_13312 rfl (hX 52 (by omega)) y, ?_⟩
  refine List.forall_mem_cons.mpr ⟨fun y => xe_piece x (X 51) 13056 51 inb_S48x14336_S48x256_0_13056 rfl (hX 51 (by omega)) y, ?_⟩
  refine List.forall_mem_cons.mpr ⟨fun y => xe_piece x (X 50) 12800 50 inb_S48x14336_S48x256_0_12800 rfl (hX 50 (by omega)) y, ?_⟩
  refine List.forall_mem_cons.mpr ⟨fun y => xe_piece x (X 49) 12544 49 inb_S48x14336_S48x256_0_12544 rfl (hX 49 (by omega)) y, ?_⟩
  refine List.forall_mem_cons.mpr ⟨fun y => xe_piece x (X 48) 12288 48 inb_S48x14336_S48x256_0_12288 rfl (hX 48 (by omega)) y, ?_⟩
  refine List.forall_mem_cons.mpr ⟨fun y => xe_piece x (X 47) 12032 47 inb_S48x14336_S48x256_0_12032 rfl (hX 47 (by omega)) y, ?_⟩
  refine List.forall_mem_cons.mpr ⟨fun y => xe_piece x (X 46) 11776 46 inb_S48x14336_S48x256_0_11776 rfl (hX 46 (by omega)) y, ?_⟩
  refine List.forall_mem_cons.mpr ⟨fun y => xe_piece x (X 45) 11520 45 inb_S48x14336_S48x256_0_11520 rfl (hX 45 (by omega)) y, ?_⟩
  refine List.forall_mem_cons.mpr ⟨fun y => xe_piece x (X 44) 11264 44 inb_S48x14336_S48x256_0_11264 rfl (hX 44 (by omega)) y, ?_⟩
  refine List.forall_mem_cons.mpr ⟨fun y => xe_piece x (X 43) 11008 43 inb_S48x14336_S48x256_0_11008 rfl (hX 43 (by omega)) y, ?_⟩
  refine List.forall_mem_cons.mpr ⟨fun y => xe_piece x (X 42) 10752 42 inb_S48x14336_S48x256_0_10752 rfl (hX 42 (by omega)) y, ?_⟩
  refine List.forall_mem_cons.mpr ⟨fun y => xe_piece x (X 41) 10496 41 inb_S48x14336_S48x256_0_10496 rfl (hX 41 (by omega)) y, ?_⟩
  refine List.forall_mem_cons.mpr ⟨fun y => xe_piece x (X 40) 10240 40 inb_S48x14336_S48x256_0_10240 rfl (hX 40 (by omega)) y, ?_⟩
  refine List.forall_mem_cons.mpr ⟨fun y => xe_piece x (X 39) 9984 39 inb_S48x14336_S48x256_0_9984 rfl (hX 39 (by omega)) y, ?_⟩
  refine List.forall_mem_cons.mpr ⟨fun y => xe_piece x (X 38) 9728 38 inb_S48x14336_S48x256_0_9728 rfl (hX 38 (by omega)) y, ?_⟩
  refine List.forall_mem_cons.mpr ⟨fun y => xe_piece x (X 37) 9472 37 inb_S48x14336_S48x256_0_9472 rfl (hX 37 (by omega)) y, ?_⟩
  refine List.forall_mem_cons.mpr ⟨fun y => xe_piece x (X 36) 9216 36 inb_S48x14336_S48x256_0_9216 rfl (hX 36 (by omega)) y, ?_⟩
  refine List.forall_mem_cons.mpr ⟨fun y => xe_piece x (X 35) 8960 35 inb_S48x14336_S48x256_0_8960 rfl (hX 35 (by omega)) y, ?_⟩
  refine List.forall_mem_cons.mpr ⟨fun y => xe_piece x (X 34) 8704 34 inb_S48x14336_S48x256_0_8704 rfl (hX 34 (by omega)) y, ?_⟩
  refine List.forall_mem_cons.mpr ⟨fun y => xe_piece x (X 33) 8448 33 inb_S48x14336_S48x256_0_8448 rfl (hX 33 (by omega)) y, ?_⟩
  refine List.forall_mem_cons.mpr ⟨fun y => xe_piece x (X 32) 8192 32 inb_S48x14336_S48x256_0_8192 rfl (hX 32 (by omega)) y, ?_⟩
  refine List.forall_mem_cons.mpr ⟨fun y => xe_piece x (X 31) 7936 31 inb_S48x14336_S48x256_0_7936 rfl (hX 31 (by omega)) y, ?_⟩
  refine List.forall_mem_cons.mpr ⟨fun y => xe_piece x (X 30) 7680 30 inb_S48x14336_S48x256_0_7680 rfl (hX 30 (by omega)) y, ?_⟩
  refine List.forall_mem_cons.mpr ⟨fun y => xe_piece x (X 29) 7424 29 inb_S48x14336_S48x256_0_7424 rfl (hX 29 (by omega)) y, ?_⟩
  refine List.forall_mem_cons.mpr ⟨fun y => xe_piece x (X 28) 7168 28 inb_S48x14336_S48x256_0_7168 rfl (hX 28 (by omega)) y, ?_⟩
  refine List.forall_mem_cons.mpr ⟨fun y => xe_piece x (X 27) 6912 27 inb_S48x14336_S48x256_0_6912 rfl (hX 27 (by omega)) y, ?_⟩
  refine List.forall_mem_cons.mpr ⟨fun y => xe_piece x (X 26) 6656 26 inb_S48x14336_S48x256_0_6656 rfl (hX 26 (by omega)) y, ?_⟩
  refine List.forall_mem_cons.mpr ⟨fun y => xe_piece x (X 25) 6400 25 inb_S48x14336_S48x256_0_6400 rfl (hX 25 (by omega)) y, ?_⟩
  refine List.forall_mem_cons.mpr ⟨fun y => xe_piece x (X 24) 6144 24 inb_S48x14336_S48x256_0_6144 rfl (hX 24 (by omega)) y, ?_⟩
  refine List.forall_mem_cons.mpr ⟨fun y => xe_piece x (X 23) 5888 23 inb_S48x14336_S48x256_0_5888 rfl (hX 23 (by omega)) y, ?_⟩
  refine List.forall_mem_cons.mpr ⟨fun y => xe_piece x (X 22) 5632 22 inb_S48x14336_S48x256_0_5632 rfl (hX 22 (by omega)) y, ?_⟩
  refine List.forall_mem_cons.mpr ⟨fun y => xe_piece x (X 21) 5376 21 inb_S48x14336_S48x256_0_5376 rfl (hX 21 (by omega)) y, ?_⟩
  refine List.forall_mem_cons.mpr ⟨fun y => xe_piece x (X 20) 5120 20 inb_S48x14336_S48x256_0_5120 rfl (hX 20 (by omega)) y, ?_⟩
  refine List.forall_mem_cons.mpr ⟨fun y => xe_piece x (X 19) 4864 19 inb_S48x14336_S48x256_0_4864 rfl (hX 19 (by omega)) y, ?_⟩
  refine List.forall_mem_cons.mpr ⟨fun y => xe_piece x (X 18) 4608 18 inb_S48x14336_S48x256_0_4608 rfl (hX 18 (by omega)) y, ?_⟩
  refine List.forall_mem_cons.mpr ⟨fun y => xe_piece x (X 17) 4352 17 inb_S48x14336_S48x256_0_4352 rfl (hX 17 (by omega)) y, ?_⟩
  refine List.forall_mem_cons.mpr ⟨fun y => xe_piece x (X 16) 4096 16 inb_S48x14336_S48x256_0_4096 rfl (hX 16 (by omega)) y, ?_⟩
  refine List.forall_mem_cons.mpr ⟨fun y => xe_piece x (X 15) 3840 15 inb_S48x14336_S48x256_0_3840 rfl (hX 15 (by omega)) y, ?_⟩
  refine List.forall_mem_cons.mpr ⟨fun y => xe_piece x (X 14) 3584 14 inb_S48x14336_S48x256_0_3584 rfl (hX 14 (by omega)) y, ?_⟩
  refine List.forall_mem_cons.mpr ⟨fun y => xe_piece x (X 13) 3328 13 inb_S48x14336_S48x256_0_3328 rfl (hX 13 (by omega)) y, ?_⟩
  refine List.forall_mem_cons.mpr ⟨fun y => xe_piece x (X 12) 3072 12 inb_S48x14336_S48x256_0_3072 rfl (hX 12 (by omega)) y, ?_⟩
  refine List.forall_mem_cons.mpr ⟨fun y => xe_piece x (X 11) 2816 11 inb_S48x14336_S48x256_0_2816 rfl (hX 11 (by omega)) y, ?_⟩
  refine List.forall_mem_cons.mpr ⟨fun y => xe_piece x (X 10) 2560 10 inb_S48x14336_S48x256_0_2560 rfl (hX 10 (by omega)) y, ?_⟩
  refine List.forall_mem_cons.mpr ⟨fun y => xe_piece x (X 9) 2304 9 inb_S48x14336_S48x256_0_2304 rfl (hX 9 (by omega)) y, ?_⟩
  refine List.forall_mem_cons.mpr ⟨fun y => xe_piece x (X 8) 2048 8 inb_S48x14336_S48x256_0_2048 rfl (hX 8 (by omega)) y, ?_⟩
  refine List.forall_mem_cons.mpr ⟨fun y => xe_piece x (X 7) 1792 7 inb_S48x14336_S48x256_0_1792 rfl (hX 7 (by omega)) y, ?_⟩
  refine List.forall_mem_cons.mpr ⟨fun y => xe_piece x (X 6) 1536 6 inb_S48x14336_S48x256_0_1536 rfl (hX 6 (by omega)) y, ?_⟩
  refine List.forall_mem_cons.mpr ⟨fun y => xe_piece x (X 5) 1280 5 inb_S48x14336_S48x256_0_1280 rfl (hX 5 (by omega)) y, ?_⟩
  refine List.forall_mem_cons.mpr ⟨fun y => xe_piece x (X 4) 1024 4 inb_S48x14336_S48x256_0_1024 rfl (hX 4 (by omega)) y, ?_⟩
  refine List.forall_mem_cons.mpr ⟨fun y => xe_piece x (X 3) 768 3 inb_S48x14336_S48x256_0_768 rfl (hX 3 (by omega)) y, ?_⟩
  refine List.forall_mem_cons.mpr ⟨fun y => xe_piece x (X 2) 512 2 inb_S48x14336_S48x256_0_512 rfl (hX 2 (by omega)) y, ?_⟩
  refine List.forall_mem_cons.mpr ⟨fun y => xe_piece x (X 1) 256 1 inb_S48x14336_S48x256_0_256 rfl (hX 1 (by omega)) y, ?_⟩
  refine List.forall_mem_cons.mpr ⟨fun y => xe_piece x (X 0) 0 0 inb_S48x14336_S48x256_0_0 rfl (hX 0 (by omega)) y, ?_⟩
  exact fun p hp => absurd hp List.not_mem_nil

theorem ex_tail {α : Type*} {P : α → Prop} {q : α} {L : List α} (h : ∃ p ∈ L, P p) : ∃ p ∈ q :: L, P p :=
  let ⟨p, hm, hp⟩ := h; ⟨p, List.Mem.tail _ hm, hp⟩

theorem xe_cover (X : ℕ → Vec Ideal S24x128 .bf16) (y : S48x14336.Idx) : ∃ p ∈ xeL (F := Ideal) X, y ∈ p.1.set := by
  have hi : (y 1).val < 14336 := (y 1).isLt
  unfold xeL
  dsimp only
  rcases Nat.lt_or_ge (y 1).val 14080 with h55 | h55
  case inr => exact ⟨_, List.Mem.head _, mem_xe 14080 inb_S48x14336_S48x256_0_14080 y h55 (by omega)⟩
  clear hi; rename' h55 => hi
  refine ex_tail ?_
  rcases Nat.lt_or_ge (y 1).val 13824 with h54 | h54
  case inr => exact ⟨_, List.Mem.head _, mem_xe 13824 inb_S48x14336_S48x256_0_13824 y h54 (by omega)⟩
  clear hi; rename' h54 => hi
  refine ex_tail ?_
  rcases Nat.lt_or_ge (y 1).val 13568 with h53 | h53
  case inr => exact ⟨_, List.Mem.head _, mem_xe 13568 inb_S48x14336_S48x256_0_13568 y h53 (by omega)⟩
  clear hi; rename' h53 => hi
  refine ex_tail ?_
  rcases Nat.lt_or_ge (y 1).val 13312 with h52 | h52
  case inr => exact ⟨_, List.Mem.head _, mem_xe 13312 inb_S48x14336_S48x256_0_13312 y h52 (by omega)⟩
  clear hi; rename' h52 => hi
  refine ex_tail ?_
  rcases Nat.lt_or_ge (y 1).val 13056 with h51 | h51
  case inr => exact ⟨_, List.Mem.head _, mem_xe 13056 inb_S48x14336_S48x256_0_13056 y h51 (by omega)⟩
  clear hi; rename' h51 => hi
  refine ex_tail ?_
  rcases Nat.lt_or_ge (y 1).val 12800 with h50 | h50
  case inr => exact ⟨_, List.Mem.head _, mem_xe 12800 inb_S48x14336_S48x256_0_12800 y h50 (by omega)⟩
  clear hi; rename' h50 => hi
  refine ex_tail ?_
  rcases Nat.lt_or_ge (y 1).val 12544 with h49 | h49
  case inr => exact ⟨_, List.Mem.head _, mem_xe 12544 inb_S48x14336_S48x256_0_12544 y h49 (by omega)⟩
  clear hi; rename' h49 => hi
  refine ex_tail ?_
  rcases Nat.lt_or_ge (y 1).val 12288 with h48 | h48
  case inr => exact ⟨_, List.Mem.head _, mem_xe 12288 inb_S48x14336_S48x256_0_12288 y h48 (by omega)⟩
  clear hi; rename' h48 => hi
  refine ex_tail ?_
  rcases Nat.lt_or_ge (y 1).val 12032 with h47 | h47
  case inr => exact ⟨_, List.Mem.head _, mem_xe 12032 inb_S48x14336_S48x256_0_12032 y h47 (by omega)⟩
  clear hi; rename' h47 => hi
  refine ex_tail ?_
  rcases Nat.lt_or_ge (y 1).val 11776 with h46 | h46
  case inr => exact ⟨_, List.Mem.head _, mem_xe 11776 inb_S48x14336_S48x256_0_11776 y h46 (by omega)⟩
  clear hi; rename' h46 => hi
  refine ex_tail ?_
  rcases Nat.lt_or_ge (y 1).val 11520 with h45 | h45
  case inr => exact ⟨_, List.Mem.head _, mem_xe 11520 inb_S48x14336_S48x256_0_11520 y h45 (by omega)⟩
  clear hi; rename' h45 => hi
  refine ex_tail ?_
  rcases Nat.lt_or_ge (y 1).val 11264 with h44 | h44
  case inr => exact ⟨_, List.Mem.head _, mem_xe 11264 inb_S48x14336_S48x256_0_11264 y h44 (by omega)⟩
  clear hi; rename' h44 => hi
  refine ex_tail ?_
  rcases Nat.lt_or_ge (y 1).val 11008 with h43 | h43
  case inr => exact ⟨_, List.Mem.head _, mem_xe 11008 inb_S48x14336_S48x256_0_11008 y h43 (by omega)⟩
  clear hi; rename' h43 => hi
  refine ex_tail ?_
  rcases Nat.lt_or_ge (y 1).val 10752 with h42 | h42
  case inr => exact ⟨_, List.Mem.head _, mem_xe 10752 inb_S48x14336_S48x256_0_10752 y h42 (by omega)⟩
  clear hi; rename' h42 => hi
  refine ex_tail ?_
  rcases Nat.lt_or_ge (y 1).val 10496 with h41 | h41
  case inr => exact ⟨_, List.Mem.head _, mem_xe 10496 inb_S48x14336_S48x256_0_10496 y h41 (by omega)⟩
  clear hi; rename' h41 => hi
  refine ex_tail ?_
  rcases Nat.lt_or_ge (y 1).val 10240 with h40 | h40
  case inr => exact ⟨_, List.Mem.head _, mem_xe 10240 inb_S48x14336_S48x256_0_10240 y h40 (by omega)⟩
  clear hi; rename' h40 => hi
  refine ex_tail ?_
  rcases Nat.lt_or_ge (y 1).val 9984 with h39 | h39
  case inr => exact ⟨_, List.Mem.head _, mem_xe 9984 inb_S48x14336_S48x256_0_9984 y h39 (by omega)⟩
  clear hi; rename' h39 => hi
  refine ex_tail ?_
  rcases Nat.lt_or_ge (y 1).val 9728 with h38 | h38
  case inr => exact ⟨_, List.Mem.head _, mem_xe 9728 inb_S48x14336_S48x256_0_9728 y h38 (by omega)⟩
  clear hi; rename' h38 => hi
  refine ex_tail ?_
  rcases Nat.lt_or_ge (y 1).val 9472 with h37 | h37
  case inr => exact ⟨_, List.Mem.head _, mem_xe 9472 inb_S48x14336_S48x256_0_9472 y h37 (by omega)⟩
  clear hi; rename' h37 => hi
  refine ex_tail ?_
  rcases Nat.lt_or_ge (y 1).val 9216 with h36 | h36
  case inr => exact ⟨_, List.Mem.head _, mem_xe 9216 inb_S48x14336_S48x256_0_9216 y h36 (by omega)⟩
  clear hi; rename' h36 => hi
  refine ex_tail ?_
  rcases Nat.lt_or_ge (y 1).val 8960 with h35 | h35
  case inr => exact ⟨_, List.Mem.head _, mem_xe 8960 inb_S48x14336_S48x256_0_8960 y h35 (by omega)⟩
  clear hi; rename' h35 => hi
  refine ex_tail ?_
  rcases Nat.lt_or_ge (y 1).val 8704 with h34 | h34
  case inr => exact ⟨_, List.Mem.head _, mem_xe 8704 inb_S48x14336_S48x256_0_8704 y h34 (by omega)⟩
  clear hi; rename' h34 => hi
  refine ex_tail ?_
  rcases Nat.lt_or_ge (y 1).val 8448 with h33 | h33
  case inr => exact ⟨_, List.Mem.head _, mem_xe 8448 inb_S48x14336_S48x256_0_8448 y h33 (by omega)⟩
  clear hi; rename' h33 => hi
  refine ex_tail ?_
  rcases Nat.lt_or_ge (y 1).val 8192 with h32 | h32
  case inr => exact ⟨_, List.Mem.head _, mem_xe 8192 inb_S48x14336_S48x256_0_8192 y h32 (by omega)⟩
  clear hi; rename' h32 => hi
  refine ex_tail ?_
  rcases Nat.lt_or_ge (y 1).val 7936 with h31 | h31
  case inr => exact ⟨_, List.Mem.head _, mem_xe 7936 inb_S48x14336_S48x256_0_7936 y h31 (by omega)⟩
  clear hi; rename' h31 => hi
  refine ex_tail ?_
  rcases Nat.lt_or_ge (y 1).val 7680 with h30 | h30
  case inr => exact ⟨_, List.Mem.head _, mem_xe 7680 inb_S48x14336_S48x256_0_7680 y h30 (by omega)⟩
  clear hi; rename' h30 => hi
  refine ex_tail ?_
  rcases Nat.lt_or_ge (y 1).val 7424 with h29 | h29
  case inr => exact ⟨_, List.Mem.head _, mem_xe 7424 inb_S48x14336_S48x256_0_7424 y h29 (by omega)⟩
  clear hi; rename' h29 => hi
  refine ex_tail ?_
  rcases Nat.lt_or_ge (y 1).val 7168 with h28 | h28
  case inr => exact ⟨_, List.Mem.head _, mem_xe 7168 inb_S48x14336_S48x256_0_7168 y h28 (by omega)⟩
  clear hi; rename' h28 => hi
  refine ex_tail ?_
  rcases Nat.lt_or_ge (y 1).val 6912 with h27 | h27
  case inr => exact ⟨_, List.Mem.head _, mem_xe 6912 inb_S48x14336_S48x256_0_6912 y h27 (by omega)⟩
  clear hi; rename' h27 => hi
  refine ex_tail ?_
  rcases Nat.lt_or_ge (y 1).val 6656 with h26 | h26
  case inr => exact ⟨_, List.Mem.head _, mem_xe 6656 inb_S48x14336_S48x256_0_6656 y h26 (by omega)⟩
  clear hi; rename' h26 => hi
  refine ex_tail ?_
  rcases Nat.lt_or_ge (y 1).val 6400 with h25 | h25
  case inr => exact ⟨_, List.Mem.head _, mem_xe 6400 inb_S48x14336_S48x256_0_6400 y h25 (by omega)⟩
  clear hi; rename' h25 => hi
  refine ex_tail ?_
  rcases Nat.lt_or_ge (y 1).val 6144 with h24 | h24
  case inr => exact ⟨_, List.Mem.head _, mem_xe 6144 inb_S48x14336_S48x256_0_6144 y h24 (by omega)⟩
  clear hi; rename' h24 => hi
  refine ex_tail ?_
  rcases Nat.lt_or_ge (y 1).val 5888 with h23 | h23
  case inr => exact ⟨_, List.Mem.head _, mem_xe 5888 inb_S48x14336_S48x256_0_5888 y h23 (by omega)⟩
  clear hi; rename' h23 => hi
  refine ex_tail ?_
  rcases Nat.lt_or_ge (y 1).val 5632 with h22 | h22
  case inr => exact ⟨_, List.Mem.head _, mem_xe 5632 inb_S48x14336_S48x256_0_5632 y h22 (by omega)⟩
  clear hi; rename' h22 => hi
  refine ex_tail ?_
  rcases Nat.lt_or_ge (y 1).val 5376 with h21 | h21
  case inr => exact ⟨_, List.Mem.head _, mem_xe 5376 inb_S48x14336_S48x256_0_5376 y h21 (by omega)⟩
  clear hi; rename' h21 => hi
  refine ex_tail ?_
  rcases Nat.lt_or_ge (y 1).val 5120 with h20 | h20
  case inr => exact ⟨_, List.Mem.head _, mem_xe 5120 inb_S48x14336_S48x256_0_5120 y h20 (by omega)⟩
  clear hi; rename' h20 => hi
  refine ex_tail ?_
  rcases Nat.lt_or_ge (y 1).val 4864 with h19 | h19
  case inr => exact ⟨_, List.Mem.head _, mem_xe 4864 inb_S48x14336_S48x256_0_4864 y h19 (by omega)⟩
  clear hi; rename' h19 => hi
  refine ex_tail ?_
  rcases Nat.lt_or_ge (y 1).val 4608 with h18 | h18
  case inr => exact ⟨_, List.Mem.head _, mem_xe 4608 inb_S48x14336_S48x256_0_4608 y h18 (by omega)⟩
  clear hi; rename' h18 => hi
  refine ex_tail ?_
  rcases Nat.lt_or_ge (y 1).val 4352 with h17 | h17
  case inr => exact ⟨_, List.Mem.head _, mem_xe 4352 inb_S48x14336_S48x256_0_4352 y h17 (by omega)⟩
  clear hi; rename' h17 => hi
  refine ex_tail ?_
  rcases Nat.lt_or_ge (y 1).val 4096 with h16 | h16
  case inr => exact ⟨_, List.Mem.head _, mem_xe 4096 inb_S48x14336_S48x256_0_4096 y h16 (by omega)⟩
  clear hi; rename' h16 => hi
  refine ex_tail ?_
  rcases Nat.lt_or_ge (y 1).val 3840 with h15 | h15
  case inr => exact ⟨_, List.Mem.head _, mem_xe 3840 inb_S48x14336_S48x256_0_3840 y h15 (by omega)⟩
  clear hi; rename' h15 => hi
  refine ex_tail ?_
  rcases Nat.lt_or_ge (y 1).val 3584 with h14 | h14
  case inr => exact ⟨_, List.Mem.head _, mem_xe 3584 inb_S48x14336_S48x256_0_3584 y h14 (by omega)⟩
  clear hi; rename' h14 => hi
  refine ex_tail ?_
  rcases Nat.lt_or_ge (y 1).val 3328 with h13 | h13
  case inr => exact ⟨_, List.Mem.head _, mem_xe 3328 inb_S48x14336_S48x256_0_3328 y h13 (by omega)⟩
  clear hi; rename' h13 => hi
  refine ex_tail ?_
  rcases Nat.lt_or_ge (y 1).val 3072 with h12 | h12
  case inr => exact ⟨_, List.Mem.head _, mem_xe 3072 inb_S48x14336_S48x256_0_3072 y h12 (by omega)⟩
  clear hi; rename' h12 => hi
  refine ex_tail ?_
  rcases Nat.lt_or_ge (y 1).val 2816 with h11 | h11
  case inr => exact ⟨_, List.Mem.head _, mem_xe 2816 inb_S48x14336_S48x256_0_2816 y h11 (by omega)⟩
  clear hi; rename' h11 => hi
  refine ex_tail ?_
  rcases Nat.lt_or_ge (y 1).val 2560 with h10 | h10
  case inr => exact ⟨_, List.Mem.head _, mem_xe 2560 inb_S48x14336_S48x256_0_2560 y h10 (by omega)⟩
  clear hi; rename' h10 => hi
  refine ex_tail ?_
  rcases Nat.lt_or_ge (y 1).val 2304 with h9 | h9
  case inr => exact ⟨_, List.Mem.head _, mem_xe 2304 inb_S48x14336_S48x256_0_2304 y h9 (by omega)⟩
  clear hi; rename' h9 => hi
  refine ex_tail ?_
  rcases Nat.lt_or_ge (y 1).val 2048 with h8 | h8
  case inr => exact ⟨_, List.Mem.head _, mem_xe 2048 inb_S48x14336_S48x256_0_2048 y h8 (by omega)⟩
  clear hi; rename' h8 => hi
  refine ex_tail ?_
  rcases Nat.lt_or_ge (y 1).val 1792 with h7 | h7
  case inr => exact ⟨_, List.Mem.head _, mem_xe 1792 inb_S48x14336_S48x256_0_1792 y h7 (by omega)⟩
  clear hi; rename' h7 => hi
  refine ex_tail ?_
  rcases Nat.lt_or_ge (y 1).val 1536 with h6 | h6
  case inr => exact ⟨_, List.Mem.head _, mem_xe 1536 inb_S48x14336_S48x256_0_1536 y h6 (by omega)⟩
  clear hi; rename' h6 => hi
  refine ex_tail ?_
  rcases Nat.lt_or_ge (y 1).val 1280 with h5 | h5
  case inr => exact ⟨_, List.Mem.head _, mem_xe 1280 inb_S48x14336_S48x256_0_1280 y h5 (by omega)⟩
  clear hi; rename' h5 => hi
  refine ex_tail ?_
  rcases Nat.lt_or_ge (y 1).val 1024 with h4 | h4
  case inr => exact ⟨_, List.Mem.head _, mem_xe 1024 inb_S48x14336_S48x256_0_1024 y h4 (by omega)⟩
  clear hi; rename' h4 => hi
  refine ex_tail ?_
  rcases Nat.lt_or_ge (y 1).val 768 with h3 | h3
  case inr => exact ⟨_, List.Mem.head _, mem_xe 768 inb_S48x14336_S48x256_0_768 y h3 (by omega)⟩
  clear hi; rename' h3 => hi
  refine ex_tail ?_
  rcases Nat.lt_or_ge (y 1).val 512 with h2 | h2
  case inr => exact ⟨_, List.Mem.head _, mem_xe 512 inb_S48x14336_S48x256_0_512 y h2 (by omega)⟩
  clear hi; rename' h2 => hi
  refine ex_tail ?_
  rcases Nat.lt_or_ge (y 1).val 256 with h1 | h1
  case inr => exact ⟨_, List.Mem.head _, mem_xe 256 inb_S48x14336_S48x256_0_256 y h1 (by omega)⟩
  clear hi; rename' h1 => hi
  refine ex_tail ?_
  exact ⟨_, List.Mem.head _, mem_xe 0 inb_S48x14336_S48x256_0_0 y (Nat.zero_le _) (by omega)⟩

theorem xblk_apply (arg1 : Memref sig .tc .vmem S24x7168 .bf16) (f1 : BufTy.Contents (Elt Ideal) arg1.view.ty) (x : ℕ → ℕ → EReal)
    (hx : ∀ (i : Fin 24) (j : Fin 7168), arg1.view.read (Elt Ideal) f1 (ix2 i j) = x i.val j.val) (b : ℕ) (hb : b < 56) (i : Fin 24) (j : Fin 128) :
    xblk (F := Ideal) arg1 f1 b (ix2 i j) = x i.val (128 * b + j.val) := by
  interval_cases b
  · exact rd2 arg1.view f1 x hx ![0, 0] inb_S24x7168_S24x128_0_0 0 rfl rfl i j
  · exact rd2 arg1.view f1 x hx ![0, 128] inb_S24x7168_S24x128_0_128 128 rfl rfl i j
  · exact rd2 arg1.view f1 x hx ![0, 256] inb_S24x7168_S24x128_0_256 256 rfl rfl i j
  · exact rd2 arg1.view f1 x hx ![0, 384] inb_S24x7168_S24x128_0_384 384 rfl rfl i j
  · exact rd2 arg1.view f1 x hx ![0, 512] inb_S24x7168_S24x128_0_512 512 rfl rfl i j
  · exact rd2 arg1.view f1 x hx ![0, 640] inb_S24x7168_S24x128_0_640 640 rfl rfl i j
  · exact rd2 arg1.view f1 x hx ![0, 768] inb_S24x7168_S24x128_0_768 768 rfl rfl i j
  · exact rd2 arg1.view f1 x hx ![0, 896] inb_S24x7168_S24x128_0_896 896 rfl rfl i j
  · exact rd2 arg1.view f1 x hx ![0, 1024] inb_S24x7168_S24x128_0_1024 1024 rfl rfl i j
  · exact rd2 arg1.view f1 x hx ![0, 1152] inb_S24x7168_S24x128_0_1152 1152 rfl rfl i j
  · exact rd2 arg1.view f1 x hx ![0, 1280] inb_S24x7168_S24x128_0_1280 1280 rfl rfl i j
  · exact rd2 arg1.view f1 x hx ![0, 1408] inb_S24x7168_S24x128_0_1408 1408 rfl rfl i j
  · exact rd2 arg1.view f1 x hx ![0, 1536] inb_S24x7168_S24x128_0_1536 1536 rfl rfl i j
  · exact rd2 arg1.view f1 x hx ![0, 1664] inb_S24x7168_S24x128_0_1664 1664 rfl rfl i j
  · exact rd2 arg1.view f1 x hx ![0, 1792] inb_S24x7168_S24x128_0_1792 1792 rfl rfl i j
  · exact rd2 arg1.view f1 x hx ![0, 1920] inb_S24x7168_S24x128_0_1920 1920 rfl rfl i j
  · exact rd2 arg1.view f1 x hx ![0, 2048] inb_S24x7168_S24x128_0_2048 2048 rfl rfl i j
  · exact rd2 arg1.view f1 x hx ![0, 2176] inb_S24x7168_S24x128_0_2176 2176 rfl rfl i j
  · exact rd2 arg1.view f1 x hx ![0, 2304] inb_S24x7168_S24x128_0_2304 2304 rfl rfl i j
  · exact rd2 arg1.view f1 x hx ![0, 2432] inb_S24x7168_S24x128_0_2432 2432 rfl rfl i j
  · exact rd2 arg1.view f1 x hx ![0, 2560] inb_S24x7168_S24x128_0_2560 2560 rfl rfl i j
  · exact rd2 arg1.view f1 x hx ![0, 2688] inb_S24x7168_S24x128_0_2688 2688 rfl rfl i j
  · exact rd2 arg1.view f1 x hx ![0, 2816] inb_S24x7168_S24x128_0_2816 2816 rfl rfl i j
  · exact rd2 arg1.view f1 x hx ![0, 2944] inb_S24x7168_S24x128_0_2944 2944 rfl rfl i j
  · exact rd2 arg1.view f1 x hx ![0, 3072] inb_S24x7168_S24x128_0_3072 3072 rfl rfl i j
  · exact rd2 arg1.view f1 x hx ![0, 3200] inb_S24x7168_S24x128_0_3200 3200 rfl rfl i j
  · exact rd2 arg1.view f1 x hx ![0, 3328] inb_S24x7168_S24x128_0_3328 3328 rfl rfl i j
  · exact rd2 arg1.view f1 x hx ![0, 3456] inb_S24x7168_S24x128_0_3456 3456 rfl rfl i j
  · exact rd2 arg1.view f1 x hx ![0, 3584] inb_S24x7168_S24x128_0_3584 3584 rfl rfl i j
  · exact rd2 arg1.view f1 x hx ![0, 3712] inb_S24x7168_S24x128_0_3712 3712 rfl rfl i j
  · exact rd2 arg1.view f1 x hx ![0, 3840] inb_S24x7168_S24x128_0_3840 3840 rfl rfl i j
  · exact rd2 arg1.view f1 x hx ![0, 3968] inb_S24x7168_S24x128_0_3968 3968 rfl rfl i j
  · exact rd2 arg1.view f1 x hx ![0, 4096] inb_S24x7168_S24x128_0_4096 4096 rfl rfl i j
  · exact rd2 arg1.view f1 x hx ![0, 4224] inb_S24x7168_S24x128_0_4224 4224 rfl rfl i j
  · exact rd2 arg1.view f1 x hx ![0, 4352] inb_S24x7168_S24x128_0_4352 4352 rfl rfl i j
  · exact rd2 arg1.view f1 x hx ![0, 4480] inb_S24x7168_S24x128_0_4480 4480 rfl rfl i j
  · exact rd2 arg1.view f1 x hx ![0, 4608] inb_S24x7168_S24x128_0_4608 4608 rfl rfl i j
  · exact rd2 arg1.view f1 x hx ![0, 4736] inb_S24x7168_S24x128_0_4736 4736 rfl rfl i j
  · exact rd2 arg1.view f1 x hx ![0, 4864] inb_S24x7168_S24x128_0_4864 4864 rfl rfl i j
  · exact rd2 arg1.view f1 x hx ![0, 4992] inb_S24x7168_S24x128_0_4992 4992 rfl rfl i j
  · exact rd2 arg1.view f1 x hx ![0, 5120] inb_S24x7168_S24x128_0_5120 5120 rfl rfl i j
  · exact rd2 arg1.view f1 x hx ![0, 5248] inb_S24x7168_S24x128_0_5248 5248 rfl rfl i j
  · exact rd2 arg1.view f1 x hx ![0, 5376] inb_S24x7168_S24x128_0_5376 5376 rfl rfl i j
  · exact rd2 arg1.view f1 x hx ![0, 5504] inb_S24x7168_S24x128_0_5504 5504 rfl rfl i j
  · exact rd2 arg1.view f1 x hx ![0, 5632] inb_S24x7168_S24x128_0_5632 5632 rfl rfl i j
  · exact rd2 arg1.view f1 x hx ![0, 5760] inb_S24x7168_S24x128_0_5760 5760 rfl rfl i j
  · exact rd2 arg1.view f1 x hx ![0, 5888] inb_S24x7168_S24x128_0_5888 5888 rfl rfl i j
  · exact rd2 arg1.view f1 x hx ![0, 6016] inb_S24x7168_S24x128_0_6016 6016 rfl rfl i j
  · exact rd2 arg1.view f1 x hx ![0, 6144] inb_S24x7168_S24x128_0_6144 6144 rfl rfl i j
  · exact rd2 arg1.view f1 x hx ![0, 6272] inb_S24x7168_S24x128_0_6272 6272 rfl rfl i j
  · exact rd2 arg1.view f1 x hx ![0, 6400] inb_S24x7168_S24x128_0_6400 6400 rfl rfl i j
  · exact rd2 arg1.view f1 x hx ![0, 6528] inb_S24x7168_S24x128_0_6528 6528 rfl rfl i j
  · exact rd2 arg1.view f1 x hx ![0, 6656] inb_S24x7168_S24x128_0_6656 6656 rfl rfl i j
  · exact rd2 arg1.view f1 x hx ![0, 6784] inb_S24x7168_S24x128_0_6784 6784 rfl rfl i j
  · exact rd2 arg1.view f1 x hx ![0, 6912] inb_S24x7168_S24x128_0_6912 6912 rfl rfl i j
  · exact rd2 arg1.view f1 x hx ![0, 7040] inb_S24x7168_S24x128_0_7040 7040 rfl rfl i j

/-- The token scratch after the first step. -/
theorem xe_read (arg1 : Memref sig .tc .vmem S24x7168 .bf16) (f1 : BufTy.Contents (Elt Ideal) arg1.view.ty) (x : ℕ → ℕ → EReal)
    (hx : ∀ (i : Fin 24) (j : Fin 7168), arg1.view.read (Elt Ideal) f1 (ix2 i j) = x i.val j.val) (f : BufTy.Contents (Elt Ideal) scM0.view.ty) (a : Fin 48) (b : Fin 14336) :
    scM0.view.read (Elt Ideal) (scM0.view.writes (Elt Ideal) f (xeL (xblk arg1 f1))) (ix2 a b) = inter x a.val b.val :=
  View.read_writes_apply_of_pieces scM0.view f (fun y : S48x14336.Idx => inter x (y 0).val (y 1).val) _ (xe_pieces x _ (xblk_apply arg1 f1 x hx)) (ix2 a b) (xe_cover _ _)

/-! ### The hidden values -/

/-- A window of 512 rows of weights, moved to the top, gives the hidden values from column 512 n on. -/
theorem hid_shift (x : ℕ → ℕ → EReal) (Qg Qu : ℕ → ℕ → BitVec 8) (Sg Su : ℕ → ℕ → BitVec 16) (n T r o : ℕ) (ho : o = 1024 * n) (q : ℕ) :
    inter (hid x (fun a b => Qg (512 * n + a) b) (fun a b => Qu (512 * n + a) b) (fun a b => Sg (512 * n + a) b) (fun a b => Su (512 * n + a) b)) T q
      = inter (hid x Qg Qu Sg Su) T (o + q) := by
  subst ho
  unfold inter
  rw [show (1024 * n + q) / 2 % 2 = q / 2 % 2 by omega, show 2 * ((1024 * n + q) / 4) + (1024 * n + q) % 2 = 512 * n + (2 * (q / 4) + q % 2) by omega]
  rfl

theorem he_piece (H : ℕ → ℕ → EReal) (p : FVec Ideal S48x512 .bf16) (off : Fin 2 → ℕ) (o : ℕ) (inb) (ho : off = ![0, o])
    (hp : ∀ (T : Fin 48) (r : Fin 512), p (ix2 T r) = inter H T.val (o + r.val)) (y : S48x512.Idx) :
    p y = (fun y : S48x9216.Idx => inter H (y 0).val (y 1).val) ((Rect.unit (s := S48x9216) off S48x512.size inb).emb y) := by
  subst ho
  have e := ix2_eta y
  generalize y 0 = y0 at e; generalize y 1 = y1 at e
  subst e
  refine (hp y0 y1).trans ?_
  show _ = inter H (0 + 1 * y0.val) (o + 1 * y1.val)
  rw [zero_add, one_mul, one_mul]

theorem mem_he (off : Fin 2 → ℕ) (o : ℕ) (inb) (ho : off = ![0, o]) (y : S48x9216.Idx) (h : o ≤ (y 1).val) (h' : (y 1).val < o + 512) :
    y ∈ (Rect.unit (s := S48x9216) off S48x512.size inb).set := by
  subst ho
  refine (LoadRect.mem_set _).mpr fun a => ?_
  match a with
  | ⟨0, _⟩ => exact ⟨(y 0).val, (y 0).isLt, by show (y 0).val = 0 + 1 * (y 0).val; omega⟩
  | ⟨1, _⟩ => exact ⟨(y 1).val - o, by show (y 1).val - o < 512; omega, by show (y 1).val = o + 1 * ((y 1).val - o); omega⟩

theorem not_mem_he (off : Fin 2 → ℕ) (o : ℕ) (inb) (ho : off = ![0, o]) (y : S48x9216.Idx) (h : (y 1).val < o) :
    y ∉ (Rect.unit (s := S48x9216) off S48x512.size inb).set := by
  subst ho
  intro hm
  obtain ⟨k, _, hk⟩ := (LoadRect.mem_set _).mp hm 1
  have hk' : (y 1).val = o + 1 * k := hk
  omega

/-- One step's two stores extend the hidden values held by 1024 columns. -/
theorem he_read (H : ℕ → ℕ → EReal) (n : ℕ) (o1 o0 : Fin 2 → ℕ) (inb1 inb0) (e1 : o1 = ![0, 1024 * n + 512]) (e0 : o0 = ![0, 1024 * n])
    (p1 p0 : FVec Ideal S48x512 .bf16) (f : BufTy.Contents (Elt Ideal) scM1.view.ty)
    (h1 : ∀ (T : Fin 48) (r : Fin 512), p1 (ix2 T r) = inter H T.val (1024 * n + 512 + r.val))
    (h0 : ∀ (T : Fin 48) (r : Fin 512), p0 (ix2 T r) = inter H T.val (1024 * n + r.val))
    (hf : ∀ (a : Fin 48) (b : Fin 9216), b.val < 1024 * n → scM1.view.read (Elt Ideal) f (ix2 a b) = inter H a.val b.val)
    (a : Fin 48) (b : Fin 9216) (hb : b.val < 1024 * (n + 1)) :
    scM1.view.read (Elt Ideal) (scM1.view.writes (Elt Ideal) f
      [⟨Rect.unit (s := S48x9216) o1 S48x512.size inb1, p1⟩, ⟨Rect.unit (s := S48x9216) o0 S48x512.size inb0, p0⟩]) (ix2 a b) = inter H a.val b.val := by
  rcases Nat.lt_or_ge b.val (1024 * n) with h | h
  · refine (View.read_writes_apply_of_forall_not_mem scM1.view f (ix2 a b) _ ?_).trans (hf a b h)
    refine List.forall_mem_cons.mpr ⟨not_mem_he o1 _ inb1 e1 _ (by show b.val < _; omega), List.forall_mem_cons.mpr ⟨not_mem_he o0 _ inb0 e0 _ h, fun p hp => absurd hp List.not_mem_nil⟩⟩
  · refine View.read_writes_apply_of_pieces scM1.view f (fun y : S48x9216.Idx => inter H (y 0).val (y 1).val) _ ?_ (ix2 a b) ?_
    · exact List.forall_mem_cons.mpr ⟨he_piece H p1 o1 _ inb1 e1 h1, List.forall_mem_cons.mpr ⟨he_piece H p0 o0 _ inb0 e0 h0, fun p hp => absurd hp List.not_mem_nil⟩⟩
    · rcases Nat.lt_or_ge b.val (1024 * n + 512) with h' | h'
      · exact ⟨_, List.Mem.tail _ (List.Mem.head _), mem_he o0 _ inb0 e0 _ h (by show b.val < _; omega)⟩
      · exact ⟨_, List.Mem.head _, mem_he o1 _ inb1 e1 _ h' (by show b.val < _; omega)⟩

/-! ### The two scratch buffers and the output after one step -/

theorem A_xe (c : Dev nD) (i : grid0.Coords) (h1 : k0_cond1 i = 1#1) (h2 : k0_cond2 i = 1#1) (h3 : ¬ k0_cond3 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty) (x : ℕ → ℕ → EReal)
    (hx : ∀ (i : Fin 24) (j : Fin 7168), arg1.view.read (Elt Ideal) f1 (ix2 i j) = x i.val j.val)
    (a : Fin 48) (b : Fin 14336) :
    scM0.view.read (Elt Ideal) (runA (F := Ideal) c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 (ix2 a b) = inter x a.val b.val := by
  rw [runA_xe]
  exact xe_read arg1 f1 x hx _ a b

theorem A_he (c : Dev nD) (i : grid0.Coords) (h1 : k0_cond1 i = 1#1) (h2 : k0_cond2 i = 1#1) (h3 : ¬ k0_cond3 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty) (x : ℕ → ℕ → EReal) (Qg Qu : ℕ → ℕ → BitVec 8) (Sg Su : ℕ → ℕ → BitVec 16) (n : ℕ)
    (e1 : k0_off9 i 512#32 = ![0, 1024 * n + 512]) (e0 : k0_off9 i 0#32 = ![0, 1024 * n])
    (hQg : ∀ (a : Fin 512) (b : Fin 3584), arg2.view.read (Elt Ideal) f2 (ix2 a b) = Qg (512 * n + a.val) b.val)
    (hSg : ∀ (a : Fin 512) (b : Fin 224), arg3.view.read (Elt Ideal) f3 (ix2 a b) = Sg (512 * n + a.val) b.val)
    (hQu : ∀ (a : Fin 512) (b : Fin 3584), arg4.view.read (Elt Ideal) f4 (ix2 a b) = Qu (512 * n + a.val) b.val)
    (hSu : ∀ (a : Fin 512) (b : Fin 224), arg5.view.read (Elt Ideal) f5 (ix2 a b) = Su (512 * n + a.val) b.val)
    (hx : ∀ (i : Fin 24) (j : Fin 7168), arg1.view.read (Elt Ideal) f1 (ix2 i j) = x i.val j.val)
    (hf : ∀ (a : Fin 48) (b : Fin 9216), b.val < 1024 * n → scM1.view.read (Elt Ideal) f10 (ix2 a b) = inter (hid x Qg Qu Sg Su) a.val b.val)
    (a : Fin 48) (b : Fin 9216) (hb : b.val < 1024 * (n + 1)) :
    scM1.view.read (Elt Ideal) (runA (F := Ideal) c i h1 h2 h3 arg1 harg1 arg2 harg2 arg3 harg3 arg4 harg4 arg5 harg5 arg6 harg6 arg7 harg7 arg8 harg8 f1 f2 f3 f4 f5 f6 f7 f8 f9 f10 f11 f12 f13 f14 f15 f16).2.1 (ix2 a b) = inter (hid x Qg Qu Sg Su) a.val b.val := by
  rw [runA_he]
  have hg := gate_apply c i h2 arg1 harg1 arg2 harg2 arg3 harg3 arg4 harg4 arg5 harg5 arg6 harg6 arg7 harg7 arg8 harg8 f1 f2 f3 f4 f5 f6 f7 f8 (scM0.view.writes (Elt Ideal) scM0.view.junk (xeL (xblk arg1 f1))) f10 f11 f12 f13 f14 f15 f16 x (fun a b => Qg (512 * n + a) b) (fun a b => Sg (512 * n + a) b) hQg hSg (xe_read arg1 f1 x hx _)
  have hu := up_apply c i h2 arg1 harg1 arg2 harg2 arg3 harg3 arg4 harg4 arg5 harg5 arg6 harg6 arg7 harg7 arg8 harg8 f1 f2 f3 f4 f5 f6 f7 f8 (scM0.view.writes (Elt Ideal) scM0.view.junk (xeL (xblk arg1 f1))) f10 f11 f12 f13 f14 f15 f16 x (fun a b => Qu (512 * n + a) b) (fun a b => Su (512 * n + a) b) hQu hSu (xe_read arg1 f1 x hx _)
  refine he_read _ n _ _ _ _ e1 e0 _ _ f10 (fun T r => ?_) (fun T r => ?_) hf a b hb
  · refine (heP1_val _ _ x _ _ _ _ hg hu T r).trans ((hid_shift x Qg Qu Sg Su n T r _ rfl _).trans ?_)
    rw [← Nat.add_assoc]
  · refine (heP0_val _ _ x _ _ _ _ hg hu T r).trans ((hid_shift x Qg Qu Sg Su n T r _ rfl _).trans ?_)
    rw [Nat.zero_add]

theorem B_he (c : Dev nD) (i : grid0.Coords) (h1 : ¬ k0_cond1 i = 1#1) (h2 : k0_cond2 i = 1#1) (h3 : ¬ k0_cond3 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty) (x : ℕ → ℕ → EReal) (Qg Qu : ℕ → ℕ → BitVec 8) (Sg Su : ℕ → ℕ → BitVec 16) (n : ℕ)
    (e1 : k0_off9 i 512#32 = ![0, 1024 * n + 512]) (e0 : k0_off9 i 0#32 = ![0, 1024 * n])
    (hQg : ∀ (a : Fin 512) (b : Fin 3584), arg2.view.read (Elt Ideal) f2 (ix2 a b) = Qg (512 * n + a.val) b.val)
    (hSg : ∀ (a : Fin 512) (b : Fin 224), arg3.view.read (Elt Ideal) f3 (ix2 a b) = Sg (512 * n + a.val) b.val)
    (hQu : ∀ (a : Fin 512) (b : Fin 3584), arg4.view.read (Elt Ideal) f4 (ix2 a b) = Qu (512 * n + a.val) b.val)
    (hSu : ∀ (a : Fin 512) (b : Fin 224), arg5.view.read (Elt Ideal) f5 (ix2 a b) = Su (512 * n + a.val) b.val)
    (hX : ∀ (a : Fin 48) (b : Fin 14336), scM0.view.read (Elt Ideal) f9 (ix2 a b) = inter x a.val b.val)
    (hf : ∀ (a : Fin 48) (b : Fin 9216), b.val < 1024 * n → scM1.view.read (Elt Ideal) f10 (ix2 a b) = inter (hid x Qg Qu Sg Su) a.val b.val)
    (a : Fin 48) (b : Fin 9216) (hb : b.val < 1024 * (n + 1)) :
    scM1.view.read (Elt Ideal) (runB (F := Ideal) c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 (ix2 a b) = inter (hid x Qg Qu Sg Su) a.val b.val := by
  rw [runB_he]
  have hg := gate_apply c i h2 arg1 harg1 arg2 harg2 arg3 harg3 arg4 harg4 arg5 harg5 arg6 harg6 arg7 harg7 arg8 harg8 f1 f2 f3 f4 f5 f6 f7 f8 f9 f10 f11 f12 f13 f14 f15 f16 x (fun a b => Qg (512 * n + a) b) (fun a b => Sg (512 * n + a) b) hQg hSg hX
  have hu := up_apply c i h2 arg1 harg1 arg2 harg2 arg3 harg3 arg4 harg4 arg5 harg5 arg6 harg6 arg7 harg7 arg8 harg8 f1 f2 f3 f4 f5 f6 f7 f8 f9 f10 f11 f12 f13 f14 f15 f16 x (fun a b => Qu (512 * n + a) b) (fun a b => Su (512 * n + a) b) hQu hSu hX
  refine he_read _ n _ _ _ _ e1 e0 _ _ f10 (fun T r => ?_) (fun T r => ?_) hf a b hb
  · refine (heP1_val _ _ x _ _ _ _ hg hu T r).trans ((hid_shift x Qg Qu Sg Su n T r _ rfl _).trans ?_)
    rw [← Nat.add_assoc]
  · refine (heP0_val _ _ x _ _ _ _ hg hu T r).trans ((hid_shift x Qg Qu Sg Su n T r _ rfl _).trans ?_)
    rw [Nat.zero_add]

theorem C_out (c : Dev nD) (i : grid0.Coords) (h1 : ¬ k0_cond1 i = 1#1) (h2 : ¬ k0_cond2 i = 1#1) (h3 : k0_cond3 i = 1#1) (arg1 : Memref sig .tc .vmem S24x7168 .bf16) (harg1 : arg1.IsWhole) (arg2 : Memref sig .tc .vmem S512x3584 .i8) (harg2 : arg2.IsWhole) (arg3 : Memref sig .tc .vmem S512x224 .i16) (harg3 : arg3.IsWhole) (arg4 : Memref sig .tc .vmem S512x3584 .i8) (harg4 : arg4.IsWhole) (arg5 : Memref sig .tc .vmem S512x224 .i16) (harg5 : arg5.IsWhole) (arg6 : Memref sig .tc .vmem S512x2304 .i8) (harg6 : arg6.IsWhole) (arg7 : Memref sig .tc .vmem S512x144 .i16) (harg7 : arg7.IsWhole) (arg8 : Memref sig .tc .vmem S24x512 .bf16) (harg8 : arg8.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) scM0.view.ty) (f10 : BufTy.Contents (Elt Ideal) scM1.view.ty) (f11 : BufTy.Contents (Elt Ideal) scM2.view.ty) (f12 : BufTy.Contents (Elt Ideal) scM3.view.ty) (f13 : BufTy.Contents (Elt Ideal) scM4.view.ty) (f14 : BufTy.Contents (Elt Ideal) scM5.view.ty) (f15 : BufTy.Contents (Elt Ideal) scM6.view.ty) (f16 : BufTy.Contents (Elt Ideal) scM7.view.ty) (x : ℕ → ℕ → EReal) (Q : ℕ → ℕ → BitVec 8) (S : ℕ → ℕ → BitVec 16) (n : ℕ)
    (hQ : ∀ (a : Fin 512) (b : Fin 2304), arg6.view.read (Elt Ideal) f6 (ix2 a b) = Q (512 * n + a.val) b.val)
    (hS : ∀ (a : Fin 512) (b : Fin 144), arg7.view.read (Elt Ideal) f7 (ix2 a b) = S (512 * n + a.val) b.val)
    (hX : ∀ (a : Fin 48) (b : Fin 9216), scM1.view.read (Elt Ideal) f10 (ix2 a b) = inter x a.val b.val) (y : S24x512.Idx) :
    arg8.view.read (Elt Ideal) (runC (F := Ideal) c i h1 h2 h3 arg1 harg1 arg2 harg2 arg3 harg3 arg4 harg4 arg5 harg5 arg6 harg6 arg7 harg7 arg8 harg8 f1 f2 f3 f4 f5 f6 f7 f8 f9 f10 f11 f12 f13 f14 f15 f16).1 y = proj 2304 x Q S (y 0).val (512 * n + (y 1).val) := by
  rw [runC_eq]
  have hd := down_apply c i h3 arg1 harg1 arg2 harg2 arg3 harg3 arg4 harg4 arg5 harg5 arg6 harg6 arg7 harg7 arg8 harg8 f1 f2 f3 f4 f5 f6 f7 f8 f9 f10 f11 f12 f13 f14 f15 f16 x (fun a b => Q (512 * n + a) b) (fun a b => S (512 * n + a) b) hQ hS hX
  refine View.read_writes_apply_of_pieces arg8.view f8 (fun y : S24x512.Idx => proj 2304 x Q S (y 0).val (512 * n + (y 1).val)) _ ?_ y ?_
  · refine List.forall_mem_cons.mpr ⟨fun y => ?_, fun p hp => absurd hp List.not_mem_nil⟩
    have e := ix2_eta y
    generalize y 0 = y0 at e; generalize y 1 = y1 at e
    subst e
    refine (y_val _ x _ _ hd y0 y1).trans ?_
    show _ = proj 2304 x Q S (0 + 1 * y0.val) (512 * n + (0 + 1 * y1.val))
    rw [zero_add, one_mul, zero_add, one_mul]
    rfl
  · refine ⟨_, List.Mem.head _, (LoadRect.mem_set _).mpr fun a => ?_⟩
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩

end Cert.KernelIdeal.Val
-- ==== Proof.Blk.lean ====
module

public import proofs.«01_k».proof.Proof.Sums
public import Idealize.ShloMosaic.Lib.Pipeline.ValueKit.Geometry
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Cert.Spec
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ### The arrays the region finds, read at two numbers -/

def aX (c : Dev nD) : ℕ → ℕ → EReal := at2 (0 : EReal) (V m c main_v0 : S24x7168.Idx → EReal)
def aQg (c : Dev nD) : ℕ → ℕ → BitVec 8 := at2 (0 : BitVec 8) (V m c main_arg1 : S4608x3584.Idx → BitVec 8)
def aSg (c : Dev nD) : ℕ → ℕ → BitVec 16 := at2 (0 : BitVec 16) (V m c main_arg2 : S4608x224.Idx → BitVec 16)
def aQu (c : Dev nD) : ℕ → ℕ → BitVec 8 := at2 (0 : BitVec 8) (V m c main_arg3 : S4608x3584.Idx → BitVec 8)
def aSu (c : Dev nD) : ℕ → ℕ → BitVec 16 := at2 (0 : BitVec 16) (V m c main_arg4 : S4608x224.Idx → BitVec 16)
def aQd (c : Dev nD) : ℕ → ℕ → BitVec 8 := at2 (0 : BitVec 8) (V m c main_arg5 : S7168x2304.Idx → BitVec 8)
def aSd (c : Dev nD) : ℕ → ℕ → BitVec 16 := at2 (0 : BitVec 16) (V m c main_arg6 : S7168x144.Idx → BitVec 16)

/-- The hidden values. -/
def aH (c : Dev nD) : ℕ → ℕ → EReal := hid (aX m c) (aQg m c) (aQu m c) (aSg m c) (aSu m c)
/-- The result. -/
def aY (c : Dev nD) (t n : ℕ) : EReal := proj 2304 (aH m c) (aQd m c) (aSd m c) t n

/-! ### The grid's points -/

theorem pt_A : ∀ t : Fin cfg0.N, k0_cond1 (grid0.coords t) = 1#1 → t.val = 0 :=
  (by decide +kernel : ∀ t : Fin grid0.N, k0_cond1 (grid0.coords t) = 1#1 → t.val = 0)
theorem pt_A' : ∀ t : Fin cfg0.N, ¬ k0_cond1 (grid0.coords t) = 1#1 → t.val ≠ 0 :=
  (by decide +kernel : ∀ t : Fin grid0.N, ¬ k0_cond1 (grid0.coords t) = 1#1 → t.val ≠ 0)
theorem pt_B : ∀ t : Fin cfg0.N, k0_cond2 (grid0.coords t) = 1#1 → t.val < 9 :=
  (by decide +kernel : ∀ t : Fin grid0.N, k0_cond2 (grid0.coords t) = 1#1 → t.val < 9)
theorem pt_C : ∀ t : Fin cfg0.N, k0_cond3 (grid0.coords t) = 1#1 → 9 ≤ t.val :=
  (by decide +kernel : ∀ t : Fin grid0.N, k0_cond3 (grid0.coords t) = 1#1 → 9 ≤ t.val)
theorem off_lo : ∀ t : Fin cfg0.N, t.val < 9 → k0_off9 (grid0.coords t) 0#32 = ![0, 1024 * t.val] :=
  (by decide +kernel : ∀ t : Fin grid0.N, t.val < 9 → k0_off9 (grid0.coords t) 0#32 = ![0, 1024 * t.val])
theorem off_hi : ∀ t : Fin cfg0.N, t.val < 9 → k0_off9 (grid0.coords t) 512#32 = ![0, 1024 * t.val + 512] :=
  (by decide +kernel : ∀ t : Fin grid0.N, t.val < 9 → k0_off9 (grid0.coords t) 512#32 = ![0, 1024 * t.val + 512])
theorem idle_lo : ∀ t : Fin cfg0.N, t.val < 9 → cfg0.idle 7 (cfg0.grid.coords t) = true :=
  (by decide +kernel : ∀ t : Fin grid0.N, t.val < 9 → idle0 7 (grid0.coords t) = true)
theorem idle_hi : ∀ t : Fin cfg0.N, 9 ≤ t.val → cfg0.idle 7 (cfg0.grid.coords t) = false :=
  (by decide +kernel : ∀ t : Fin grid0.N, 9 ≤ t.val → idle0 7 (grid0.coords t) = false)
theorem flush_lo : ∀ t : Fin cfg0.N, t.val < 9 → (cfg0.win 7).flush t = false :=
  (by decide +kernel : ∀ t : Fin grid0.N, t.val < 9 → win0_7.flush t = false)
theorem flush_hi : ∀ t : Fin cfg0.N, (cfg0.win 7).flush t = true → 9 ≤ t.val :=
  (by decide +kernel : ∀ t : Fin grid0.N, win0_7.flush t = true → 9 ≤ t.val)
theorem fetch_out : ∀ t : Fin cfg0.N, (cfg0.win 7).fetch t = false :=
  (by decide +kernel : ∀ t : Fin grid0.N, win0_7.fetch t = false)
theorem idx0 : ∀ t : Fin cfg0.N, win0_0.index t = ![0, 0] :=
  (by decide +kernel : ∀ t : Fin grid0.N, win0_0.index t = ![0, 0])
theorem idx1 : ∀ t : Fin cfg0.N, t.val < 9 → win0_1.index t = ![t.val, 0] :=
  (by decide +kernel : ∀ t : Fin grid0.N, t.val < 9 → win0_1.index t = ![t.val, 0])
theorem idx2 : ∀ t : Fin cfg0.N, t.val < 9 → win0_2.index t = ![t.val, 0] :=
  (by decide +kernel : ∀ t : Fin grid0.N, t.val < 9 → win0_2.index t = ![t.val, 0])
theorem idx3 : ∀ t : Fin cfg0.N, t.val < 9 → win0_3.index t = ![t.val, 0] :=
  (by decide +kernel : ∀ t : Fin grid0.N, t.val < 9 → win0_3.index t = ![t.val, 0])
theorem idx4 : ∀ t : Fin cfg0.N, t.val < 9 → win0_4.index t = ![t.val, 0] :=
  (by decide +kernel : ∀ t : Fin grid0.N, t.val < 9 → win0_4.index t = ![t.val, 0])
theorem idx5 : ∀ t : Fin cfg0.N, 9 ≤ t.val → win0_5.index t = ![t.val - 9, 0] :=
  (by decide +kernel : ∀ t : Fin grid0.N, 9 ≤ t.val → win0_5.index t = ![t.val - 9, 0])
theorem idx6 : ∀ t : Fin cfg0.N, 9 ≤ t.val → win0_6.index t = ![t.val - 9, 0] :=
  (by decide +kernel : ∀ t : Fin grid0.N, 9 ≤ t.val → win0_6.index t = ![t.val - 9, 0])
theorem idx7 : ∀ t : Fin cfg0.N, win0_7.index t = ![0, t.val - 9] :=
  (by decide +kernel : ∀ t : Fin grid0.N, win0_7.index t = ![0, t.val - 9])

/-! ### The windows' blocks -/

theorem blk0 (c : Dev nD) (t : Fin cfg0.N) (a : Fin 24) (b : Fin 7168) : (iblk m c 0 t : S24x7168.Idx → EReal) (ix2 a b) = aX m c a.val b.val := by
  have e := idx0 t
  unfold aX
  rw [at2_of _ _ _ _ a.isLt b.isLt]
  blk_simp [iblk]
  refine congrArg (V m c main_v0 : S24x7168.Idx → EReal) ?_
  blk_ext [e]

theorem blk1 (c : Dev nD) (t : Fin cfg0.N) (ht : t.val < 9) (a : Fin 512) (b : Fin 3584) : (iblk m c 1 t : S512x3584.Idx → BitVec 8) (ix2 a b) = aQg m c (512 * t.val + a.val) b.val := by
  have e := idx1 t ht
  have hN : t.val < 23 := t.isLt
  unfold aQg
  rw [at2_of _ _ _ _ (by omega : 512 * t.val + a.val < 4608) b.isLt]
  blk_simp [iblk]
  refine congrArg (V m c main_arg1 : S4608x3584.Idx → BitVec 8) ?_
  blk_ext [e]

theorem blk2 (c : Dev nD) (t : Fin cfg0.N) (ht : t.val < 9) (a : Fin 512) (b : Fin 224) : (iblk m c 2 t : S512x224.Idx → BitVec 16) (ix2 a b) = aSg m c (512 * t.val + a.val) b.val := by
  have e := idx2 t ht
  have hN : t.val < 23 := t.isLt
  unfold aSg
  rw [at2_of _ _ _ _ (by omega : 512 * t.val + a.val < 4608) b.isLt]
  blk_simp [iblk]
  refine congrArg (V m c main_arg2 : S4608x224.Idx → BitVec 16) ?_
  blk_ext [e]

theorem blk3 (c : Dev nD) (t : Fin cfg0.N) (ht : t.val < 9) (a : Fin 512) (b : Fin 3584) : (iblk m c 3 t : S512x3584.Idx → BitVec 8) (ix2 a b) = aQu m c (512 * t.val + a.val) b.val := by
  have e := idx3 t ht
  have hN : t.val < 23 := t.isLt
  unfold aQu
  rw [at2_of _ _ _ _ (by omega : 512 * t.val + a.val < 4608) b.isLt]
  blk_simp [iblk]
  refine congrArg (V m c main_arg3 : S4608x3584.Idx → BitVec 8) ?_
  blk_ext [e]

theorem blk4 (c : Dev nD) (t : Fin cfg0.N) (ht : t.val < 9) (a : Fin 512) (b : Fin 224) : (iblk m c 4 t : S512x224.Idx → BitVec 16) (ix2 a b) = aSu m c (512 * t.val + a.val) b.val := by
  have e := idx4 t ht
  have hN : t.val < 23 := t.isLt
  unfold aSu
  rw [at2_of _ _ _ _ (by omega : 512 * t.val + a.val < 4608) b.isLt]
  blk_simp [iblk]
  refine congrArg (V m c main_arg4 : S4608x224.Idx → BitVec 16) ?_
  blk_ext [e]

theorem blk5 (c : Dev nD) (t : Fin cfg0.N) (ht : 9 ≤ t.val) (a : Fin 512) (b : Fin 2304) : (iblk m c 5 t : S512x2304.Idx → BitVec 8) (ix2 a b) = aQd m c (512 * (t.val - 9) + a.val) b.val := by
  have e := idx5 t ht
  have hN : t.val < 23 := t.isLt
  unfold aQd
  rw [at2_of _ _ _ _ (by omega : 512 * (t.val - 9) + a.val < 7168) b.isLt]
  blk_simp [iblk]
  refine congrArg (V m c main_arg5 : S7168x2304.Idx → BitVec 8) ?_
  blk_ext [e]

theorem blk6 (c : Dev nD) (t : Fin cfg0.N) (ht : 9 ≤ t.val) (a : Fin 512) (b : Fin 144) : (iblk m c 6 t : S512x144.Idx → BitVec 16) (ix2 a b) = aSd m c (512 * (t.val - 9) + a.val) b.val := by
  have e := idx6 t ht
  have hN : t.val < 23 := t.isLt
  unfold aSd
  rw [at2_of _ _ _ _ (by omega : 512 * (t.val - 9) + a.val < 7168) b.isLt]
  blk_simp [iblk]
  refine congrArg (V m c main_arg6 : S7168x144.Idx → BitVec 16) ?_
  blk_ext [e]

end Cert.KernelIdeal.Val
-- ==== Proof.Track.lean ====
module

public import proofs.«01_k».proof.Proof.Vals
public import proofs.«01_k».proof.Proof.Blk
public import Idealize.ShloMosaic.Lib.Pipeline.ValueKit.Geometry
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Cert.Spec
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem owns_pts (c : Dev nD) {sh : Shape} {e : EltTy} (a : Memref sig .tc .vmem sh e) (X : sh.Idx → Elt Ideal e) :
    (owns (c : Thread nD τ) a fullShare X : sProp 𝕄) = iprop(∃ f, ⌜a.view.read (Elt Ideal) f = X⌝ ∗ pts c a f) := rfl

/-- What the output's buffer holds after a down step. -/
def outBlk (c : Dev nD) (t : Fin cfg0.N) : S24x512.Idx → EReal := fun y => aY m c (y 0).val (512 * (t.val - 9) + (y 1).val)

/-- The scratch between two steps: the tokens from the first step on, the hidden values of the steps made. -/
def tPhi (c : Dev nD) (n : ℕ) : sProp 𝕄 :=
  iprop(((∃ f, ⌜n ≠ 0 → ∀ (a : Fin 48) (b : Fin 14336), scM0.view.read (Elt Ideal) f (ix2 a b) = inter (aX m c) a.val b.val⌝ ∗ pts c scM0 f)
    ∗ (∃ f, ⌜∀ (a : Fin 48) (b : Fin 9216), b.val < 1024 * n → scM1.view.read (Elt Ideal) f (ix2 a b) = inter (aH m c) a.val b.val⌝ ∗ pts c scM1 f)
    ∗ (∃ f, pts c scM2 f) ∗ (∃ f, pts c scM3 f) ∗ (∃ f, pts c scM4 f) ∗ (∃ f, pts c scM5 f) ∗ (∃ f, pts c scM6 f) ∗ (∃ f, pts c scM7 f))
    ∗ (∃ r, prngReg c r))

/-- The proof data with the output followed. -/
def tdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := tPhi m c t.val
  q _ := fullShare
  owed _ := 0

theorem tA_eq (c : Dev nD) (w : Fin cfg0.W) : (tdats m 0 c).A w = V m c (Pipeline.arrRef spec0 w) := by
  dsimp only [tdats]
theorem tafter_0 (c : Dev nD) (t : Fin cfg0.N) : (tdats m 0 c).after 0 t = iblk m c 0 t := by dsimp only [tdats]
theorem tbefore_0 (c : Dev nD) (t : Fin cfg0.N) (d) : (tdats m 0 c).before 0 t d = iblk m c 0 t :=
  before0_0_of m (tdats m 0 c) (tA_eq m c 0) (tafter_0 m c) t d
theorem tafter_1 (c : Dev nD) (t : Fin cfg0.N) : (tdats m 0 c).after 1 t = iblk m c 1 t := by dsimp only [tdats]
theorem tbefore_1 (c : Dev nD) (t : Fin cfg0.N) (d) : (tdats m 0 c).before 1 t d = iblk m c 1 t :=
  before0_1_of m (tdats m 0 c) (tA_eq m c 1) (tafter_1 m c) t d
theorem tafter_2 (c : Dev nD) (t : Fin cfg0.N) : (tdats m 0 c).after 2 t = iblk m c 2 t := by dsimp only [tdats]
theorem tbefore_2 (c : Dev nD) (t : Fin cfg0.N) (d) : (tdats m 0 c).before 2 t d = iblk m c 2 t :=
  before0_2_of m (tdats m 0 c) (tA_eq m c 2) (tafter_2 m c) t d
theorem tafter_3 (c : Dev nD) (t : Fin cfg0.N) : (tdats m 0 c).after 3 t = iblk m c 3 t := by dsimp only [tdats]
theorem tbefore_3 (c : Dev nD) (t : Fin cfg0.N) (d) : (tdats m 0 c).before 3 t d = iblk m c 3 t :=
  before0_3_of m (tdats m 0 c) (tA_eq m c 3) (tafter_3 m c) t d
theorem tafter_4 (c : Dev nD) (t : Fin cfg0.N) : (tdats m 0 c).after 4 t = iblk m c 4 t := by dsimp only [tdats]
theorem tbefore_4 (c : Dev nD) (t : Fin cfg0.N) (d) : (tdats m 0 c).before 4 t d = iblk m c 4 t :=
  before0_4_of m (tdats m 0 c) (tA_eq m c 4) (tafter_4 m c) t d
theorem tafter_5 (c : Dev nD) (t : Fin cfg0.N) : (tdats m 0 c).after 5 t = iblk m c 5 t := by dsimp only [tdats]
theorem tbefore_5 (c : Dev nD) (t : Fin cfg0.N) (d) : (tdats m 0 c).before 5 t d = iblk m c 5 t :=
  before0_5_of m (tdats m 0 c) (tA_eq m c 5) (tafter_5 m c) t d
theorem tafter_6 (c : Dev nD) (t : Fin cfg0.N) : (tdats m 0 c).after 6 t = iblk m c 6 t := by dsimp only [tdats]
theorem tbefore_6 (c : Dev nD) (t : Fin cfg0.N) (d) : (tdats m 0 c).before 6 t d = iblk m c 6 t :=
  before0_6_of m (tdats m 0 c) (tA_eq m c 6) (tafter_6 m c) t d
theorem tafter_7 (c : Dev nD) (t : Fin cfg0.N) : (tdats m 0 c).after 7 t = outBlk m c t := by dsimp only [tdats]

/-- Before the first down step the output's buffer holds whatever it held. -/
theorem tbefore_7 (c : Dev nD) : ∀ (n : ℕ) (hn : n < cfg0.N), n < 9 → ∀ d, (tdats m 0 c).before 7 ⟨n, hn⟩ d = d := by
  intro n
  induction n with
  | zero =>
    intro hn h d
    unfold Dat.before
    rw [if_neg (by rw [fetch_out]; exact Bool.false_ne_true), if_pos rfl]
  | succ k ih =>
    intro hn h d
    unfold Dat.before
    rw [if_neg (by rw [fetch_out]; exact Bool.false_ne_true), if_neg (Nat.succ_ne_zero k)]
    dsimp only
    have hk : (⟨k + 1 - 1, Nat.lt_of_le_of_lt (Nat.sub_le _ _) hn⟩ : Fin cfg0.N) = ⟨k, Nat.lt_of_succ_lt hn⟩ := Fin.ext rfl
    rw [hk, if_neg (by rw [flush_lo _ (Nat.lt_of_succ_lt h)]; exact Bool.false_ne_true)]
    have hi : idle0 7 (grid0.coords ⟨k, Nat.lt_of_succ_lt hn⟩) = true := idle_lo ⟨k, Nat.lt_of_succ_lt hn⟩ (Nat.lt_of_succ_lt h)
    rw [hi]
    dsimp only
    rw [Dat.found_eq_before]
    exact ih _ (Nat.lt_of_succ_lt h) d

def tPre (c : Dev nD) (t : Fin cfg0.N) : sProp 𝕄 :=
  iprop((tdats m 0 c).Φ t.castSucc ∗ (tdats m 0 c).owesAt () t.castSucc
    ∗ (∃ d, owns (c : Thread nD τ) (st0_0 t) fullShare ((tdats m 0 c).before 0 t d)) ∗ (∃ d, owns (c : Thread nD τ) (st0_1 t) fullShare ((tdats m 0 c).before 1 t d)) ∗ (∃ d, owns (c : Thread nD τ) (st0_2 t) fullShare ((tdats m 0 c).before 2 t d)) ∗ (∃ d, owns (c : Thread nD τ) (st0_3 t) fullShare ((tdats m 0 c).before 3 t d)) ∗ (∃ d, owns (c : Thread nD τ) (st0_4 t) fullShare ((tdats m 0 c).before 4 t d)) ∗ (∃ d, owns (c : Thread nD τ) (st0_5 t) fullShare ((tdats m 0 c).before 5 t d)) ∗ (∃ d, owns (c : Thread nD τ) (st0_6 t) fullShare ((tdats m 0 c).before 6 t d)) ∗ (∃ d, owns (c : Thread nD τ) (st0_7 t) fullShare ((tdats m 0 c).before 7 t d)))
def tPost (c : Dev nD) (t : Fin cfg0.N) : sProp 𝕄 :=
  iprop((tdats m 0 c).Φ t.succ ∗ (tdats m 0 c).owesAt () t.succ
    ∗ owns (c : Thread nD τ) (st0_0 t) fullShare ((tdats m 0 c).after 0 t) ∗ owns (c : Thread nD τ) (st0_1 t) fullShare ((tdats m 0 c).after 1 t) ∗ owns (c : Thread nD τ) (st0_2 t) fullShare ((tdats m 0 c).after 2 t) ∗ owns (c : Thread nD τ) (st0_3 t) fullShare ((tdats m 0 c).after 3 t) ∗ owns (c : Thread nD τ) (st0_4 t) fullShare ((tdats m 0 c).after 4 t) ∗ owns (c : Thread nD τ) (st0_5 t) fullShare ((tdats m 0 c).after 5 t) ∗ owns (c : Thread nD τ) (st0_6 t) fullShare ((tdats m 0 c).after 6 t) ∗ (tdats m 0 c).leavesExact 7 t)

set_option maxHeartbeats 4000000 in
theorem sound_A (c : Dev nD) (t : Fin cfg0.N) (h1 : k0_cond1 (grid0.coords t) = 1#1) (h2 : k0_cond2 (grid0.coords t) = 1#1) (h3 : ¬ k0_cond3 (grid0.coords t) = 1#1) :
    tPre m c t ⊢ wp frame (wpE (defs₀ (F := Ideal)) Variants.none c none) Set.univ (bodyAt0 t) (fun _ => tPost m c t) := by
  have ht := pt_B t h2
  unfold tPre tPost bodyAt0
  rw [(tdats m 0 c).leavesExact_idle 7 t (idle_lo t ht) (flush_lo t ht)]
  rw [show (tdats m 0 c).Φ t.castSucc = tPhi m c t.val from rfl, show (tdats m 0 c).Φ t.succ = tPhi m c (t.val + 1) from rfl]
  rw [tafter_0, tafter_1, tafter_2, tafter_3, tafter_4, tafter_5, tafter_6]
  simp only [tbefore_0, tbefore_1, tbefore_2, tbefore_3, tbefore_4, tbefore_5, tbefore_6]
  unfold Dat.owesAt Pipeline.owesWithin
  rw [show (tdats m 0 c).owed t.castSucc = 0 from rfl, show (tdats m 0 c).owed t.succ = 0 from rfl]
  unfold tPhi
  simp only [owns_pts]
  iintro ⟨⟨⟨⟨%f9, %e9, H9⟩, ⟨%f10, %e10, H10⟩, ⟨%f11, H11⟩, ⟨%f12, H12⟩, ⟨%f13, H13⟩, ⟨%f14, H14⟩, ⟨%f15, H15⟩, ⟨%f16, H16⟩⟩, Hg⟩, ⟨%W, -, HW⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply ((runA (F := Ideal) c (grid0.coords t) h1 h2 h3 _ _ _ _ _ _ _ _ _ _ _ _ _ _ _ _ f1 f2 f3 f4 f5 f6 f7 f8 f9 f10 f11 f12 f13 f14 f15 f16).2.2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HW]; · iexact HW
  iintro ⟨H1, H2, H3, H4, H5, H6, H7, ⟨%g8, H8⟩, H9, H10, H11, H12, H13, H14, H15, H16, ⟨%W', HW'⟩⟩
  have hx := A_xe c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f1 f2 f3 f4 f5 f6 f7 f8 f9 f10 f11 f12 f13 f14 f15 f16 (aX m c) (fun a b => (congrFun e1 (ix2 a b)).trans (blk0 m c t a b))
  have hh := A_he c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f1 f2 f3 f4 f5 f6 f7 f8 f9 f10 f11 f12 f13 f14 f15 f16 (aX m c) (aQg m c) (aQu m c) (aSg m c) (aSu m c) t.val (off_hi t ht) (off_lo t ht)
    (fun a b => (congrFun e2 (ix2 a b)).trans (blk1 m c t ht a b))
    (fun a b => (congrFun e3 (ix2 a b)).trans (blk2 m c t ht a b))
    (fun a b => (congrFun e4 (ix2 a b)).trans (blk3 m c t ht a b))
    (fun a b => (congrFun e5 (ix2 a b)).trans (blk4 m c t ht a b))
    (fun a b => (congrFun e1 (ix2 a b)).trans (blk0 m c t a b)) e10
  isplitl [H9 H10 H11 H12 H13 H14 H15 H16 Hg]
  · isplitl [H9 H10 H11 H12 H13 H14 H15 H16]
    · isplitl [H9]
      · iexists _; isplitr; swap; · iexact H9
        ipureintro; exact fun _ => hx
      isplitl [H10]
      · iexists _; isplitr; swap; · iexact H10
        ipureintro; exact hh
      isplitl [H11]; · iexact H11
      isplitl [H12]; · iexact H12
      isplitl [H13]; · iexact H13
      isplitl [H14]; · iexact H14
      isplitl [H15]; · iexact H15
      iexact H16
    iexact Hg
  isplitl [HW']
  · iexists W'; isplitr; · ipureintro; exact fun _ _ => Or.inl trivial
    iexact HW'
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _, _; isplitr; swap; · iexact H8
  ipureintro; exact (tbefore_7 m c t.val t.isLt ht _).symm

set_option maxHeartbeats 4000000 in
theorem sound_B (c : Dev nD) (t : Fin cfg0.N) (h1 : ¬ k0_cond1 (grid0.coords t) = 1#1) (h2 : k0_cond2 (grid0.coords t) = 1#1) (h3 : ¬ k0_cond3 (grid0.coords t) = 1#1) :
    tPre m c t ⊢ wp frame (wpE (defs₀ (F := Ideal)) Variants.none c none) Set.univ (bodyAt0 t) (fun _ => tPost m c t) := by
  have ht := pt_B t h2
  unfold tPre tPost bodyAt0
  rw [(tdats m 0 c).leavesExact_idle 7 t (idle_lo t ht) (flush_lo t ht)]
  rw [show (tdats m 0 c).Φ t.castSucc = tPhi m c t.val from rfl, show (tdats m 0 c).Φ t.succ = tPhi m c (t.val + 1) from rfl]
  rw [tafter_0, tafter_1, tafter_2, tafter_3, tafter_4, tafter_5, tafter_6]
  simp only [tbefore_0, tbefore_1, tbefore_2, tbefore_3, tbefore_4, tbefore_5, tbefore_6]
  unfold Dat.owesAt Pipeline.owesWithin
  rw [show (tdats m 0 c).owed t.castSucc = 0 from rfl, show (tdats m 0 c).owed t.succ = 0 from rfl]
  unfold tPhi
  simp only [owns_pts]
  iintro ⟨⟨⟨⟨%f9, %e9, H9⟩, ⟨%f10, %e10, H10⟩, ⟨%f11, H11⟩, ⟨%f12, H12⟩, ⟨%f13, H13⟩, ⟨%f14, H14⟩, ⟨%f15, H15⟩, ⟨%f16, H16⟩⟩, Hg⟩, ⟨%W, -, HW⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply ((runB (F := Ideal) c (grid0.coords t) h1 h2 h3 _ _ _ _ _ _ _ _ _ _ _ _ _ _ _ _ f1 f2 f3 f4 f5 f6 f7 f8 f9 f10 f11 f12 f13 f14 f15 f16).2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HW]; · iexact HW
  iintro ⟨H1, H2, H3, H4, H5, H6, H7, ⟨%g8, H8⟩, H9, H10, H11, H12, H13, H14, H15, H16, ⟨%W', HW'⟩⟩
  have hx := e9 (pt_A' t h1)
  have hh := B_he c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f1 f2 f3 f4 f5 f6 f7 f8 f9 f10 f11 f12 f13 f14 f15 f16 (aX m c) (aQg m c) (aQu m c) (aSg m c) (aSu m c) t.val (off_hi t ht) (off_lo t ht)
    (fun a b => (congrFun e2 (ix2 a b)).trans (blk1 m c t ht a b))
    (fun a b => (congrFun e3 (ix2 a b)).trans (blk2 m c t ht a b))
    (fun a b => (congrFun e4 (ix2 a b)).trans (blk3 m c t ht a b))
    (fun a b => (congrFun e5 (ix2 a b)).trans (blk4 m c t ht a b))
    hx e10
  isplitl [H9 H10 H11 H12 H13 H14 H15 H16 Hg]
  · isplitl [H9 H10 H11 H12 H13 H14 H15 H16]
    · isplitl [H9]
      · iexists _; isplitr; swap; · iexact H9
        ipureintro; exact fun _ => hx
      isplitl [H10]
      · iexists _; isplitr; swap; · iexact H10
        ipureintro; exact hh
      isplitl [H11]; · iexact H11
      isplitl [H12]; · iexact H12
      isplitl [H13]; · iexact H13
      isplitl [H14]; · iexact H14
      isplitl [H15]; · iexact H15
      iexact H16
    iexact Hg
  isplitl [HW']
  · iexists W'; isplitr; · ipureintro; exact fun _ _ => Or.inl trivial
    iexact HW'
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _, _; isplitr; swap; · iexact H8
  ipureintro; exact (tbefore_7 m c t.val t.isLt ht _).symm

set_option maxHeartbeats 4000000 in
theorem sound_C (c : Dev nD) (t : Fin cfg0.N) (h1 : ¬ k0_cond1 (grid0.coords t) = 1#1) (h2 : ¬ k0_cond2 (grid0.coords t) = 1#1) (h3 : k0_cond3 (grid0.coords t) = 1#1) :
    tPre m c t ⊢ wp frame (wpE (defs₀ (F := Ideal)) Variants.none c none) Set.univ (bodyAt0 t) (fun _ => tPost m c t) := by
  have ht := pt_C t h3
  unfold tPre tPost bodyAt0
  rw [show (tdats m 0 c).leavesExact 7 t = owns (c : Thread nD τ) (st0_7 t) fullShare ((tdats m 0 c).after 7 t) from by unfold Dat.leavesExact; rw [idle_hi t ht]]
  rw [show (tdats m 0 c).Φ t.castSucc = tPhi m c t.val from rfl, show (tdats m 0 c).Φ t.succ = tPhi m c (t.val + 1) from rfl]
  rw [tafter_0, tafter_1, tafter_2, tafter_3, tafter_4, tafter_5, tafter_6, tafter_7]
  simp only [tbefore_0, tbefore_1, tbefore_2, tbefore_3, tbefore_4, tbefore_5, tbefore_6]
  unfold Dat.owesAt Pipeline.owesWithin
  rw [show (tdats m 0 c).owed t.castSucc = 0 from rfl, show (tdats m 0 c).owed t.succ = 0 from rfl]
  unfold tPhi
  simp only [owns_pts]
  iintro ⟨⟨⟨⟨%f9, %e9, H9⟩, ⟨%f10, %e10, H10⟩, ⟨%f11, H11⟩, ⟨%f12, H12⟩, ⟨%f13, H13⟩, ⟨%f14, H14⟩, ⟨%f15, H15⟩, ⟨%f16, H16⟩⟩, Hg⟩, ⟨%W, -, HW⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply ((runC (F := Ideal) c (grid0.coords t) h1 h2 h3 _ _ _ _ _ _ _ _ _ _ _ _ _ _ _ _ f1 f2 f3 f4 f5 f6 f7 f8 f9 f10 f11 f12 f13 f14 f15 f16).2 W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HW]; · iexact HW
  iintro ⟨H1, H2, H3, H4, H5, H6, H7, H8, H9, H10, H11, H12, H13, H14, H15, H16, ⟨%W', HW'⟩⟩
  have hx := e9 (pt_A' t h1)
  have hh : ∀ (a : Fin 48) (b : Fin 9216), scM1.view.read (Elt Ideal) f10 (ix2 a b) = inter (aH m c) a.val b.val := fun a b => e10 a b (by have := b.isLt; omega)
  have ho := C_out c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f1 f2 f3 f4 f5 f6 f7 f8 f9 f10 f11 f12 f13 f14 f15 f16 (aH m c) (aQd m c) (aSd m c) (t.val - 9)
    (fun a b => (congrFun e6 (ix2 a b)).trans (blk5 m c t ht a b))
    (fun a b => (congrFun e7 (ix2 a b)).trans (blk6 m c t ht a b)) hh
  isplitl [H9 H10 H11 H12 H13 H14 H15 H16 Hg]
  · isplitl [H9 H10 H11 H12 H13 H14 H15 H16]
    · isplitl [H9]
      · iexists _; isplitr; swap; · iexact H9
        ipureintro; exact fun _ => hx
      isplitl [H10]
      · iexists _; isplitr; swap; · iexact H10
        ipureintro; exact fun a b _ => hh a b
      isplitl [H11]; · iexact H11
      isplitl [H12]; · iexact H12
      isplitl [H13]; · iexact H13
      isplitl [H14]; · iexact H14
      isplitl [H15]; · iexact H15
      iexact H16
    iexact Hg
  isplitl [HW']
  · iexists W'; isplitr; · ipureintro; exact fun _ _ => Or.inl trivial
    iexact HW'
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _; isplitr; swap; · iexact H8
  ipureintro; exact funext ho

theorem sound_t (c : Dev nD) (t : Fin cfg0.N) :
    tPre m c t ⊢ wp frame (wpE (defs₀ (F := Ideal)) Variants.none c none) Set.univ (bodyAt0 t) (fun _ => tPost m c t) := by
  rcases conds t with ⟨h1, h2, h3⟩ | ⟨h1, h2, h3⟩ | ⟨h1, h2, h3⟩
  · exact sound_A m c t h1 h2 h3
  · exact sound_B m c t h1 h2 h3
  · exact sound_C m c t h1 h2 h3

theorem t_obligation (c : Dev nD) : BodyObligation (tdats m 0 c) (defs₀ (F := Ideal)) Variants.none () Set.univ := fun t => by
  rw [bigSep_W0, bigSep_W0, defs₀_row]
  exact triple_restated (sound_t m c t) rfl .rfl fun _ => .rfl

theorem t_in (c : Dev nD) : Pipeline.ΦA spec0 c ⊢ (tdats m 0 c).Φ 0 := by
  rw [show (tdats m 0 c).Φ 0 = tPhi m c 0 from rfl, PhiA0_eq]
  unfold tPhi
  simp only [owns_pts]
  iintro ⟨⟨⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hg⟩
  isplitr [Hg]; swap; · iexact Hg
  isplitl [H9]
  · iexists f9; isplitr; swap; · iexact H9
    ipureintro; exact fun h => absurd rfl h
  isplitl [H10]
  · iexists f10; isplitr; swap; · iexact H10
    ipureintro; exact fun a b h => absurd h (Nat.not_lt_zero _)
  isplitl [H11]; · iexists f11; iexact H11
  isplitl [H12]; · iexists f12; iexact H12
  isplitl [H13]; · iexists f13; iexact H13
  isplitl [H14]; · iexists f14; iexact H14
  isplitl [H15]; · iexists f15; iexact H15
  iexists f16; iexact H16

theorem t_out (c : Dev nD) : (tdats m 0 c).Φ (Fin.last cfg0.N) ⊢ Pipeline.ΦA spec0 c := by
  rw [show (tdats m 0 c).Φ (Fin.last cfg0.N) = tPhi m c cfg0.N from rfl, PhiA0_eq]
  unfold tPhi
  simp only [owns_pts]
  iintro ⟨⟨⟨%f9, -, H9⟩, ⟨%f10, -, H10⟩, ⟨%f11, H11⟩, ⟨%f12, H12⟩, ⟨%f13, H13⟩, ⟨%f14, H14⟩, ⟨%f15, H15⟩, ⟨%f16, H16⟩⟩, Hg⟩
  isplitr [Hg]; swap; · iexact Hg
  isplitl [H9]
  · iexists _, f9; isplitr; swap; · iexact H9
    ipureintro; rfl
  isplitl [H10]
  · iexists _, f10; isplitr; swap; · iexact H10
    ipureintro; rfl
  isplitl [H11]
  · iexists _, f11; isplitr; swap; · iexact H11
    ipureintro; rfl
  isplitl [H12]
  · iexists _, f12; isplitr; swap; · iexact H12
    ipureintro; rfl
  isplitl [H13]
  · iexists _, f13; isplitr; swap; · iexact H13
    ipureintro; rfl
  isplitl [H14]
  · iexists _, f14; isplitr; swap; · iexact H14
    ipureintro; rfl
  isplitl [H15]
  · iexists _, f15; isplitr; swap; · iexact H15
    ipureintro; rfl
  iexists _, f16; isplitr; swap; · iexact H16
  ipureintro; rfl

set_option backward.isDefEq.respectTransparency.types false in
theorem t_run : θ_run defs (onTc (τ := τ) (main (F := Ideal))) (s₀ m ρ)
    (Pipeline.FramePost cfgs (tdats m) 0 (Pipeline.afterTail₀ cfgs (tdats m) 0 (V0 m) [hostOps1])) :=
  Pipeline.θ_run_frame_around_track cfgs (tdats m) (0 : Fin 1) launch0 defs₀ Variants.none m ρ main
    (hbody := fun c => (t_obligation m c).loose) (hshare := fun c => (tdats m 0 c).share_full fun _ => rfl)
    (howed := fun _ _ => rfl) (V₀ := V0 m) (opss := [hostOps1]) (hsub := sfx_sub) (hfresh := sfx_fresh) (hkeep := sfx_keeps)
    (hmain := hmain m Variants.none) (hA := tA_eq m) (hin := t_in m) (hout := t_out m)

/-- The output array after the run. -/
theorem t_arr (c : Dev nD) : (tdats m 0 c).arrAt 7 cfg0.N = (fun y : S24x7168.Idx => aY m c (y 0).val (y 1).val : S24x7168.Idx → EReal) := by
  refine (tdats m 0 c).arrAt_eq_of_covers 7 _ (by decide +kernel) fun t hf y => ?_
  have ht := flush_hi t hf
  have e := idx7 t
  blk_simp [e]
  rw [tafter_7]
  unfold outBlk
  rw [Nat.mul_comm 512]

/-- The result of the kernel. -/
def kerR (c : Dev nD) : S24x1x7168.Idx → EReal := fun i => aY m c (i 0).val (i 2).val

theorem t_res (c : Dev nD) : Pipeline.afterTail₀ cfgs (tdats m) 0 (V0 m) [hostOps1] c main_v2 = kerR m c := by
  unfold Pipeline.afterTail₀
  simp only [List.flatten_cons, List.flatten_nil, List.append_nil, StableHlo.after_cons, StableHlo.after_nil]
  rw [StableHlo.reshape_result]
  have e : Pipeline.withArrays (cfgs 0).spec c (V0 m c) (fun w => (tdats m 0 c).arrAt w (cfgs 0).N) (Proc.devRef .tc main_v1) = (tdats m 0 c).arrAt 7 cfg0.N :=
    Pipeline.withArrays_arr spec0 (by decide) c (V0 m c) _ 7
  rw [e, t_arr]
  funext i
  obtain ⟨t, z, n, rfl⟩ : ∃ (t : Fin 24) (z : Fin 1) (n : Fin 7168), i = ix3 t z n := ⟨_, _, _, eq_ix3 i⟩
  obtain rfl : z = 0 := Subsingleton.elim _ _
  unfold kerR
  pointwise []

theorem tok_cast (X : S24x1x7168.Idx → EReal) (t : Fin 24) (k : Fin 7168) :
    shapeCast S24x7168 X shapeCasts_S24x1x7168_S24x7168 (ix2 t k) = X (ix3 t 0 k) := by
  pointwise []

theorem v0_eq (c : Dev nD) : (V m c main_v0 : S24x7168.Idx → EReal) = shapeCast S24x7168 (m ((c : Thread nD τ).loc main_arg0) : S24x1x7168.Idx → EReal) shapeCasts_S24x1x7168_S24x7168 := by
  change StableHlo.after (hostOps0 (F := Ideal)) (fun b => m (c, b)) (Proc.devRef .tc main_v0) = _
  rw [StableHlo.after_cons, StableHlo.after_nil, StableHlo.reshape_result]
  rfl

theorem aX_eq (c : Dev nD) (t k : ℕ) : aX m c t k = atx (0 : EReal) (m ((c : Thread nD τ).loc main_arg0) : S24x1x7168.Idx → EReal) t k := by
  unfold aX at2 atx
  rw [v0_eq]
  by_cases h : t < 24 ∧ k < 7168
  · rw [dif_pos h, dif_pos h]
    exact tok_cast _ _ _
  · rw [dif_neg h, dif_neg h]

theorem t_end : θ_run defs (onTc (τ := τ) (main (F := Ideal))) (s₀ m ρ) (fun r => ∀ c : Dev nD,
    r.2.mem ((c.tc : Thread nD τ).loc main_v2) = kerR m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨((h c).2 main_v2 (Pipeline.mem_restRefs_of main_v2 (by decide) (by decide))).trans (t_res m c),
    ((h c).2 main_arg0 (Pipeline.mem_restRefs_of main_arg0 (by decide) (by decide))).trans (W_main_arg0 m (tdats m) c),
    ((h c).1 1).trans (((tdats m 0 c).arrAt_in 1 rfl _).trans ((tA_eq m c 1).trans (V_main_arg1 m c))),
    ((h c).1 2).trans (((tdats m 0 c).arrAt_in 2 rfl _).trans ((tA_eq m c 2).trans (V_main_arg2 m c))),
    ((h c).1 3).trans (((tdats m 0 c).arrAt_in 3 rfl _).trans ((tA_eq m c 3).trans (V_main_arg3 m c))),
    ((h c).1 4).trans (((tdats m 0 c).arrAt_in 4 rfl _).trans ((tA_eq m c 4).trans (V_main_arg4 m c))),
    ((h c).1 5).trans (((tdats m 0 c).arrAt_in 5 rfl _).trans ((tA_eq m c 5).trans (V_main_arg5 m c))),
    ((h c).1 6).trans (((tdats m 0 c).arrAt_in 6 rfl _).trans ((tA_eq m c 6).trans (V_main_arg6 m c)))⟩) (t_run m ρ)

/-- The kernel's result, read off its arguments. -/
theorem kerR_apply (c : Dev nD) (t : Fin 24) (n : Fin 7168) :
    kerR m c (ix3 t 0 n) = mlp (atx (0 : EReal) (m ((c : Thread nD τ).loc main_arg0) : S24x1x7168.Idx → EReal)) (at2 0 (m ((c : Thread nD τ).loc main_arg1) : S4608x3584.Idx → BitVec 8)) (at2 0 (m ((c : Thread nD τ).loc main_arg2) : S4608x224.Idx → BitVec 16)) (at2 0 (m ((c : Thread nD τ).loc main_arg3) : S4608x3584.Idx → BitVec 8)) (at2 0 (m ((c : Thread nD τ).loc main_arg4) : S4608x224.Idx → BitVec 16)) (at2 0 (m ((c : Thread nD τ).loc main_arg5) : S7168x2304.Idx → BitVec 8)) (at2 0 (m ((c : Thread nD τ).loc main_arg6) : S7168x144.Idx → BitVec 16)) t n := by
  have e : aX m c = atx (0 : EReal) (m ((c : Thread nD τ).loc main_arg0) : S24x1x7168.Idx → EReal) := funext fun t => funext fun k => aX_eq m c t k
  unfold kerR aY aH
  rw [e]
  unfold aQg aSg aQu aSu aQd aSd mlp
  rw [V_main_arg1, V_main_arg2, V_main_arg3, V_main_arg4, V_main_arg5, V_main_arg6]
  rfl

end Cert.KernelIdeal.Val
-- ==== Proof.RefVal.lean ====
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.ShloMosaic.StableHlo Cert.Spec

abbrev A0 (V0 : Valuation τ sig (Elt Ideal)) : S24x1x7168.Idx → EReal := V0 (Proc.devRef .tc main_arg0)
abbrev A1 (V0 : Valuation τ sig (Elt Ideal)) : S4608x3584.Idx → BitVec 8 := V0 (Proc.devRef .tc main_arg1)
abbrev A2 (V0 : Valuation τ sig (Elt Ideal)) : S4608x224.Idx → BitVec 16 := V0 (Proc.devRef .tc main_arg2)
abbrev A3 (V0 : Valuation τ sig (Elt Ideal)) : S4608x3584.Idx → BitVec 8 := V0 (Proc.devRef .tc main_arg3)
abbrev A4 (V0 : Valuation τ sig (Elt Ideal)) : S4608x224.Idx → BitVec 16 := V0 (Proc.devRef .tc main_arg4)
abbrev A5 (V0 : Valuation τ sig (Elt Ideal)) : S7168x2304.Idx → BitVec 8 := V0 (Proc.devRef .tc main_arg5)
abbrev A6 (V0 : Valuation τ sig (Elt Ideal)) : S7168x144.Idx → BitVec 16 := V0 (Proc.devRef .tc main_arg6)

theorem v32_apply (V0 : Valuation τ sig (Elt Ideal)) (n : Fin 4608) (g : Fin 224) :
    (res_main_v32 V0 : S4608x224.Idx → EReal) (ix2 n g) = refMag (A2 V0 (ix2 n g)) := by
  pointwise [res_main_v32, res_main_v16, res_main_v18, res_main_v12]
  rfl
theorem v12_apply (V0 : Valuation τ sig (Elt Ideal)) (n : Fin 4608) (g : Fin 224) :
    (res_main_v12 V0 : S4608x224.Idx → BitVec 32) (ix2 n g) = BitVec.signExtend 32 (A2 V0 (ix2 n g)) := by
  pointwise [res_main_v12]

theorem v69_apply (V0 : Valuation τ sig (Elt Ideal)) (n : Fin 4608) (g : Fin 224) :
    (res_main_v69 V0 : S4608x224.Idx → EReal) (ix2 n g) = refMag (A2 V0 (ix2 n g)) := by
  pointwise [res_main_v69, res_main_v53, res_main_v55, res_main_v49]
  rfl
theorem v49_apply (V0 : Valuation τ sig (Elt Ideal)) (n : Fin 4608) (g : Fin 224) :
    (res_main_v49 V0 : S4608x224.Idx → BitVec 32) (ix2 n g) = BitVec.signExtend 32 (A2 V0 (ix2 n g)) := by
  pointwise [res_main_v49]

theorem v109_apply (V0 : Valuation τ sig (Elt Ideal)) (n : Fin 4608) (g : Fin 224) :
    (res_main_v109 V0 : S4608x224.Idx → EReal) (ix2 n g) = refMag (A4 V0 (ix2 n g)) := by
  pointwise [res_main_v109, res_main_v93, res_main_v95, res_main_v89]
  rfl
theorem v89_apply (V0 : Valuation τ sig (Elt Ideal)) (n : Fin 4608) (g : Fin 224) :
    (res_main_v89 V0 : S4608x224.Idx → BitVec 32) (ix2 n g) = BitVec.signExtend 32 (A4 V0 (ix2 n g)) := by
  pointwise [res_main_v89]

theorem v146_apply (V0 : Valuation τ sig (Elt Ideal)) (n : Fin 4608) (g : Fin 224) :
    (res_main_v146 V0 : S4608x224.Idx → EReal) (ix2 n g) = refMag (A4 V0 (ix2 n g)) := by
  pointwise [res_main_v146, res_main_v130, res_main_v132, res_main_v126]
  rfl
theorem v126_apply (V0 : Valuation τ sig (Elt Ideal)) (n : Fin 4608) (g : Fin 224) :
    (res_main_v126 V0 : S4608x224.Idx → BitVec 32) (ix2 n g) = BitVec.signExtend 32 (A4 V0 (ix2 n g)) := by
  pointwise [res_main_v126]

theorem v194_apply (V0 : Valuation τ sig (Elt Ideal)) (n : Fin 7168) (g : Fin 144) :
    (res_main_v194 V0 : S7168x144.Idx → EReal) (ix2 n g) = refMag (A6 V0 (ix2 n g)) := by
  pointwise [res_main_v194, res_main_v178, res_main_v180, res_main_v174]
  rfl
theorem v174_apply (V0 : Valuation τ sig (Elt Ideal)) (n : Fin 7168) (g : Fin 144) :
    (res_main_v174 V0 : S7168x144.Idx → BitVec 32) (ix2 n g) = BitVec.signExtend 32 (A6 V0 (ix2 n g)) := by
  pointwise [res_main_v174]

theorem v231_apply (V0 : Valuation τ sig (Elt Ideal)) (n : Fin 7168) (g : Fin 144) :
    (res_main_v231 V0 : S7168x144.Idx → EReal) (ix2 n g) = refMag (A6 V0 (ix2 n g)) := by
  pointwise [res_main_v231, res_main_v215, res_main_v217, res_main_v211]
  rfl
theorem v211_apply (V0 : Valuation τ sig (Elt Ideal)) (n : Fin 7168) (g : Fin 144) :
    (res_main_v211 V0 : S7168x144.Idx → BitVec 32) (ix2 n g) = BitVec.signExtend 32 (A6 V0 (ix2 n g)) := by
  pointwise [res_main_v211]

/-- The reference's up projection. -/
def upR {F : FTy → Type} [FloatOps F] (V0 : Valuation τ sig (Elt F)) : FVec F S24x1x4608 .f32 :=
  (addf (Host.dotGeneral dot_S24x1x3584_S4608x3584_S24x1x4608_2_1_01_0_n_n none (res_main_v2 V0) (truncf .bf16 (shapeCast _ (mulf (subf (shapeCast _ (sitofp .f32 (andi (extui 32 (V0 (Proc.devRef .tc main_arg3)) natLt_8_32) (broadcastInDim S4608x3584 ![] bcast_S_S4608x3584 (constantI S_ 32 15#32)))) shapeCasts_S4608x3584_S4608x224x16) (broadcastInDim S4608x224x16 ![] bcast_S_S4608x224x16 (constant S_ .f32 0x41000000#32))) (broadcastInDim S4608x224x16 ![0, 1, 2] bcast_S4608x224x1_S4608x224x16_0_1_2 (broadcastInDim S4608x224x1 ![0, 1] bcast_S4608x224_S4608x224x1_0_1 (select (cmpi .slt (res_main_v89 V0) (broadcastInDim S4608x224 ![] bcast_S_S4608x224 (constantI S_ 32 0#32))) (Host.negf (res_main_v109 V0)) (res_main_v109 V0))))) shapeCasts_S4608x224x16_S4608x3584) bitsLt_bf16_f32)) (Host.dotGeneral dot_S24x1x3584_S4608x3584_S24x1x4608_2_1_01_0_n_n none (res_main_v4 V0) (truncf .bf16 (shapeCast _ (mulf (subf (shapeCast _ (sitofp .f32 (Host.shrsi (extui 32 (V0 (Proc.devRef .tc main_arg3)) natLt_8_32) (broadcastInDim S4608x3584 ![] bcast_S_S4608x3584 (constantI S_ 32 4#32)))) shapeCasts_S4608x3584_S4608x224x16) (broadcastInDim S4608x224x16 ![] bcast_S_S4608x224x16 (constant S_ .f32 0x41000000#32))) (broadcastInDim S4608x224x16 ![0, 1, 2] bcast_S4608x224x1_S4608x224x16_0_1_2 (broadcastInDim S4608x224x1 ![0, 1] bcast_S4608x224_S4608x224x1_0_1 (select (cmpi .slt (res_main_v126 V0) (broadcastInDim S4608x224 ![] bcast_S_S4608x224 (constantI S_ 32 0#32))) (Host.negf (res_main_v146 V0)) (res_main_v146 V0))))) shapeCasts_S4608x224x16_S4608x3584) bitsLt_bf16_f32)))
/-- The reference's result. -/
def outR {F : FTy → Type} [FloatOps F] (V0 : Valuation τ sig (Elt F)) : FVec F S24x1x7168 .bf16 :=
  truncf .bf16 (addf (Host.dotGeneral dot_S24x1x2304_S7168x2304_S24x1x7168_2_1_01_0_n_n none (shapeCast _ (extractStridedSlice S24x1x2304x1 ![0, 0, 0, 0] (res_main_v162 V0) slices_S24x1x2304x2_S24x1x2304x1_0_0_0_0) shapeCasts_S24x1x2304x1_S24x1x2304) (truncf .bf16 (shapeCast _ (mulf (subf (shapeCast _ (sitofp .f32 (andi (extui 32 (V0 (Proc.devRef .tc main_arg5)) natLt_8_32) (broadcastInDim S7168x2304 ![] bcast_S_S7168x2304 (constantI S_ 32 15#32)))) shapeCasts_S7168x2304_S7168x144x16) (broadcastInDim S7168x144x16 ![] bcast_S_S7168x144x16 (constant S_ .f32 0x41000000#32))) (broadcastInDim S7168x144x16 ![0, 1, 2] bcast_S7168x144x1_S7168x144x16_0_1_2 (broadcastInDim S7168x144x1 ![0, 1] bcast_S7168x144_S7168x144x1_0_1 (select (cmpi .slt (res_main_v174 V0) (broadcastInDim S7168x144 ![] bcast_S_S7168x144 (constantI S_ 32 0#32))) (Host.negf (res_main_v194 V0)) (res_main_v194 V0))))) shapeCasts_S7168x144x16_S7168x2304) bitsLt_bf16_f32)) (Host.dotGeneral dot_S24x1x2304_S7168x2304_S24x1x7168_2_1_01_0_n_n none (shapeCast _ (extractStridedSlice S24x1x2304x1 ![0, 0, 0, 1] (res_main_v162 V0) slices_S24x1x2304x2_S24x1x2304x1_0_0_0_1) shapeCasts_S24x1x2304x1_S24x1x2304) (truncf .bf16 (shapeCast _ (mulf (subf (shapeCast _ (sitofp .f32 (Host.shrsi (extui 32 (V0 (Proc.devRef .tc main_arg5)) natLt_8_32) (broadcastInDim S7168x2304 ![] bcast_S_S7168x2304 (constantI S_ 32 4#32)))) shapeCasts_S7168x2304_S7168x144x16) (broadcastInDim S7168x144x16 ![] bcast_S_S7168x144x16 (constant S_ .f32 0x41000000#32))) (broadcastInDim S7168x144x16 ![0, 1, 2] bcast_S7168x144x1_S7168x144x16_0_1_2 (broadcastInDim S7168x144x1 ![0, 1] bcast_S7168x144_S7168x144x1_0_1 (select (cmpi .slt (res_main_v211 V0) (broadcastInDim S7168x144 ![] bcast_S_S7168x144 (constantI S_ 32 0#32))) (Host.negf (res_main_v231 V0)) (res_main_v231 V0))))) shapeCasts_S7168x144x16_S7168x2304) bitsLt_bf16_f32))) bitsLt_bf16_f32

theorem v81_apply (V0 : Valuation τ sig (Elt Ideal)) (t : Fin 24) (n : Fin 4608) :
    (res_main_v81 V0 : S24x1x4608.Idx → EReal) (ix3 t 0 n) = proj 3584 (atx 0 (A0 V0)) (at2 0 (A1 V0)) (at2 0 (A2 V0)) t n := by
  pointwise [res_main_v81, res_main_v2, res_main_v4, res_main_v0]
  unfold proj
  rw [Finset.sum_range, Finset.sum_range]
  congr 1 <;> refine Finset.sum_congr rfl fun b _ => ?_
  · rw [refCode0, v12_apply, v32_apply, Nat.mul_comm 2 b.val, atx_of _ _ _ (b.val * 2) t.isLt (by omega), at2_of _ _ _ _ n.isLt b.isLt, at2_of _ _ _ _ n.isLt (by omega), ← refScale_eq]
    rfl
  · rw [refCode1, v49_apply, v69_apply, Nat.mul_comm 2 b.val, atx_of _ _ _ (b.val * 2 + 1) t.isLt (by omega), at2_of _ _ _ _ n.isLt b.isLt, at2_of _ _ _ _ n.isLt (by omega), ← refScale_eq]
    rfl

theorem up_apply (V0 : Valuation τ sig (Elt Ideal)) (t : Fin 24) (n : Fin 4608) :
    upR V0 (ix3 t 0 n) = proj 3584 (atx 0 (A0 V0)) (at2 0 (A3 V0)) (at2 0 (A4 V0)) t n := by
  pointwise [upR, res_main_v2, res_main_v4, res_main_v0]
  unfold proj
  rw [Finset.sum_range, Finset.sum_range]
  congr 1 <;> refine Finset.sum_congr rfl fun b _ => ?_
  · rw [refCode0, v89_apply, v109_apply, Nat.mul_comm 2 b.val, atx_of _ _ _ (b.val * 2) t.isLt (by omega), at2_of _ _ _ _ n.isLt b.isLt, at2_of _ _ _ _ n.isLt (by omega), ← refScale_eq]
    rfl
  · rw [refCode1, v126_apply, v146_apply, Nat.mul_comm 2 b.val, atx_of _ _ _ (b.val * 2 + 1) t.isLt (by omega), at2_of _ _ _ _ n.isLt b.isLt, at2_of _ _ _ _ n.isLt (by omega), ← refScale_eq]
    rfl

abbrev hidR (V0 : Valuation τ sig (Elt Ideal)) : ℕ → ℕ → EReal :=
  hid (atx 0 (A0 V0)) (at2 0 (A1 V0)) (at2 0 (A3 V0)) (at2 0 (A2 V0)) (at2 0 (A4 V0))

theorem v162_eq {F : FTy → Type} [FloatOps F] (V0 : Valuation τ sig (Elt F)) : (res_main_v162 V0 : FVec F S24x1x2304x2 .bf16) = shapeCast S24x1x2304x2 (truncf .bf16 (mulf (mulf (res_main_v81 V0) (Host.divf (broadcastInDim S24x1x4608 ![] bcast_S_S24x1x4608 (constant S_ .f32 0x3F800000#32)) (addf (broadcastInDim S24x1x4608 ![] bcast_S_S24x1x4608 (constant S_ .f32 0x3F800000#32)) (Host.exp (Host.negf (res_main_v81 V0)))))) (upR V0)) bitsLt_bf16_f32) shapeCasts_S24x1x4608_S24x1x2304x2 := rfl

theorem v162_apply (V0 : Valuation τ sig (Elt Ideal)) (t : Fin 24) (b : Fin 2304) (e : Fin 2) :
    (res_main_v162 V0 : S24x1x2304x2.Idx → EReal) (ix4 t 0 b e) = hidR V0 t (b * 2 + e) := by
  have hu := up_apply V0 t ⟨b.val * 2 + e.val, by omega⟩
  have hg := v81_apply V0 t ⟨b.val * 2 + e.val, by omega⟩
  unfold hidR hid
  rw [← hu, ← hg, v162_eq]
  pointwise []
  rfl

theorem out_apply (V0 : Valuation τ sig (Elt Ideal)) (t : Fin 24) (n : Fin 7168) :
    outR V0 (ix3 t 0 n) = mlp (atx 0 (A0 V0)) (at2 0 (A1 V0)) (at2 0 (A2 V0)) (at2 0 (A3 V0)) (at2 0 (A4 V0)) (at2 0 (A5 V0)) (at2 0 (A6 V0)) t n := by
  pointwise [outR]
  unfold mlp proj
  rw [Finset.sum_range, Finset.sum_range]
  congr 1 <;> refine Finset.sum_congr rfl fun b _ => ?_
  · rw [refCode0, v174_apply, v194_apply, v162_apply, Nat.mul_comm 2 b.val, at2_of _ _ _ _ n.isLt b.isLt, at2_of _ _ _ _ n.isLt (by omega), ← refScale_eq]
    rfl
  · rw [refCode1, v211_apply, v231_apply, v162_apply, Nat.mul_comm 2 b.val, at2_of _ _ _ _ n.isLt b.isLt, at2_of _ _ _ _ n.isLt (by omega), ← refScale_eq]
    rfl

end Cert.ReferenceIdeal.Val
-- ==== Proof.Final.lean ====
module

public import proofs.«01_k».proof.Proof.Claims
public import proofs.«01_k».proof.Proof.Track
public import proofs.«01_k».proof.Proof.RefVal

@[expose] public section

noncomputable section

namespace Cert.Proof.Claims

open Idealize.ShloMosaic Idealize.SL.Sem Cert.Spec

/-- Both sides are the same function of the arguments, `mlp`. -/
theorem algebraic : Cert.algebraic_KernelIdeal_ReferenceIdeal := fun m g m' g' _ hm =>
  ⟨Cert.KernelIdeal.Val.kerR m, Cert.KernelIdeal.Val.t_end m g,
    (θ_run Cert.ReferenceIdeal.defs _ _).mono (fun r h c => ⟨(h c).1.trans (by
        obtain ⟨h0, h1, h2, h3, h4, h5, h6⟩ := hm c
        change Cert.ReferenceIdeal.Val.outR (StableHlo.launchContents m' c) = _
        funext i
        obtain ⟨t, z, n, rfl⟩ : ∃ (t : Fin 24) (z : Fin 1) (n : Fin 7168), i = ix3 t z n := ⟨_, _, _, ValueIdx.eq_ix3 i⟩
        obtain rfl : z = 0 := Subsingleton.elim _ _
        rw [Cert.KernelIdeal.Val.kerR_apply, Cert.ReferenceIdeal.Val.out_apply, ← h0, ← h1, ← h2, ← h3, ← h4, ← h5, ← h6]), (h c).2⟩)
      (Cert.ReferenceIdeal.Value.run (F := Ideal) m' g')⟩

end Cert.Proof.Claims

end
-- ==== Proof.lean ====
module

public import proofs.«01_k».proof.Proof.Claims
public import proofs.«01_k».proof.Proof.Final
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Claims.frame_p, Claims.frame_pi, Claims.frame_ri, Claims.preserves, Claims.algebraic⟩

end Cert.Proof

end
